-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gqa_finite [hPre_gqa_finite : Cert.Pre_gqa_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gqa_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_gqa_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gqa_finite [hPre_gqa_finite : Cert.Pre_gqa_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gqa_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_gqa_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))).1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gqa_finite [hKernelIdeal : Cert.KernelIdeal.Facts] [hPre_gqa_finite : Cert.Pre_gqa_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gqa_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gqa_finite [hReferenceIdeal : Cert.ReferenceIdeal.Facts] [hPre_gqa_finite : Cert.Pre_gqa_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gqa_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)

def algebraic_KernelIdeal_ReferenceIdeal_pre_gqa_finite [hKernelIdeal : Cert.KernelIdeal.Facts] [hReferenceIdeal : Cert.ReferenceIdeal.Facts] [hPre_gqa_finite : Cert.Pre_gqa_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gqa_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Mla_MlaIdeal : Prop :=
  IdealRules.named_const.Statement Cert.MlaIdeal.κ "mscale" .f32 0x3DD53B95#32 (((Real.sqrt 192)⁻¹ * (Real.log 2)⁻¹ : ℝ) : EReal)

def algebraic_MlaIdeal_MlaReferenceIdeal_pre_mla_finite [hMlaIdeal : Cert.MlaIdeal.Facts] [hMlaReferenceIdeal : Cert.MlaReferenceIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_mla_finite m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v9)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v9) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v20) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v20) = v0 c
          ∧ r.2.mem ((c.tc : Thread Cert.OutReferenceIdeal.nD Cert.OutReferenceIdeal.τ).loc Cert.OutReferenceIdeal.main_v42) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)
      ∧ m' ((c.tc : Thread Cert.PrepReferenceIdeal.nD Cert.PrepReferenceIdeal.τ).loc Cert.PrepReferenceIdeal.main_arg8) = m ((c.tc : Thread Cert.PrepIdeal.nD Cert.PrepIdeal.τ).loc Cert.PrepIdeal.main_arg8)
      ∧ m' ((c.tc : Thread Cert.PrepReferenceIdeal.nD Cert.PrepReferenceIdeal.τ).loc Cert.PrepReferenceIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v113_0)) (v1 : (c : Dev Cert.PrepIdeal.nD) → Buf (Elt Ideal) ((c.tc : Thread Cert.PrepIdeal.nD Cert.PrepIdeal.τ).loc Cert.PrepIdeal.main_v113_1)) (v2 : (c : Dev Cert.PrepIdeal.nD) → Buf (Elt Ideal) ((c.tc : Thread Cert.PrepIdeal.nD Cert.PrepIdeal.τ).loc Cert.PrepIdeal.main_v113_2)) (v3 : (c : Dev Cert.PrepIdeal.nD) → Buf (Elt Ideal) ((c.tc : Thread Cert.PrepIdeal.nD Cert.PrepIdeal.τ).loc Cert.PrepIdeal.main_v113_3)) (v4 : (c : Dev Cert.PrepIdeal.nD) → Buf (Elt Ideal) ((c.tc : Thread Cert.PrepIdeal.nD Cert.PrepIdeal.τ).loc Cert.PrepIdeal.main_v113_4)) (v5 : (c : Dev Cert.PrepIdeal.nD) → Buf (Elt Ideal) ((c.tc : Thread Cert.PrepIdeal.nD Cert.PrepIdeal.τ).loc Cert.PrepIdeal.main_v113_5)) (v6 : (c : Dev Cert.PrepIdeal.nD) → Buf (Elt Ideal) ((c.tc : Thread Cert.PrepIdeal.nD Cert.PrepIdeal.τ).loc Cert.PrepIdeal.main_v113_6)) (v7 : (c : Dev Cert.PrepIdeal.nD) → Buf (Elt Ideal) ((c.tc : Thread Cert.PrepIdeal.nD Cert.PrepIdeal.τ).loc Cert.PrepIdeal.main_v113_7)) (v8 : (c : Dev Cert.PrepIdeal.nD) → Buf (Elt Ideal) ((c.tc : Thread Cert.PrepIdeal.nD Cert.PrepIdeal.τ).loc Cert.PrepIdeal.main_v113_8)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v113_0) = v0 c
          ∧ r.2.mem ((c.tc : Thread Cert.PrepIdeal.nD Cert.PrepIdeal.τ).loc Cert.PrepIdeal.main_v113_1) = v1 c
          ∧ r.2.mem ((c.tc : Thread Cert.PrepIdeal.nD Cert.PrepIdeal.τ).loc Cert.PrepIdeal.main_v113_2) = v2 c
          ∧ r.2.mem ((c.tc : Thread Cert.PrepIdeal.nD Cert.PrepIdeal.τ).loc Cert.PrepIdeal.main_v113_3) = v3 c
          ∧ r.2.mem ((c.tc : Thread Cert.PrepIdeal.nD Cert.PrepIdeal.τ).loc Cert.PrepIdeal.main_v113_4) = v4 c
          ∧ r.2.mem ((c.tc : Thread Cert.PrepIdeal.nD Cert.PrepIdeal.τ).loc Cert.PrepIdeal.main_v113_5) = v5 c
          ∧ r.2.mem ((c.tc : Thread Cert.PrepIdeal.nD Cert.PrepIdeal.τ).loc Cert.PrepIdeal.main_v113_6) = v6 c
          ∧ r.2.mem ((c.tc : Thread Cert.PrepIdeal.nD Cert.PrepIdeal.τ).loc Cert.PrepIdeal.main_v113_7) = v7 c
          ∧ r.2.mem ((c.tc : Thread Cert.PrepIdeal.nD Cert.PrepIdeal.τ).loc Cert.PrepIdeal.main_v113_8) = v8 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v371) = v0 c
          ∧ r.2.mem ((c.tc : Thread Cert.PrepReferenceIdeal.nD Cert.PrepReferenceIdeal.τ).loc Cert.PrepReferenceIdeal.main_v372) = v1 c
          ∧ r.2.mem ((c.tc : Thread Cert.PrepReferenceIdeal.nD Cert.PrepReferenceIdeal.τ).loc Cert.PrepReferenceIdeal.main_v373) = v2 c
          ∧ r.2.mem ((c.tc : Thread Cert.PrepReferenceIdeal.nD Cert.PrepReferenceIdeal.τ).loc Cert.PrepReferenceIdeal.main_v375) = v3 c
          ∧ r.2.mem ((c.tc : Thread Cert.PrepReferenceIdeal.nD Cert.PrepReferenceIdeal.τ).loc Cert.PrepReferenceIdeal.main_v377) = v4 c
          ∧ r.2.mem ((c.tc : Thread Cert.PrepReferenceIdeal.nD Cert.PrepReferenceIdeal.τ).loc Cert.PrepReferenceIdeal.main_v379) = v5 c
          ∧ r.2.mem ((c.tc : Thread Cert.PrepReferenceIdeal.nD Cert.PrepReferenceIdeal.τ).loc Cert.PrepReferenceIdeal.main_v381) = v6 c
          ∧ r.2.mem ((c.tc : Thread Cert.PrepReferenceIdeal.nD Cert.PrepReferenceIdeal.τ).loc Cert.PrepReferenceIdeal.main_v383) = v7 c
          ∧ r.2.mem ((c.tc : Thread Cert.PrepReferenceIdeal.nD Cert.PrepReferenceIdeal.τ).loc Cert.PrepReferenceIdeal.main_v386) = v8 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMla : Cert.Mla.Facts) (hMlaIdeal : Cert.MlaIdeal.Facts) (hMlaReferenceIdeal : Cert.MlaReferenceIdeal.Facts) (hOut : Cert.Out.Facts) (hOutIdeal : Cert.OutIdeal.Facts) (hOutReferenceIdeal : Cert.OutReferenceIdeal.Facts) (hModulation : Cert.Modulation.Facts) (hModulationIdeal : Cert.ModulationIdeal.Facts) (hModulationReferenceIdeal : Cert.ModulationReferenceIdeal.Facts) (hPrep : Cert.Prep.Facts) (hPrepIdeal : Cert.PrepIdeal.Facts) (hPrepReferenceIdeal : Cert.PrepReferenceIdeal.Facts) (hPre_gqa_finite : Cert.Pre_gqa_finite.Facts) (hPre_ffn_finite : Cert.Pre_ffn_finite.Facts) (hPre_mla_finite : Cert.Pre_mla_finite.Facts),
    quiescent_Kernel (hKernel := hKernel)
    ∧ quiescent_KernelIdeal (hKernelIdeal := hKernelIdeal)
    ∧ quiescent_KernelIdeal_pre_gqa_finite (hKernelIdeal := hKernelIdeal) (hPre_gqa_finite := hPre_gqa_finite)
    ∧ quiescent_ReferenceIdeal (hReferenceIdeal := hReferenceIdeal)
    ∧ quiescent_ReferenceIdeal_pre_gqa_finite (hReferenceIdeal := hReferenceIdeal) (hPre_gqa_finite := hPre_gqa_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_Out (hOut := hOut)
    ∧ quiescent_OutIdeal (hOutIdeal := hOutIdeal)
    ∧ quiescent_OutReferenceIdeal (hOutReferenceIdeal := hOutReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal_pre_gqa_finite (hKernelIdeal := hKernelIdeal) (hReferenceIdeal := hReferenceIdeal) (hPre_gqa_finite := hPre_gqa_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
    ∧ preserves_Mla_MlaIdeal
    ∧ algebraic_MlaIdeal_MlaReferenceIdeal_pre_mla_finite (hMlaIdeal := hMlaIdeal) (hMlaReferenceIdeal := hMlaReferenceIdeal) (hPre_mla_finite := hPre_mla_finite)
    ∧ preserves_Out_OutIdeal
    ∧ algebraic_OutIdeal_OutReferenceIdeal (hOutIdeal := hOutIdeal) (hOutReferenceIdeal := hOutReferenceIdeal)
    ∧ preserves_Modulation_ModulationIdeal
    ∧ algebraic_ModulationIdeal_ModulationReferenceIdeal (hModulationIdeal := hModulationIdeal) (hModulationReferenceIdeal := hModulationReferenceIdeal)
    ∧ preserves_Prep_PrepIdeal
    ∧ algebraic_PrepIdeal_PrepReferenceIdeal (hPrepIdeal := hPrepIdeal) (hPrepReferenceIdeal := hPrepReferenceIdeal)
-- ==== Pre_ffn_finite.lean ====
abbrev S16x2048x2048 : Shape := ⟨3, ![16, 2048, 2048]⟩
abbrev S2x16x12288 : Shape := ⟨3, ![2, 16, 12288]⟩
abbrev S2x2048x11264 : Shape := ⟨3, ![2, 2048, 11264]⟩
abbrev S2x5632x2048 : Shape := ⟨3, ![2, 5632, 2048]⟩
abbrev S2048 : Shape := ⟨1, ![2048]⟩
abbrev S_ : Shape := ⟨0, ![]⟩
abbrev S1x16x2048 : Shape := ⟨3, ![1, 16, 2048]⟩
abbrev S16x2048 : Shape := ⟨2, ![16, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩

class Facts : Prop where
  bcast_S_S16x2048x2048 : S_.BroadcastsInDim S16x2048x2048 (![] : Fin 0 → Fin S16x2048x2048.rank)
  slices_S2x16x12288_S1x16x2048_1_0_10240 : S2x16x12288.Slices ![1, 0, 10240] S1x16x2048
  shapeCasts_S1x16x2048_S16x2048 : S1x16x2048.ShapeCasts S16x2048
  bcast_S_S16x2048 : S_.BroadcastsInDim S16x2048 (![] : Fin 0 → Fin S16x2048.rank)
  slices_S2x2048x11264_S1x2048x11264_1_0_0 : S2x2048x11264.Slices ![1, 0, 0] S1x2048x11264
  shapeCasts_S1x2048x11264_S2048x11264 : S1x2048x11264.ShapeCasts S2048x11264
  bcast_S_S2048x11264 : S_.BroadcastsInDim S2048x11264 (![] : Fin 0 → Fin S2048x11264.rank)
  slices_S2x5632x2048_S1x5632x2048_1_0_0 : S2x5632x2048.Slices ![1, 0, 0] S1x5632x2048
  shapeCasts_S1x5632x2048_S5632x2048 : S1x5632x2048.ShapeCasts S5632x2048
  bcast_S_S5632x2048 : S_.BroadcastsInDim S5632x2048 (![] : Fin 0 → Fin S5632x2048.rank)

variable [Facts]

def fn {F : FTy → Type} [FloatOps F] (main_arg0 : FVec F S16x2048x2048 .f32) (main_arg1 : FVec F S16x2048x2048 .f32) (main_arg2 : FVec F S2x16x12288 .f32) (main_arg3 : FVec F S2x2048x11264 .f32) (main_arg4 : FVec F S2x5632x2048 .f32) (main_arg5 : FVec F S2048 .f32) : IVec S16x2048x2048 1 × IVec S16x2048 1 × IVec S2048x11264 1 × IVec S5632x2048 1 :=
  let main_v0 : FVec F S16x2048x2048 .f32 := Host.absf main_arg1
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_v3 : FVec F S1x16x2048 .f32 := (extractStridedSlice S1x16x2048 ![1, 0, 10240] · slices_S2x16x12288_S1x16x2048_1_0_10240) main_arg2
  let main_v4 : FVec F S16x2048 .f32 := shapeCast S16x2048 main_v3 shapeCasts_S1x16x2048_S16x2048
  let main_v5 : FVec F S16x2048 .f32 := Host.absf main_v4
  let main_cst_0 : FVec F S_ .f32 := constant S_ .f32 0x7F800000#32
  let main_v6 : FVec F S16x2048 .f32 := broadcastInDim S16x2048 ![] bcast_S_S16x2048 main_cst_0
  let main_v7 : IVec S16x2048 1 := cmpf .olt main_v5 main_v6
  let main_v8 : FVec F S1x2048x11264 .f32 := (extractStridedSlice S1x2048x11264 ![1, 0, 0] · slices_S2x2048x11264_S1x2048x11264_1_0_0) main_arg3
  let main_v9 : FVec F S2048x11264 .f32 := shapeCast S2048x11264 main_v8 shapeCasts_S1x2048x11264_S2048x11264
  let main_v10 : FVec F S2048x11264 .f32 := Host.absf main_v9
  let main_cst_1 : FVec F S_ .f32 := constant S_ .f32 0x7F800000#32
  let main_v11 : FVec F S2048x11264 .f32 := broadcastInDim S2048x11264 ![] bcast_S_S2048x11264 main_cst_1
  let main_v12 : IVec S2048x11264 1 := cmpf .olt main_v10 main_v11
  let main_v13 : FVec F S1x5632x2048 .f32 := (extractStridedSlice S1x5632x2048 ![1, 0, 0] · slices_S2x5632x2048_S1x5632x2048_1_0_0) main_arg4
  let main_v14 : FVec F S5632x2048 .f32 := shapeCast S5632x2048 main_v13 shapeCasts_S1x5632x2048_S5632x2048
  let main_v15 : FVec F S5632x2048 .f32 := Host.absf main_v14
  let main_cst_2 : FVec F S_ .f32 := constant S_ .f32 0x7F800000#32
  let main_v16 : FVec F S5632x2048 .f32 := broadcastInDim S5632x2048 ![] bcast_S_S5632x2048 main_cst_2
  let main_v17 : IVec S5632x2048 1 := cmpf .olt main_v15 main_v16
  (main_v2, main_v7, main_v12, main_v17)
-- ==== Pre_gqa_finite.lean ====
abbrev S16x2048x768 : Shape := ⟨3, ![16, 2048, 768]⟩
abbrev S16x2048x256 : Shape := ⟨3, ![16, 2048, 256]⟩
abbrev S_ : Shape := ⟨0, ![]⟩

class Facts : Prop where
  bcast_S_S16x2048x768 : S_.BroadcastsInDim S16x2048x768 (![] : Fin 0 → Fin S16x2048x768.rank)
  bcast_S_S16x2048x256 : S_.BroadcastsInDim S16x2048x256 (![] : Fin 0 → Fin S16x2048x256.rank)

variable [Facts]

def fn {F : FTy → Type} [FloatOps F] (main_arg0 : FVec F S16x2048x768 .f32) (main_arg1 : FVec F S16x2048x256 .f32) (main_arg2 : FVec F S16x2048x256 .f32) : IVec S16x2048x768 1 × IVec S16x2048x256 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_v3 : FVec F S16x2048x256 .f32 := Host.absf main_arg1
  let main_cst_0 : FVec F S_ .f32 := constant S_ .f32 0x7F800000#32
  let main_v4 : FVec F S16x2048x256 .f32 := broadcastInDim S16x2048x256 ![] bcast_S_S16x2048x256 main_cst_0
  let main_v5 : IVec S16x2048x256 1 := cmpf .olt main_v3 main_v4
  (main_v2, main_v5)
-- ==== Pre_mla_finite.lean ====
abbrev S16x2048x4x192 : Shape := ⟨4, ![16, 2048, 4, 192]⟩
abbrev S16x2048x4x128 : Shape := ⟨4, ![16, 2048, 4, 128]⟩
abbrev S_ : Shape := ⟨0, ![]⟩

class Facts : Prop where
  bcast_S_S16x2048x4x192 : S_.BroadcastsInDim S16x2048x4x192 (![] : Fin 0 → Fin S16x2048x4x192.rank)

variable [Facts]

def fn {F : FTy → Type} [FloatOps F] (main_arg0 : FVec F S16x2048x4x192 .f32) (main_arg1 : FVec F S16x2048x4x192 .f32) (main_arg2 : FVec F S16x2048x4x128 .f32) : IVec S16x2048x4x192 1 × IVec S16x2048x4x192 1 :=
  let main_v0 : FVec F S16x2048x4x192 .f32 := Host.absf main_arg0
  let main_cst : FVec F S_ .f32 := constant S_ .f32 0x7F800000#32
  let main_v1 : FVec F S16x2048x4x192 .f32 := broadcastInDim S16x2048x4x192 ![] bcast_S_S16x2048x4x192 main_cst
  let main_v2 : IVec S16x2048x4x192 1 := cmpf .olt main_v0 main_v1
  let main_v3 : FVec F S16x2048x4x192 .f32 := Host.absf main_arg1
  let main_cst_0 : FVec F S_ .f32 := constant S_ .f32 0x7F800000#32
  let main_v4 : FVec F S16x2048x4x192 .f32 := broadcastInDim S16x2048x4x192 ![] bcast_S_S16x2048x4x192 main_cst_0
  let main_v5 : IVec S16x2048x4x192 1 := cmpf .olt main_v3 main_v4
  (main_v2, main_v5)
-- ==== Kernel.lean ====
abbrev S16x2048x768 : Shape := ⟨3, ![16, 2048, 768]⟩
abbrev S16x2048x256 : Shape := ⟨3, ![16, 2048, 256]⟩
abbrev S16x768x2048 : Shape := ⟨3, ![16, 768, 2048]⟩
abbrev S16x256x2048 : Shape := ⟨3, ![16, 256, 2048]⟩
abbrev S1x384x512 : Shape := ⟨3, ![1, 384, 512]⟩
abbrev S1x2048x128 : Shape := ⟨3, ![1, 2048, 128]⟩
abbrev S1x128x2048 : Shape := ⟨3, ![1, 128, 2048]⟩
abbrev S1x512x384 : Shape := ⟨3, ![1, 512, 384]⟩
abbrev S1x128x512 : Shape := ⟨3, ![1, 128, 512]⟩
abbrev S128x512 : Shape := ⟨2, ![128, 512]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x2048x768, .f32⟩
  | .hbm, ⟨1, _⟩ => ⟨S16x2048x256, .f32⟩
  | .hbm, ⟨2, _⟩ => ⟨S16x2048x256, .f32⟩
  | .hbm, ⟨3, _⟩ => ⟨S16x768x2048, .f32⟩
  | .hbm, ⟨4, _⟩ => ⟨S16x256x2048, .f32⟩
  | .hbm, ⟨5, _⟩ => ⟨S16x256x2048, .bf16⟩
  | .hbm, ⟨6, _⟩ => ⟨S16x2048x256, .bf16⟩
  | .hbm, ⟨7, _⟩ => ⟨S16x2048x768, .bf16⟩
  | .local _ .vmem, ⟨0, _⟩ => ⟨S1x384x512, .f32⟩
  | .local _ .vmem, ⟨1, _⟩ => ⟨S1x384x512, .f32⟩
  | .local _ .vmem, ⟨2, _⟩ => ⟨S1x2048x128, .bf16⟩
  | .local _ .vmem, ⟨3, _⟩ => ⟨S1x2048x128, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x512x384, .bf16⟩
  | .local _ .vmem, ⟨7, _⟩ => ⟨S1x512x384, .bf16⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((Real.sqrt 128)⁻¹ * (Real.log 2)⁻¹ : ℝ) : EReal)
  | _ => none
-- ==== ReferenceIdeal.lean ====
abbrev S16x2048x768 : Shape := ⟨3, ![16, 2048, 768]⟩
abbrev S16x2048x256 : Shape := ⟨3, ![16, 2048, 256]⟩
abbrev S16x2048x6x128 : Shape := ⟨4, ![16, 2048, 6, 128]⟩
abbrev S16x2048x2x128 : Shape := ⟨4, ![16, 2048, 2, 128]⟩
abbrev S16x2048x2x3x128 : Shape := ⟨5, ![16, 2048, 2, 3, 128]⟩
abbrev S16x2x2048x2048x3 : Shape := ⟨5, ![16, 2, 2048, 2048, 3]⟩
abbrev S16x2x3x2048x2048 : Shape := ⟨5, ![16, 2, 3, 2048, 2048]⟩
abbrev S_ : Shape := ⟨0, ![]⟩
abbrev S16x2x3x2048 : Shape := ⟨4, ![16, 2, 3, 2048]⟩
abbrev S16x2x3x2048x1 : Shape := ⟨5, ![16, 2, 3, 2048, 1]⟩
abbrev S16x2x128x3x2048 : Shape := ⟨5, ![16, 2, 128, 3, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2048x256, .f32⟩
  | .hbm, ⟨2, _⟩ => ⟨S16x2048x256, .f32⟩
  | .hbm, ⟨3, _⟩ => ⟨S16x2048x6x128, .f32⟩
  | .hbm, ⟨4, _⟩ => ⟨S16x2048x2x128, .f32⟩
  | .hbm, ⟨5, _⟩ => ⟨S16x2048x2x128, .f32⟩
  | .hbm, ⟨6, _⟩ => ⟨S16x2048x2x3x128, .f32⟩
  | .hbm, ⟨7, _⟩ => ⟨S16x2x2048x2048x3, .f32⟩
  | .hbm, ⟨8, _⟩ => ⟨S16x2x3x2048x2048, .f32⟩
  | .hbm, ⟨9, _⟩ => ⟨S_, .f32⟩
  | .hbm, ⟨10, _⟩ => ⟨S_, .f32⟩
  | .hbm, ⟨11, _⟩ => ⟨S16x2x3x2048x2048, .f32⟩
  | .hbm, ⟨12, _⟩ => ⟨S16x2x3x2048x2048, .f32⟩
  | .hbm, ⟨13, _⟩ => ⟨S_, .f32⟩
  | .hbm, ⟨14, _⟩ => ⟨S16x2x3x2048, .f32⟩
  | .hbm, ⟨15, _⟩ => ⟨S_, .f32⟩
  | .hbm, ⟨16, _⟩ => ⟨S16x2x3x2048, .f32⟩
  | .hbm, ⟨17, _⟩ => ⟨S16x2x3x2048, .f32⟩
  | .hbm, ⟨18, _⟩ => ⟨S16x2x3x2048x1, .f32⟩
  | .hbm, ⟨19, _⟩ => ⟨S16x2x3x2048x2048, .f32⟩
  | .hbm, ⟨20, _⟩ => ⟨S16x2x3x2048x2048, .f32⟩
  | .hbm, ⟨21, _⟩ => ⟨S16x2x3x2048x2048, .f32⟩
  | .hbm, ⟨22, _⟩ => ⟨S_, .f32⟩
  | .hbm, ⟨23, _⟩ => ⟨S16x2x3x2048, .f32⟩
  | .hbm, ⟨24, _⟩ => ⟨S16x2x3x2048x1, .f32⟩
  | .hbm, ⟨25, _⟩ => ⟨S16x2x3x2048x2048, .f32⟩
  | .hbm, ⟨26, _⟩ => ⟨S16x2x3x2048x2048, .f32⟩
  | .hbm, ⟨27, _⟩ => ⟨S16x2x128x3x2048, .f32⟩
  | .hbm, ⟨28, _⟩ => ⟨S16x2048x2x3x128, .f32⟩
  | .hbm, ⟨29, _⟩ => ⟨S16x2048x768, .f32⟩
  | .hbm, ⟨30, _⟩ => ⟨S16x2048x768, .bf16⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Ffn.lean ====
abbrev S16x2048x2048 : Shape := ⟨3, ![16, 2048, 2048]⟩
abbrev S2x16x12288 : Shape := ⟨3, ![2, 16, 12288]⟩
abbrev S2x2048x11264 : Shape := ⟨3, ![2, 2048, 11264]⟩
abbrev S2x5632x2048 : Shape := ⟨3, ![2, 5632, 2048]⟩
abbrev S2048 : Shape := ⟨1, ![2048]⟩
abbrev S2x16x6x2048 : Shape := ⟨4, ![2, 16, 6, 2048]⟩
abbrev S1x2048 : Shape := ⟨2, ![1, 2048]⟩
abbrev S1x512x2048 : Shape := ⟨3, ![1, 512, 2048]⟩
abbrev S1x1x6x2048 : Shape := ⟨4, ![1, 1, 6, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S2x16x12288, .f32⟩
  | .hbm, ⟨3, _⟩ => ⟨S2x2048x11264, .f32⟩
  | .hbm, ⟨4, _⟩ => ⟨S2x5632x2048, .f32⟩
  | .hbm, ⟨5, _⟩ => ⟨S2048, .f32⟩
  | .hbm, ⟨6, _⟩ => ⟨S16x2048x2048, .bf16⟩
  | .hbm, ⟨7, _⟩ => ⟨S2x16x6x2048, .f32⟩
  | .hbm, ⟨8, _⟩ => ⟨S2x2048x11264, .bf16⟩
  | .hbm, ⟨9, _⟩ => ⟨S2x5632x2048, .bf16⟩
  | .hbm, ⟨10, _⟩ => ⟨S1x2048, .f32⟩
  | .hbm, ⟨11, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .bf16⟩
  | .local _ .vmem, ⟨3, _⟩ => ⟨S1x512x2048, .bf16⟩
  | .local _ .vmem, ⟨4, _⟩ => ⟨S1x1x6x2048, .f32⟩
  | .local _ .vmem, ⟨5, _⟩ => ⟨S1x1x6x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x2048, .f32⟩
  | .local _ .vmem, ⟨13, _⟩ => ⟨S1x512x2048, .f32⟩
  | .local _ .vmem, ⟨14, _⟩ => ⟨S1x512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![16, 4, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnReferenceIdeal.lean ====
abbrev S16x2048x2048 : Shape := ⟨3, ![16, 2048, 2048]⟩
abbrev S2x16x12288 : Shape := ⟨3, ![2, 16, 12288]⟩
abbrev S2x2048x11264 : Shape := ⟨3, ![2, 2048, 11264]⟩
abbrev S2x5632x2048 : Shape := ⟨3, ![2, 5632, 2048]⟩
abbrev S2048 : Shape := ⟨1, ![2048]⟩
abbrev S1x16x12288 : Shape := ⟨3, ![1, 16, 12288]⟩
abbrev S16x12288 : Shape := ⟨2, ![16, 12288]⟩
abbrev S16x2048 : Shape := ⟨2, ![16, 2048]⟩
abbrev S16x1x2048 : Shape := ⟨3, ![16, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S16x2048x11264 : Shape := ⟨3, ![16, 2048, 11264]⟩
abbrev S16x2048x5632 : Shape := ⟨3, ![16, 2048, 5632]⟩
abbrev S_ : Shape := ⟨0, ![]⟩
abbrev S16x2048x1 : Shape := ⟨3, ![16, 2048, 1]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S2x16x12288, .f32⟩
  | .hbm, ⟨3, _⟩ => ⟨S2x2048x11264, .f32⟩
  | .hbm, ⟨4, _⟩ => ⟨S2x5632x2048, .f32⟩
  | .hbm, ⟨5, _⟩ => ⟨S2048, .f32⟩
  | .hbm, ⟨6, _⟩ => ⟨S1x16x12288, .f32⟩
  | .hbm, ⟨7, _⟩ => ⟨S16x12288, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x1x2048, .f32⟩
  | .hbm, ⟨15, _⟩ => ⟨S1x2048x11264, .f32⟩
  | .hbm, ⟨16, _⟩ => ⟨S2048x11264, .f32⟩
  | .hbm, ⟨17, _⟩ => ⟨S1x5632x2048, .f32⟩
  | .hbm, ⟨18, _⟩ => ⟨S5632x2048, .f32⟩
  | .hbm, ⟨19, _⟩ => ⟨S16x2048x11264, .f32⟩
  | .hbm, ⟨20, _⟩ => ⟨S16x2048x5632, .f32⟩
  | .hbm, ⟨21, _⟩ => ⟨S16x2048x5632, .f32⟩
  | .hbm, ⟨22, _⟩ => ⟨S16x2048x5632, .f32⟩
  | .hbm, ⟨23, _⟩ => ⟨S16x2048x5632, .f32⟩
  | .hbm, ⟨24, _⟩ => ⟨S_, .f32⟩
  | .hbm, ⟨25, _⟩ => ⟨S16x2048x5632, .f32⟩
  | .hbm, ⟨26, _⟩ => ⟨S16x2048x5632, .f32⟩
  | .hbm, ⟨27, _⟩ => ⟨S_, .f32⟩
  | .hbm, ⟨28, _⟩ => ⟨S16x2048x5632, .f32⟩
  | .hbm, ⟨29, _⟩ => ⟨S16x2048x5632, .f32⟩
  | .hbm, ⟨30, _⟩ => ⟨S16x2048x5632, .f32⟩
  | .hbm, ⟨31, _⟩ => ⟨S16x2048x5632, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S1x1x2048, .f32⟩
  | .hbm, ⟨50, _⟩ => ⟨S16x2048x2048, .f32⟩
  | .hbm, ⟨51, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Mla.lean ====
abbrev S16x2048x4x192 : Shape := ⟨4, ![16, 2048, 4, 192]⟩
abbrev S16x2048x4x128 : Shape := ⟨4, ![16, 2048, 4, 128]⟩
abbrev S_ : Shape := ⟨0, ![]⟩
abbrev S16x2048x4x256 : Shape := ⟨4, ![16, 2048, 4, 256]⟩
abbrev S16x2048x1024 : Shape := ⟨3, ![16, 2048, 1024]⟩
abbrev S16x1024x2048 : Shape := ⟨3, ![16, 1024, 2048]⟩
abbrev S16x2048x512 : Shape := ⟨3, ![16, 2048, 512]⟩
abbrev S16x512x2048 : Shape := ⟨3, ![16, 512, 2048]⟩
abbrev S1x512x512 : Shape := ⟨3, ![1, 512, 512]⟩
abbrev S1x2048x512 : Shape := ⟨3, ![1, 2048, 512]⟩
abbrev S1x256x2048 : Shape := ⟨3, ![1, 256, 2048]⟩
abbrev S1x512x256 : Shape := ⟨3, ![1, 512, 256]⟩
abbrev S1x256x512 : Shape := ⟨3, ![1, 256, 512]⟩
abbrev S256x512 : Shape := ⟨2, ![256, 512]⟩
abbrev S512x256 : Shape := ⟨2, ![512, 256]⟩
abbrev S512x512 : Shape := ⟨2, ![512, 512]⟩
abbrev S1x128x512 : Shape := ⟨3, ![1, 128, 512]⟩
abbrev S128x512 : Shape := ⟨2, ![128, 512]⟩
abbrev S512 : Shape := ⟨1, ![512]⟩
abbrev S1x512 : Shape := ⟨2, ![1, 512]⟩
abbrev S512x128 : Shape := ⟨2, ![512, 128]⟩
abbrev S1x512x128 : Shape := ⟨3, ![1, 512, 128]⟩

abbrev nBuf : Space → Nat
  | .hbm => 15
  | .vmem => 8
  | .smem => 0
  | _ => 0

abbrev bufTy : (tb : Table) → Fin (tcTables nBuf tb) → BufTy
  | .hbm, ⟨0, _⟩ => ⟨S16x2048x4x192, .f32⟩
  | .hbm, ⟨1, _⟩ => ⟨S16x2048x4x192, .f32⟩
  | .hbm, ⟨2, _⟩ => ⟨S16x2048x4x128, .f32⟩
  | .hbm, ⟨3, _⟩ => ⟨S_, .f32⟩
  | .hbm, ⟨4, _⟩ => ⟨S16x2048x4x256, .f32⟩
  | .hbm, ⟨5, _⟩ => ⟨S16x2048x1024, .f32⟩
  | .hbm, ⟨6, _⟩ => ⟨S16x1024x2048, .f32⟩
  | .hbm, ⟨7, _⟩ => ⟨S16x2048x512, .f32⟩
  | .hbm, ⟨8, _⟩ => ⟨S16x512x2048, .f32⟩
  | .hbm, ⟨9, _⟩ => ⟨S16x512x2048, .bf16⟩
  | .hbm, ⟨10, _⟩ => ⟨S_, .f32⟩
  | .hbm, ⟨11, _⟩ => ⟨S16x2048x4x256, .f32⟩
  | .hbm, ⟨12, _⟩ => ⟨S16x2048x1024, .f32⟩
  | .hbm, ⟨13, _⟩ => ⟨S16x2048x1024, .bf16⟩
  | .hbm, ⟨14, _⟩ => ⟨S16x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x512x256, .bf16⟩
  | .local _ .vmem, ⟨7, _⟩ => ⟨S1x512x256, .bf16⟩
  | _, _ => ⟨S16x2048x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mscale" => some (((Real.sqrt 192)⁻¹ * (Real.log 2)⁻¹ : ℝ) : EReal)
  | _ => none
-- ==== MlaReferenceIdeal.lean ====
abbrev S16x2048x4x192 : Shape := ⟨4, ![16, 2048, 4, 192]⟩
abbrev S16x2048x4x128 : Shape := ⟨4, ![16, 2048, 4, 128]⟩
abbrev S16x2048x4x1x192 : Shape := ⟨5, ![16, 2048, 4, 1, 192]⟩
abbrev S16x4x2048x2048x1 : Shape := ⟨5, ![16, 4, 2048, 2048, 1]⟩
abbrev S16x4x1x2048x2048 : Shape := ⟨5, ![16, 4, 1, 2048, 2048]⟩
abbrev S_ : Shape := ⟨0, ![]⟩
abbrev S16x4x1x2048 : Shape := ⟨4, ![16, 4, 1, 2048]⟩
abbrev S16x4x1x2048x1 : Shape := ⟨5, ![16, 4, 1, 2048, 1]⟩
abbrev S16x4x128x1x2048 : Shape := ⟨5, ![16, 4, 128, 1, 2048]⟩
abbrev S16x2048x4x1x128 : Shape := ⟨5, ![16, 2048, 4, 1, 128]⟩
abbrev S16x2048x512 : Shape := ⟨3, ![16, 2048, 512]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x4x192, .f32⟩
  | .hbm, ⟨1, _⟩ => ⟨S16x2048x4x192, .f32⟩
  | .hbm, ⟨2, _⟩ => ⟨S16x2048x4x128, .f32⟩
  | .hbm, ⟨3, _⟩ => ⟨S16x2048x4x1x192, .f32⟩
  | .hbm, ⟨4, _⟩ => ⟨S16x4x2048x2048x1, .f32⟩
  | .hbm, ⟨5, _⟩ => ⟨S16x4x1x2048x2048, .f32⟩
  | .hbm, ⟨6, _⟩ => ⟨S_, .f32⟩
  | .hbm, ⟨7, _⟩ => ⟨S_, .f32⟩
  | .hbm, ⟨8, _⟩ => ⟨S16x4x1x2048x2048, .f32⟩
  | .hbm, ⟨9, _⟩ => ⟨S16x4x1x2048x2048, .f32⟩
  | .hbm, ⟨10, _⟩ => ⟨S_, .f32⟩
  | .hbm, ⟨11, _⟩ => ⟨S16x4x1x2048, .f32⟩
  | .hbm, ⟨12, _⟩ => ⟨S_, .f32⟩
  | .hbm, ⟨13, _⟩ => ⟨S16x4x1x2048, .f32⟩
  | .hbm, ⟨14, _⟩ => ⟨S16x4x1x2048, .f32⟩
  | .hbm, ⟨15, _⟩ => ⟨S16x4x1x2048x1, .f32⟩
  | .hbm, ⟨16, _⟩ => ⟨S16x4x1x2048x2048, .f32⟩
  | .hbm, ⟨17, _⟩ => ⟨S16x4x1x2048x2048, .f32⟩
  | .hbm, ⟨18, _⟩ => ⟨S16x4x1x2048x2048, .f32⟩
  | .hbm, ⟨19, _⟩ => ⟨S_, .f32⟩
  | .hbm, ⟨20, _⟩ => ⟨S16x4x1x2048, .f32⟩
  | .hbm, ⟨21, _⟩ => ⟨S16x4x1x2048x1, .f32⟩
  | .hbm, ⟨22, _⟩ => ⟨S16x4x1x2048x2048, .f32⟩
  | .hbm, ⟨23, _⟩ => ⟨S16x4x1x2048x2048, .f32⟩
  | .hbm, ⟨24, _⟩ => ⟨S16x4x128x1x2048, .f32⟩
  | .hbm, ⟨25, _⟩ => ⟨S16x2048x4x1x128, .f32⟩
  | .hbm, ⟨26, _⟩ => ⟨S16x2048x512, .f32⟩
  | .hbm, ⟨27, _⟩ => ⟨S16x2048x512, .bf16⟩
  | _, _ => ⟨S16x2048x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Out.lean ====
abbrev S16x2048x2048 : Shape := ⟨3, ![16, 2048, 2048]⟩
abbrev S2x16x12288 : Shape := ⟨3, ![2, 16, 12288]⟩
abbrev S16x2048x768 : Shape := ⟨3, ![16, 2048, 768]⟩
abbrev S16x2048x512 : Shape := ⟨3, ![16, 2048, 512]⟩
abbrev S2x2048x2048 : Shape := ⟨3, ![2, 2048, 2048]⟩
abbrev S2x2048 : Shape := ⟨2, ![2, 2048]⟩
abbrev S2x16x6x2048 : Shape := ⟨4, ![2, 16, 6, 2048]⟩
abbrev S2x1x2048 : Shape := ⟨3, ![2, 1, 2048]⟩
abbrev S1x512x2048 : Shape := ⟨3, ![1, 512, 2048]⟩
abbrev S1x1x6x2048 : Shape := ⟨4, ![1, 1, 6, 2048]⟩
abbrev S1x512x768 : Shape := ⟨3, ![1, 512, 768]⟩
abbrev S1x512x512 : Shape := ⟨3, ![1, 512, 512]⟩
abbrev S1x2048x2048 : Shape := ⟨3, ![1, 2048, 2048]⟩
abbrev S1x1x2048 : Shape := ⟨3, ![1, 1, 2048]⟩
abbrev S1x256x768 : Shape := ⟨3, ![1, 256, 768]⟩
abbrev S256x768 : Shape := ⟨2, ![256, 768]⟩
abbrev S1x768x2048 : Shape := ⟨3, ![1, 768, 2048]⟩
abbrev S768x2048 : Shape := ⟨2, ![768, 2048]⟩
abbrev S256x2048 : Shape := ⟨2, ![256, 2048]⟩
abbrev S1x256x512 : Shape := ⟨3, ![1, 256, 512]⟩
abbrev S256x512 : Shape := ⟨2, ![256, 512]⟩
abbrev S512x2048 : Shape := ⟨2, ![512, 2048]⟩
abbrev S1x256x2048 : Shape := ⟨3, ![1, 256, 2048]⟩
abbrev S1x1x1x2048 : Shape := ⟨4, ![1, 1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S2x16x12288, .f32⟩
  | .hbm, ⟨2, _⟩ => ⟨S16x2048x768, .f32⟩
  | .hbm, ⟨3, _⟩ => ⟨S16x2048x512, .f32⟩
  | .hbm, ⟨4, _⟩ => ⟨S16x2048x768, .f32⟩
  | .hbm, ⟨5, _⟩ => ⟨S2x2048x2048, .f32⟩
  | .hbm, ⟨6, _⟩ => ⟨S2x2048, .f32⟩
  | .hbm, ⟨7, _⟩ => ⟨S2x16x6x2048, .f32⟩
  | .hbm, ⟨8, _⟩ => ⟨S16x2048x768, .bf16⟩
  | .hbm, ⟨9, _⟩ => ⟨S16x2048x512, .bf16⟩
  | .hbm, ⟨10, _⟩ => ⟨S16x2048x768, .bf16⟩
  | .hbm, ⟨11, _⟩ => ⟨S2x2048x2048, .bf16⟩
  | .hbm, ⟨12, _⟩ => ⟨S2x1x2048, .f32⟩
  | .hbm, ⟨13, _⟩ => ⟨S16x2048x2048, .f32⟩
  | .hbm, ⟨14, _⟩ => ⟨S16x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S1x512x768, .bf16⟩
  | .local _ .vmem, ⟨5, _⟩ => ⟨S1x512x768, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x768, .bf16⟩
  | .local _ .vmem, ⟨9, _⟩ => ⟨S1x512x768, .bf16⟩
  | .local _ .vmem, ⟨10, _⟩ => ⟨S1x2048x2048, .bf16⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .bf16⟩
  | .local _ .vmem, ⟨15, _⟩ => ⟨S1x512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutReferenceIdeal.lean ====
abbrev S16x2048x2048 : Shape := ⟨3, ![16, 2048, 2048]⟩
abbrev S2x16x12288 : Shape := ⟨3, ![2, 16, 12288]⟩
abbrev S16x2048x768 : Shape := ⟨3, ![16, 2048, 768]⟩
abbrev S16x2048x512 : Shape := ⟨3, ![16, 2048, 512]⟩
abbrev S2x2048x2048 : Shape := ⟨3, ![2, 2048, 2048]⟩
abbrev S2x2048 : Shape := ⟨2, ![2, 2048]⟩
abbrev S1x16x12288 : Shape := ⟨3, ![1, 16, 12288]⟩
abbrev S16x12288 : Shape := ⟨2, ![16, 12288]⟩
abbrev S16x2048 : Shape := ⟨2, ![16, 2048]⟩
abbrev S16x1x2048 : Shape := ⟨3, ![16, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16x2048x1 : Shape := ⟨3, ![16, 2048, 1]⟩
abbrev S1x1x2048 : Shape := ⟨3, ![1, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2x16x12288, .f32⟩
  | .hbm, ⟨2, _⟩ => ⟨S16x2048x768, .f32⟩
  | .hbm, ⟨3, _⟩ => ⟨S16x2048x512, .f32⟩
  | .hbm, ⟨4, _⟩ => ⟨S16x2048x768, .f32⟩
  | .hbm, ⟨5, _⟩ => ⟨S2x2048x2048, .f32⟩
  | .hbm, ⟨6, _⟩ => ⟨S2x2048, .f32⟩
  | .hbm, ⟨7, _⟩ => ⟨S1x16x12288, .f32⟩
  | .hbm, ⟨8, _⟩ => ⟨S16x12288, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S16x1x2048, .f32⟩
  | .hbm, ⟨19, _⟩ => ⟨S16x1x2048, .f32⟩
  | .hbm, ⟨20, _⟩ => ⟨S16x1x2048, .f32⟩
  | .hbm, ⟨21, _⟩ => ⟨S16x2048x2048, .f32⟩
  | .hbm, ⟨22, _⟩ => ⟨S1x2048x2048, .f32⟩
  | .hbm, ⟨23, _⟩ => ⟨S2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S1x2048, .f32⟩
  | .hbm, ⟨29, _⟩ => ⟨S2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S1x1x2048, .f32⟩
  | .hbm, ⟨44, _⟩ => ⟨S16x2048x2048, .f32⟩
  | .hbm, ⟨45, _⟩ => ⟨S16x2048x2048, .f32⟩
  | .hbm, ⟨46, _⟩ => ⟨S_, .f32⟩
  | .hbm, ⟨47, _⟩ => ⟨S16x1x2048, .f32⟩
  | .hbm, ⟨48, _⟩ => ⟨S16x1x2048, .f32⟩
  | .hbm, ⟨49, _⟩ => ⟨S16x2048x2048, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S16x2048x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Modulation.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x16x12288 : Shape := ⟨3, ![2, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S2x12288x16 : Shape := ⟨3, ![2, 12288, 16]⟩
abbrev S2x16x12288 : Shape := ⟨3, ![2, 16, 12288]⟩
abbrev S2x1x12288 : Shape := ⟨3, ![2, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2x12288x16, .f32⟩
  | .hbm, ⟨13, _⟩ => ⟨S2x16x12288, .f32⟩
  | .hbm, ⟨14, _⟩ => ⟨S2x1x12288, .f32⟩
  | .hbm, ⟨15, _⟩ => ⟨S2x16x12288, .f32⟩
  | .hbm, ⟨16, _⟩ => ⟨S2x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Prep.lean ====
abbrev S16x2048x2048 : Shape := ⟨3, ![16, 2048, 2048]⟩
abbrev S2x16x12288 : Shape := ⟨3, ![2, 16, 12288]⟩
abbrev S2x2048 : Shape := ⟨2, ![2, 2048]⟩
abbrev S2x2048x4184 : Shape := ⟨3, ![2, 2048, 4184]⟩
abbrev S2x128 : Shape := ⟨2, ![2, 128]⟩
abbrev S2x512 : Shape := ⟨2, ![2, 512]⟩
abbrev S2x512x768 : Shape := ⟨3, ![2, 512, 768]⟩
abbrev S2x256 : Shape := ⟨2, ![2, 256]⟩
abbrev S2x256x1024 : Shape := ⟨3, ![2, 256, 1024]⟩
abbrev S2x2048x384 : Shape := ⟨3, ![2, 2048, 384]⟩
abbrev S2x2048x128 : Shape := ⟨3, ![2, 2048, 128]⟩
abbrev S2x2048x768 : Shape := ⟨3, ![2, 2048, 768]⟩
abbrev S2x2048x6 : Shape := ⟨3, ![2, 2048, 6]⟩
abbrev S_ : Shape := ⟨0, ![]⟩
abbrev S2x2048x116 : Shape := ⟨3, ![2, 2048, 116]⟩
abbrev S2x2048x2112 : Shape := ⟨3, ![2, 2048, 2112]⟩
abbrev S2x2048x64 : Shape := ⟨3, ![2, 2048, 64]⟩
abbrev S2x2048x4480 : Shape := ⟨3, ![2, 2048, 4480]⟩
abbrev S2x512x4x192 : Shape := ⟨4, ![2, 512, 4, 192]⟩
abbrev S2x512x4x256 : Shape := ⟨4, ![2, 512, 4, 256]⟩
abbrev S2x512x1024 : Shape := ⟨3, ![2, 512, 1024]⟩
abbrev S2x256x1 : Shape := ⟨3, ![2, 256, 1]⟩
abbrev S2x256x4x2x128 : Shape := ⟨5, ![2, 256, 4, 2, 128]⟩
abbrev S2x256x2x4x128 : Shape := ⟨5, ![2, 256, 2, 4, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16 : Shape := ⟨1, ![16]⟩
abbrev S1x16 : Shape := ⟨2, ![1, 16]⟩
abbrev S2048x16 : Shape := ⟨2, ![2048, 16]⟩
abbrev S2048x64 : Shape := ⟨2, ![2048, 64]⟩
abbrev S2x16x6x2048 : Shape := ⟨4, ![2, 16, 6, 2048]⟩
abbrev S2x1x2048 : Shape := ⟨3, ![2, 1, 2048]⟩
abbrev S2x1x128 : Shape := ⟨3, ![2, 1, 128]⟩
abbrev S2x1x512 : Shape := ⟨3, ![2, 1, 512]⟩
abbrev S16x2048x1280 : Shape := ⟨3, ![16, 2048, 1280]⟩
abbrev S16x2048x768 : Shape := ⟨3, ![16, 2048, 768]⟩
abbrev S16x2048x256 : Shape := ⟨3, ![16, 2048, 256]⟩
abbrev S16x768x2048 : Shape := ⟨3, ![16, 768, 2048]⟩
abbrev S16x256x2048 : Shape := ⟨3, ![16, 256, 2048]⟩
abbrev S16x1024x2048 : Shape := ⟨3, ![16, 1024, 2048]⟩
abbrev S16x2048x1024 : Shape := ⟨3, ![16, 2048, 1024]⟩
abbrev S16x512x2048 : Shape := ⟨3, ![16, 512, 2048]⟩
abbrev S1x512x2048 : Shape := ⟨3, ![1, 512, 2048]⟩
abbrev S1x1x6x2048 : Shape := ⟨4, ![1, 1, 6, 2048]⟩
abbrev S1x1x2048 : Shape := ⟨3, ![1, 1, 2048]⟩
abbrev S1x2048x4480 : Shape := ⟨3, ![1, 2048, 4480]⟩
abbrev S1x1x128 : Shape := ⟨3, ![1, 1, 128]⟩
abbrev S512x128 : Shape := ⟨2, ![512, 128]⟩
abbrev S1x1x512 : Shape := ⟨3, ![1, 1, 512]⟩
abbrev S1x512x1024 : Shape := ⟨3, ![1, 512, 1024]⟩
abbrev S1x256x1024 : Shape := ⟨3, ![1, 256, 1024]⟩
abbrev S1x512x1280 : Shape := ⟨3, ![1, 512, 1280]⟩
abbrev S1x512x768 : Shape := ⟨3, ![1, 512, 768]⟩
abbrev S1x512x256 : Shape := ⟨3, ![1, 512, 256]⟩
abbrev S1x768x512 : Shape := ⟨3, ![1, 768, 512]⟩
abbrev S1x256x512 : Shape := ⟨3, ![1, 256, 512]⟩
abbrev S1x1024x512 : Shape := ⟨3, ![1, 1024, 512]⟩
abbrev S1x512x512 : Shape := ⟨3, ![1, 512, 512]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S1x1x1x2048 : Shape := ⟨4, ![1, 1, 1, 2048]⟩
abbrev S1x2048x768 : Shape := ⟨3, ![1, 2048, 768]⟩
abbrev S2048x768 : Shape := ⟨2, ![2048, 768]⟩
abbrev S512x768 : Shape := ⟨2, ![512, 768]⟩
abbrev S1x2048x256 : Shape := ⟨3, ![1, 2048, 256]⟩
abbrev S2048x256 : Shape := ⟨2, ![2048, 256]⟩
abbrev S512x256 : Shape := ⟨2, ![512, 256]⟩
abbrev S1x128 : Shape := ⟨2, ![1, 128]⟩
abbrev S128x512 : Shape := ⟨2, ![128, 512]⟩
abbrev S1x128x512 : Shape := ⟨3, ![1, 128, 512]⟩
abbrev S1x2048x512 : Shape := ⟨3, ![1, 2048, 512]⟩
abbrev S2048x512 : Shape := ⟨2, ![2048, 512]⟩
abbrev S512x512 : Shape := ⟨2, ![512, 512]⟩
abbrev S1x512x128 : Shape := ⟨3, ![1, 512, 128]⟩
abbrev S1x2048x1280 : Shape := ⟨3, ![1, 2048, 1280]⟩
abbrev S2048x1280 : Shape := ⟨2, ![2048, 1280]⟩
abbrev S512x1280 : Shape := ⟨2, ![512, 1280]⟩
abbrev S1x512 : Shape := ⟨2, ![1, 512]⟩
abbrev S512x1024 : Shape := ⟨2, ![512, 1024]⟩
abbrev S1x2048x128 : Shape := ⟨3, ![1, 2048, 128]⟩
abbrev S256x1024 : Shape := ⟨2, ![256, 1024]⟩

abbrev nBuf : Space → Nat
  | .hbm => 146
  | .vmem => 37
  | .smem => 0
  | _ => 0

abbrev hbmTy0_0 (i : Nat) : BufTy := match i % 128 with
  | 0 => ⟨S16x2048x2048, .f32⟩
  | 1 => ⟨S2x16x12288, .f32⟩
  | 2 => ⟨S2x2048, .f32⟩
  | 3 => ⟨S2x2048x4184, .f32⟩
  | 4 => ⟨S2x128, .f32⟩
  | 5 => ⟨S2x128, .f32⟩
  | 6 => ⟨S2x512, .f32⟩
  | 7 => ⟨S2x512x768, .f32⟩
  | 8 => ⟨S2x256, .f32⟩
  | 9 => ⟨S2x256x1024, .f32⟩
  | 10 => ⟨S2x2048x384, .f32⟩
  | 11 => ⟨S2x2048x128, .f32⟩
  | 12 => ⟨S2x2048x128, .f32⟩
  | 13 => ⟨S2x2048x384, .f32⟩
  | 14 => ⟨S2x2048x128, .f32⟩
  | 15 => ⟨S2x2048x128, .f32⟩
  | 16 => ⟨S2x2048x768, .f32⟩
  | 17 => ⟨S2x2048x6, .f32⟩
  | 18 => ⟨S2x2048x6, .f32⟩
  | 19 => ⟨S_, .f32⟩
  | 20 => ⟨S2x2048x116, .f32⟩
  | 21 => ⟨S2x2048x6, .f32⟩
  | 22 => ⟨S2x2048x6, .f32⟩
  | 23 => ⟨S_, .f32⟩
  | 24 => ⟨S2x2048x116, .f32⟩
  | 25 => ⟨S2x2048x2112, .f32⟩
  | 26 => ⟨S_, .f32⟩
  | 27 => ⟨S2x2048x64, .f32⟩
  | 28 => ⟨S2x2048x4480, .f32⟩
  | 29 => ⟨S2x2048x4480, .bf16⟩
  | 30 => ⟨S2x512x4x192, .f32⟩
  | 31 => ⟨S_, .f32⟩
  | 32 => ⟨S2x512x4x256, .f32⟩
  | 33 => ⟨S2x512x1024, .f32⟩
  | 34 => ⟨S2x512x1024, .bf16⟩
  | 35 => ⟨S2x256x1, .f32⟩
  | 36 => ⟨S2x256x1024, .f32⟩
  | 37 => ⟨S2x256x1024, .f32⟩
  | 38 => ⟨S2x256x4x2x128, .f32⟩
  | 39 => ⟨S2x256x2x4x128, .f32⟩
  | 40 => ⟨S2x256x1024, .f32⟩
  | 41 => ⟨S2x256x1024, .bf16⟩
  | 42 => ⟨S32, .i32⟩
  | 43 => ⟨S32x64, .i32⟩
  | 44 => ⟨S2048, .i32⟩
  | 45 => ⟨S2048, .f32⟩
  | 46 => ⟨S64, .i32⟩
  | 47 => ⟨S1x64, .i32⟩
  | 48 => ⟨S32x64, .i32⟩
  | 49 => ⟨S2048, .i32⟩
  | 50 => ⟨S2048, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S2048x1, .f32⟩
  | 66 => ⟨S1x32, .f32⟩
  | 67 => ⟨S2048x32, .f32⟩
  | 68 => ⟨S2048x32, .f32⟩
  | 69 => ⟨S2048x32, .f32⟩
  | 70 => ⟨S2048x1, .f32⟩
  | 71 => ⟨S1x32, .f32⟩
  | 72 => ⟨S2048x32, .f32⟩
  | 73 => ⟨S2048x32, .f32⟩
  | 74 => ⟨S2048x32, .f32⟩
  | 75 => ⟨S2048x32, .f32⟩
  | 76 => ⟨S2048x32, .f32⟩
  | 77 => ⟨S2048x128, .f32⟩
  | 78 => ⟨S2048x32, .f32⟩
  | 79 => ⟨S2048x32, .f32⟩
  | 80 => ⟨S2048x32, .f32⟩
  | 81 => ⟨S2048x32, .f32⟩
  | 82 => ⟨S2048x32, .f32⟩
  | 83 => ⟨S2048x32, .f32⟩
  | 84 => ⟨S2048x128, .f32⟩
  | 85 => ⟨S32, .i32⟩
  | 86 => ⟨S32x64, .i32⟩
  | 87 => ⟨S2048, .i32⟩
  | 88 => ⟨S2048, .f32⟩
  | 89 => ⟨S64, .i32⟩
  | 90 => ⟨S1x64, .i32⟩
  | 91 => ⟨S32x64, .i32⟩
  | 92 => ⟨S2048, .i32⟩
  | 93 => ⟨S2048, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S2048x1, .f32⟩
  | 109 => ⟨S1x16, .f32⟩
  | 110 => ⟨S2048x16, .f32⟩
  | 111 => ⟨S2048x16, .f32⟩
  | 112 => ⟨S2048x16, .f32⟩
  | 113 => ⟨S2048x1, .f32⟩
  | 114 => ⟨S1x16, .f32⟩
  | 115 => ⟨S2048x16, .f32⟩
  | 116 => ⟨S2048x16, .f32⟩
  | 117 => ⟨S2048x16, .f32⟩
  | 118 => ⟨S2048x16, .f32⟩
  | 119 => ⟨S2048x16, .f32⟩
  | 120 => ⟨S2048x64, .f32⟩
  | 121 => ⟨S2048x16, .f32⟩
  | 122 => ⟨S2048x16, .f32⟩
  | 123 => ⟨S2048x16, .f32⟩
  | 124 => ⟨S2048x16, .f32⟩
  | 125 => ⟨S2048x16, .f32⟩
  | 126 => ⟨S2048x16, .f32⟩
  | 127 => ⟨S2048x64, .f32⟩
  | _ => ⟨S16x2048x2048, .f32⟩

abbrev hbmTy0_1 (i : Nat) : BufTy := match i % 128 with
  | 0 => ⟨S_, .f32⟩
  | 1 => ⟨S2048x128, .f32⟩
  | 2 => ⟨S_, .f32⟩
  | 3 => ⟨S2048x128, .f32⟩
  | 4 => ⟨S2x16x6x2048, .f32⟩
  | 5 => ⟨S2x1x2048, .f32⟩
  | 6 => ⟨S2x1x128, .f32⟩
  | 7 => ⟨S2x1x128, .f32⟩
  | 8 => ⟨S2x1x512, .f32⟩
  | 9 => ⟨S16x2048x1280, .bf16⟩
  | 10 => ⟨S16x2048x768, .bf16⟩
  | 11 => ⟨S16x2048x256, .f32⟩
  | 12 => ⟨S16x768x2048, .f32⟩
  | 13 => ⟨S16x2048x256, .bf16⟩
  | 14 => ⟨S16x256x2048, .bf16⟩
  | 15 => ⟨S16x1024x2048, .f32⟩
  | 16 => ⟨S16x2048x1024, .bf16⟩
  | 17 => ⟨S16x512x2048, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | .local _ .vmem, ⟨0, _⟩ => ⟨S1x512x2048, .f32⟩
  | .local _ .vmem, ⟨1, _⟩ => ⟨S1x512x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S1x1x2048, .f32⟩
  | .local _ .vmem, ⟨5, _⟩ => ⟨S1x2048x4480, .bf16⟩
  | .local _ .vmem, ⟨6, _⟩ => ⟨S1x1x128, .f32⟩
  | .local _ .vmem, ⟨7, _⟩ => ⟨S1x1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x1x512, .f32⟩
  | .local _ .vmem, ⟨13, _⟩ => ⟨S1x512x1024, .bf16⟩
  | .local _ .vmem, ⟨14, _⟩ => ⟨S1x256x1024, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S1x512x1280, .bf16⟩
  | .local _ .vmem, ⟨20, _⟩ => ⟨S1x512x1280, .bf16⟩
  | .local _ .vmem, ⟨21, _⟩ => ⟨S1x512x768, .bf16⟩
  | .local _ .vmem, ⟨22, _⟩ => ⟨S1x512x768, .bf16⟩
  | .local _ .vmem, ⟨23, _⟩ => ⟨S1x512x256, .f32⟩
  | .local _ .vmem, ⟨24, _⟩ => ⟨S1x512x256, .f32⟩
  | .local _ .vmem, ⟨25, _⟩ => ⟨S1x768x512, .f32⟩
  | .local _ .vmem, ⟨26, _⟩ => ⟨S1x768x512, .f32⟩
  | .local _ .vmem, ⟨27, _⟩ => ⟨S1x512x256, .bf16⟩
  | .local _ .vmem, ⟨28, _⟩ => ⟨S1x512x256, .bf16⟩
  | .local _ .vmem, ⟨29, _⟩ => ⟨S1x256x512, .bf16⟩
  | .local _ .vmem, ⟨30, _⟩ => ⟨S1x256x512, .bf16⟩
  | .local _ .vmem, ⟨31, _⟩ => ⟨S1x1024x512, .f32⟩
  | .local _ .vmem, ⟨32, _⟩ => ⟨S1x1024x512, .f32⟩
  | .local _ .vmem, ⟨33, _⟩ => ⟨S1x512x1024, .bf16⟩
  | .local _ .vmem, ⟨34, _⟩ => ⟨S1x512x1024, .bf16⟩
  | .local _ .vmem, ⟨35, _⟩ => ⟨S1x512x512, .bf16⟩
  | .local _ .vmem, ⟨36, _⟩ => ⟨S1x512x512, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_7 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_9 : Ref sig .tc := ⟨.hbm, 102, rfl⟩
abbrev main_v82 : Ref sig .tc := ⟨.hbm, 103, rfl⟩
abbrev main_v83 : Ref sig .tc := ⟨.hbm, 104, rfl⟩
abbrev main_cst_10 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_11 : Ref sig .tc := ⟨.hbm, 128, rfl⟩
abbrev main_v106 : Ref sig .tc := ⟨.hbm, 129, rfl⟩
abbrev main_cst_12 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113_0 : Ref sig .tc := ⟨.hbm, 137, rfl⟩
abbrev main_v113_1 : Ref sig .tc := ⟨.hbm, 138, rfl⟩
abbrev main_v113_2 : Ref sig .tc := ⟨.hbm, 139, rfl⟩
abbrev main_v113_3 : Ref sig .tc := ⟨.hbm, 140, rfl⟩
abbrev main_v113_4 : Ref sig .tc := ⟨.hbm, 141, rfl⟩
abbrev main_v113_5 : Ref sig .tc := ⟨.hbm, 142, rfl⟩
abbrev main_v113_6 : Ref sig .tc := ⟨.hbm, 143, rfl⟩
abbrev main_v113_7 : Ref sig .tc := ⟨.hbm, 144, rfl⟩
abbrev main_v113_8 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x4480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x768x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== PrepReferenceIdeal.lean ====
abbrev S16x2048x2048 : Shape := ⟨3, ![16, 2048, 2048]⟩
abbrev S2x16x12288 : Shape := ⟨3, ![2, 16, 12288]⟩
abbrev S2x2048 : Shape := ⟨2, ![2, 2048]⟩
abbrev S2x2048x4184 : Shape := ⟨3, ![2, 2048, 4184]⟩
abbrev S2x128 : Shape := ⟨2, ![2, 128]⟩
abbrev S2x512 : Shape := ⟨2, ![2, 512]⟩
abbrev S2x512x768 : Shape := ⟨3, ![2, 512, 768]⟩
abbrev S2x256 : Shape := ⟨2, ![2, 256]⟩
abbrev S2x256x1024 : Shape := ⟨3, ![2, 256, 1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S16 : Shape := ⟨1, ![16]⟩
abbrev S1x16 : Shape := ⟨2, ![1, 16]⟩
abbrev S2048x16 : Shape := ⟨2, ![2048, 16]⟩
abbrev S1x16x12288 : Shape := ⟨3, ![1, 16, 12288]⟩
abbrev S16x12288 : Shape := ⟨2, ![16, 12288]⟩
abbrev S16x2048 : Shape := ⟨2, ![16, 2048]⟩
abbrev S16x1x2048 : Shape := ⟨3, ![16, 1, 2048]⟩
abbrev S1x2048 : Shape := ⟨2, ![1, 2048]⟩
abbrev S16x2048x1 : Shape := ⟨3, ![16, 2048, 1]⟩
abbrev S1x1x2048 : Shape := ⟨3, ![1, 1, 2048]⟩
abbrev S1x2048x4184 : Shape := ⟨3, ![1, 2048, 4184]⟩
abbrev S2048x4184 : Shape := ⟨2, ![2048, 4184]⟩
abbrev S16x2048x4184 : Shape := ⟨3, ![16, 2048, 4184]⟩
abbrev S16x2048x768 : Shape := ⟨3, ![16, 2048, 768]⟩
abbrev S16x2048x256 : Shape := ⟨3, ![16, 2048, 256]⟩
abbrev S16x2048x512 : Shape := ⟨3, ![16, 2048, 512]⟩
abbrev S16x2048x64 : Shape := ⟨3, ![16, 2048, 64]⟩
abbrev S16x2048x1280 : Shape := ⟨3, ![16, 2048, 1280]⟩
abbrev S16x2048x24 : Shape := ⟨3, ![16, 2048, 24]⟩
abbrev S16x2048x6x128 : Shape := ⟨4, ![16, 2048, 6, 128]⟩
abbrev S1x128 : Shape := ⟨2, ![1, 128]⟩
abbrev S128 : Shape := ⟨1, ![128]⟩
abbrev S16x2048x6 : Shape := ⟨3, ![16, 2048, 6]⟩
abbrev S16x2048x6x1 : Shape := ⟨4, ![16, 2048, 6, 1]⟩
abbrev S1x1x1x128 : Shape := ⟨4, ![1, 1, 1, 128]⟩
abbrev S16x2048x6x64 : Shape := ⟨4, ![16, 2048, 6, 64]⟩
abbrev S16x2048x6x32 : Shape := ⟨4, ![16, 2048, 6, 32]⟩
abbrev S2048x1x32 : Shape := ⟨3, ![2048, 1, 32]⟩
abbrev S1x2048x1x32 : Shape := ⟨4, ![1, 2048, 1, 32]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S16x2048x2x64 : Shape := ⟨4, ![16, 2048, 2, 64]⟩
abbrev S16x2048x2x32 : Shape := ⟨4, ![16, 2048, 2, 32]⟩
abbrev S1x512 : Shape := ⟨2, ![1, 512]⟩
abbrev S512 : Shape := ⟨1, ![512]⟩
abbrev S1x1x512 : Shape := ⟨3, ![1, 1, 512]⟩
abbrev S1x512x768 : Shape := ⟨3, ![1, 512, 768]⟩
abbrev S512x768 : Shape := ⟨2, ![512, 768]⟩
abbrev S16x2048x4x192 : Shape := ⟨4, ![16, 2048, 4, 192]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S16x2048x1024 : Shape := ⟨3, ![16, 2048, 1024]⟩
abbrev S16x2048x4x256 : Shape := ⟨4, ![16, 2048, 4, 256]⟩
abbrev S16x2048x4x64 : Shape := ⟨4, ![16, 2048, 4, 64]⟩
abbrev S16x2048x4x32 : Shape := ⟨4, ![16, 2048, 4, 32]⟩
abbrev S16x2048x4x16 : Shape := ⟨4, ![16, 2048, 4, 16]⟩
abbrev S2048x1x16 : Shape := ⟨3, ![2048, 1, 16]⟩
abbrev S1x2048x1x16 : Shape := ⟨4, ![1, 2048, 1, 16]⟩
abbrev S16x2048x1x64 : Shape := ⟨4, ![16, 2048, 1, 64]⟩
abbrev S16x2048x1x32 : Shape := ⟨4, ![16, 2048, 1, 32]⟩
abbrev S16x2048x1x16 : Shape := ⟨4, ![16, 2048, 1, 16]⟩
abbrev S16x2048x4x128 : Shape := ⟨4, ![16, 2048, 4, 128]⟩
abbrev S16x2048x2x384 : Shape := ⟨4, ![16, 2048, 2, 384]⟩
abbrev S16x2048x2x640 : Shape := ⟨4, ![16, 2048, 2, 640]⟩
abbrev S16x2048x2x2x6 : Shape := ⟨5, ![16, 2048, 2, 2, 6]⟩
abbrev S16x2048x1x2x6 : Shape := ⟨5, ![16, 2048, 1, 2, 6]⟩
abbrev S16x2048x2x6 : Shape := ⟨4, ![16, 2048, 2, 6]⟩
abbrev S16x2048x2x116 : Shape := ⟨4, ![16, 2048, 2, 116]⟩
abbrev S16x768x2048 : Shape := ⟨3, ![16, 768, 2048]⟩
abbrev S16x256x2048 : Shape := ⟨3, ![16, 256, 2048]⟩
abbrev S16x1024x2048 : Shape := ⟨3, ![16, 1024, 2048]⟩
abbrev S16x512x2048 : Shape := ⟨3, ![16, 512, 2048]⟩

abbrev nBuf : Space → Nat
  | .hbm => 423
  | .vmem => 0
  | .smem => 0
  | _ => 0

abbrev hbmTy0_0 (i : Nat) : BufTy := match i % 128 with
  | 0 => ⟨S16x2048x2048, .f32⟩
  | 1 => ⟨S2x16x12288, .f32⟩
  | 2 => ⟨S2x2048, .f32⟩
  | 3 => ⟨S2x2048x4184, .f32⟩
  | 4 => ⟨S2x128, .f32⟩
  | 5 => ⟨S2x128, .f32⟩
  | 6 => ⟨S2x512, .f32⟩
  | 7 => ⟨S2x512x768, .f32⟩
  | 8 => ⟨S2x256, .f32⟩
  | 9 => ⟨S2x256x1024, .f32⟩
  | 10 => ⟨S32, .i32⟩
  | 11 => ⟨S32x64, .i32⟩
  | 12 => ⟨S2048, .i32⟩
  | 13 => ⟨S2048, .f32⟩
  | 14 => ⟨S64, .i32⟩
  | 15 => ⟨S1x64, .i32⟩
  | 16 => ⟨S32x64, .i32⟩
  | 17 => ⟨S2048, .i32⟩
  | 18 => ⟨S2048, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S2048x1, .f32⟩
  | 34 => ⟨S1x32, .f32⟩
  | 35 => ⟨S2048x32, .f32⟩
  | 36 => ⟨S2048x32, .f32⟩
  | 37 => ⟨S2048x32, .f32⟩
  | 38 => ⟨S2048x1, .f32⟩
  | 39 => ⟨S1x32, .f32⟩
  | 40 => ⟨S2048x32, .f32⟩
  | 41 => ⟨S2048x32, .f32⟩
  | 42 => ⟨S2048x32, .f32⟩
  | 43 => ⟨S2048x32, .f32⟩
  | 44 => ⟨S2048x32, .f32⟩
  | 45 => ⟨S2048x32, .f32⟩
  | 46 => ⟨S2048x32, .f32⟩
  | 47 => ⟨S32, .i32⟩
  | 48 => ⟨S32x64, .i32⟩
  | 49 => ⟨S2048, .i32⟩
  | 50 => ⟨S2048, .f32⟩
  | 51 => ⟨S64, .i32⟩
  | 52 => ⟨S1x64, .i32⟩
  | 53 => ⟨S32x64, .i32⟩
  | 54 => ⟨S2048, .i32⟩
  | 55 => ⟨S2048, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S2048x1, .f32⟩
  | 71 => ⟨S1x16, .f32⟩
  | 72 => ⟨S2048x16, .f32⟩
  | 73 => ⟨S2048x16, .f32⟩
  | 74 => ⟨S2048x16, .f32⟩
  | 75 => ⟨S2048x1, .f32⟩
  | 76 => ⟨S1x16, .f32⟩
  | 77 => ⟨S2048x16, .f32⟩
  | 78 => ⟨S2048x16, .f32⟩
  | 79 => ⟨S2048x16, .f32⟩
  | 80 => ⟨S2048x16, .f32⟩
  | 81 => ⟨S2048x16, .f32⟩
  | 82 => ⟨S2048x16, .f32⟩
  | 83 => ⟨S2048x16, .f32⟩
  | 84 => ⟨S1x16x12288, .f32⟩
  | 85 => ⟨S16x12288, .f32⟩
  | 86 => ⟨S16x2048, .f32⟩
  | 87 => ⟨S16x2048, .f32⟩
  | 88 => ⟨S16x2048, .f32⟩
  | 89 => ⟨S16x2048, .f32⟩
  | 90 => ⟨S16x2048, .f32⟩
  | 91 => ⟨S16x2048, .f32⟩
  | 92 => ⟨S16x1x2048, .f32⟩
  | 93 => ⟨S16x1x2048, .f32⟩
  | 94 => ⟨S16x1x2048, .f32⟩
  | 95 => ⟨S16x1x2048, .f32⟩
  | 96 => ⟨S16x1x2048, .f32⟩
  | 97 => ⟨S16x1x2048, .f32⟩
  | 98 => ⟨S1x2048, .f32⟩
  | 99 => ⟨S2048, .f32⟩
  | 100 => ⟨S16x2048x2048, .f32⟩
  | 101 => ⟨S_, .f32⟩
  | 102 => ⟨S16x2048, .f32⟩
  | 103 => ⟨S16x2048x1, .f32⟩
  | 104 => ⟨S_, .f32⟩
  | 105 => ⟨S16x2048x1, .f32⟩
  | 106 => ⟨S16x2048x1, .f32⟩
  | 107 => ⟨S_, .f32⟩
  | 108 => ⟨S16x2048x1, .f32⟩
  | 109 => ⟨S16x2048x1, .f32⟩
  | 110 => ⟨S16x2048x1, .f32⟩
  | 111 => ⟨S16x2048x2048, .f32⟩
  | 112 => ⟨S16x2048x2048, .f32⟩
  | 113 => ⟨S1x1x2048, .f32⟩
  | 114 => ⟨S16x2048x2048, .f32⟩
  | 115 => ⟨S16x2048x2048, .f32⟩
  | 116 => ⟨S_, .f32⟩
  | 117 => ⟨S16x1x2048, .f32⟩
  | 118 => ⟨S16x1x2048, .f32⟩
  | 119 => ⟨S16x2048x2048, .f32⟩
  | 120 => ⟨S16x2048x2048, .f32⟩
  | 121 => ⟨S16x2048x2048, .f32⟩
  | 122 => ⟨S16x2048x2048, .f32⟩
  | 123 => ⟨S1x2048x4184, .f32⟩
  | 124 => ⟨S2048x4184, .f32⟩
  | 125 => ⟨S16x2048x4184, .f32⟩
  | 126 => ⟨S16x2048x768, .f32⟩
  | 127 => ⟨S16x2048x256, .f32⟩
  | _ => ⟨S16x2048x2048, .f32⟩

abbrev hbmTy0_1 (i : Nat) : BufTy := match i % 128 with
  | 0 => ⟨S16x2048x256, .f32⟩
  | 1 => ⟨S16x2048x512, .f32⟩
  | 2 => ⟨S16x2048x256, .f32⟩
  | 3 => ⟨S16x2048x64, .f32⟩
  | 4 => ⟨S16x2048x768, .f32⟩
  | 5 => ⟨S16x2048x1280, .f32⟩
  | 6 => ⟨S16x2048x24, .f32⟩
  | 7 => ⟨S16x2048x6x128, .f32⟩
  | 8 => ⟨S1x128, .f32⟩
  | 9 => ⟨S128, .f32⟩
  | 10 => ⟨S16x2048x6x128, .f32⟩
  | 11 => ⟨S_, .f32⟩
  | 12 => ⟨S16x2048x6, .f32⟩
  | 13 => ⟨S16x2048x6x1, .f32⟩
  | 14 => ⟨S_, .f32⟩
  | 15 => ⟨S16x2048x6x1, .f32⟩
  | 16 => ⟨S16x2048x6x1, .f32⟩
  | 17 => ⟨S_, .f32⟩
  | 18 => ⟨S16x2048x6x1, .f32⟩
  | 19 => ⟨S16x2048x6x1, .f32⟩
  | 20 => ⟨S16x2048x6x1, .f32⟩
  | 21 => ⟨S16x2048x6x128, .f32⟩
  | 22 => ⟨S16x2048x6x128, .f32⟩
  | 23 => ⟨S1x1x1x128, .f32⟩
  | 24 => ⟨S16x2048x6x128, .f32⟩
  | 25 => ⟨S16x2048x6x128, .f32⟩
  | 26 => ⟨S16x2048x6x64, .f32⟩
  | 27 => ⟨S16x2048x6x64, .f32⟩
  | 28 => ⟨S16x2048x6x32, .f32⟩
  | 29 => ⟨S16x2048x6x32, .f32⟩
  | 30 => ⟨S2048x1x32, .f32⟩
  | 31 => ⟨S2048x1x32, .f32⟩
  | 32 => ⟨S1x2048x1x32, .f32⟩
  | 33 => ⟨S16x2048x6x32, .f32⟩
  | 34 => ⟨S16x2048x6x32, .f32⟩
  | 35 => ⟨S1x2048x1x32, .f32⟩
  | 36 => ⟨S16x2048x6x32, .f32⟩
  | 37 => ⟨S16x2048x6x32, .f32⟩
  | 38 => ⟨S16x2048x6x32, .f32⟩
  | 39 => ⟨S1x2048x1x32, .f32⟩
  | 40 => ⟨S16x2048x6x32, .f32⟩
  | 41 => ⟨S16x2048x6x32, .f32⟩
  | 42 => ⟨S1x2048x1x32, .f32⟩
  | 43 => ⟨S16x2048x6x32, .f32⟩
  | 44 => ⟨S16x2048x6x32, .f32⟩
  | 45 => ⟨S16x2048x6x32, .f32⟩
  | 46 => ⟨S16x2048x6x64, .f32⟩
  | 47 => ⟨S16x2048x6x32, .f32⟩
  | 48 => ⟨S16x2048x6x32, .f32⟩
  | 49 => ⟨S2048x1x32, .f32⟩
  | 50 => ⟨S2048x1x32, .f32⟩
  | 51 => ⟨S1x2048x1x32, .f32⟩
  | 52 => ⟨S16x2048x6x32, .f32⟩
  | 53 => ⟨S16x2048x6x32, .f32⟩
  | 54 => ⟨S1x2048x1x32, .f32⟩
  | 55 => ⟨S16x2048x6x32, .f32⟩
  | 56 => ⟨S16x2048x6x32, .f32⟩
  | 57 => ⟨S16x2048x6x32, .f32⟩
  | 58 => ⟨S1x2048x1x32, .f32⟩
  | 59 => ⟨S16x2048x6x32, .f32⟩
  | 60 => ⟨S16x2048x6x32, .f32⟩
  | 61 => ⟨S1x2048x1x32, .f32⟩
  | 62 => ⟨S16x2048x6x32, .f32⟩
  | 63 => ⟨S16x2048x6x32, .f32⟩
  | 64 => ⟨S16x2048x6x32, .f32⟩
  | 65 => ⟨S16x2048x6x64, .f32⟩
  | 66 => ⟨S16x2048x6x128, .f32⟩
  | 67 => ⟨S16x2048x2x128, .f32⟩
  | 68 => ⟨S1x128, .f32⟩
  | 69 => ⟨S128, .f32⟩
  | 70 => ⟨S16x2048x2x128, .f32⟩
  | 71 => ⟨S_, .f32⟩
  | 72 => ⟨S16x2048x2, .f32⟩
  | 73 => ⟨S16x2048x2x1, .f32⟩
  | 74 => ⟨S_, .f32⟩
  | 75 => ⟨S16x2048x2x1, .f32⟩
  | 76 => ⟨S16x2048x2x1, .f32⟩
  | 77 => ⟨S_, .f32⟩
  | 78 => ⟨S16x2048x2x1, .f32⟩
  | 79 => ⟨S16x2048x2x1, .f32⟩
  | 80 => ⟨S16x2048x2x1, .f32⟩
  | 81 => ⟨S16x2048x2x128, .f32⟩
  | 82 => ⟨S16x2048x2x128, .f32⟩
  | 83 => ⟨S1x1x1x128, .f32⟩
  | 84 => ⟨S16x2048x2x128, .f32⟩
  | 85 => ⟨S16x2048x2x128, .f32⟩
  | 86 => ⟨S16x2048x2x64, .f32⟩
  | 87 => ⟨S16x2048x2x64, .f32⟩
  | 88 => ⟨S16x2048x2x32, .f32⟩
  | 89 => ⟨S16x2048x2x32, .f32⟩
  | 90 => ⟨S2048x1x32, .f32⟩
  | 91 => ⟨S2048x1x32, .f32⟩
  | 92 => ⟨S1x2048x1x32, .f32⟩
  | 93 => ⟨S16x2048x2x32, .f32⟩
  | 94 => ⟨S16x2048x2x32, .f32⟩
  | 95 => ⟨S1x2048x1x32, .f32⟩
  | 96 => ⟨S16x2048x2x32, .f32⟩
  | 97 => ⟨S16x2048x2x32, .f32⟩
  | 98 => ⟨S16x2048x2x32, .f32⟩
  | 99 => ⟨S1x2048x1x32, .f32⟩
  | 100 => ⟨S16x2048x2x32, .f32⟩
  | 101 => ⟨S16x2048x2x32, .f32⟩
  | 102 => ⟨S1x2048x1x32, .f32⟩
  | 103 => ⟨S16x2048x2x32, .f32⟩
  | 104 => ⟨S16x2048x2x32, .f32⟩
  | 105 => ⟨S16x2048x2x32, .f32⟩
  | 106 => ⟨S16x2048x2x64, .f32⟩
  | 107 => ⟨S16x2048x2x32, .f32⟩
  | 108 => ⟨S16x2048x2x32, .f32⟩
  | 109 => ⟨S2048x1x32, .f32⟩
  | 110 => ⟨S2048x1x32, .f32⟩
  | 111 => ⟨S1x2048x1x32, .f32⟩
  | 112 => ⟨S16x2048x2x32, .f32⟩
  | 113 => ⟨S16x2048x2x32, .f32⟩
  | 114 => ⟨S1x2048x1x32, .f32⟩
  | 115 => ⟨S16x2048x2x32, .f32⟩
  | 116 => ⟨S16x2048x2x32, .f32⟩
  | 117 => ⟨S16x2048x2x32, .f32⟩
  | 118 => ⟨S1x2048x1x32, .f32⟩
  | 119 => ⟨S16x2048x2x32, .f32⟩
  | 120 => ⟨S16x2048x2x32, .f32⟩
  | 121 => ⟨S1x2048x1x32, .f32⟩
  | 122 => ⟨S16x2048x2x32, .f32⟩
  | 123 => ⟨S16x2048x2x32, .f32⟩
  | 124 => ⟨S16x2048x2x32, .f32⟩
  | 125 => ⟨S16x2048x2x64, .f32⟩
  | 126 => ⟨S16x2048x2x128, .f32⟩
  | 127 => ⟨S1x512, .f32⟩
  | _ => ⟨S16x2048x2048, .f32⟩

abbrev hbmTy0_2 (i : Nat) : BufTy := match i % 128 with
  | 0 => ⟨S512, .f32⟩
  | 1 => ⟨S16x2048x512, .f32⟩
  | 2 => ⟨S_, .f32⟩
  | 3 => ⟨S16x2048, .f32⟩
  | 4 => ⟨S16x2048x1, .f32⟩
  | 5 => ⟨S_, .f32⟩
  | 6 => ⟨S16x2048x1, .f32⟩
  | 7 => ⟨S16x2048x1, .f32⟩
  | 8 => ⟨S_, .f32⟩
  | 9 => ⟨S16x2048x1, .f32⟩
  | 10 => ⟨S16x2048x1, .f32⟩
  | 11 => ⟨S16x2048x1, .f32⟩
  | 12 => ⟨S16x2048x512, .f32⟩
  | 13 => ⟨S16x2048x512, .f32⟩
  | 14 => ⟨S1x1x512, .f32⟩
  | 15 => ⟨S16x2048x512, .f32⟩
  | 16 => ⟨S16x2048x512, .f32⟩
  | 17 => ⟨S1x512x768, .f32⟩
  | 18 => ⟨S512x768, .f32⟩
  | 19 => ⟨S16x2048x768, .f32⟩
  | 20 => ⟨S16x2048x4x192, .f32⟩
  | 21 => ⟨S1x256, .f32⟩
  | 22 => ⟨S256, .f32⟩
  | 23 => ⟨S16x2048x256, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S_, .f32⟩
  | 31 => ⟨S16x2048x1, .f32⟩
  | 32 => ⟨S16x2048x1, .f32⟩
  | 33 => ⟨S16x2048x1, .f32⟩
  | 34 => ⟨S16x2048x256, .f32⟩
  | 35 => ⟨S16x2048x256, .f32⟩
  | 36 => ⟨S1x1x256, .f32⟩
  | 37 => ⟨S16x2048x256, .f32⟩
  | 38 => ⟨S16x2048x256, .f32⟩
  | 39 => ⟨S1x256x1024, .f32⟩
  | 40 => ⟨S256x1024, .f32⟩
  | 41 => ⟨S16x2048x1024, .f32⟩
  | 42 => ⟨S16x2048x4x256, .f32⟩
  | 43 => ⟨S16x2048x4x64, .f32⟩
  | 44 => ⟨S16x2048x4x32, .f32⟩
  | 45 => ⟨S16x2048x4x32, .f32⟩
  | 46 => ⟨S16x2048x4x16, .f32⟩
  | 47 => ⟨S16x2048x4x16, .f32⟩
  | 48 => ⟨S2048x1x16, .f32⟩
  | 49 => ⟨S2048x1x16, .f32⟩
  | 50 => ⟨S1x2048x1x16, .f32⟩
  | 51 => ⟨S16x2048x4x16, .f32⟩
  | 52 => ⟨S16x2048x4x16, .f32⟩
  | 53 => ⟨S1x2048x1x16, .f32⟩
  | 54 => ⟨S16x2048x4x16, .f32⟩
  | 55 => ⟨S16x2048x4x16, .f32⟩
  | 56 => ⟨S16x2048x4x16, .f32⟩
  | 57 => ⟨S1x2048x1x16, .f32⟩
  | 58 => ⟨S16x2048x4x16, .f32⟩
  | 59 => ⟨S16x2048x4x16, .f32⟩
  | 60 => ⟨S1x2048x1x16, .f32⟩
  | 61 => ⟨S16x2048x4x16, .f32⟩
  | 62 => ⟨S16x2048x4x16, .f32⟩
  | 63 => ⟨S16x2048x4x16, .f32⟩
  | 64 => ⟨S16x2048x4x32, .f32⟩
  | 65 => ⟨S16x2048x4x16, .f32⟩
  | 66 => ⟨S16x2048x4x16, .f32⟩
  | 67 => ⟨S2048x1x16, .f32⟩
  | 68 => ⟨S2048x1x16, .f32⟩
  | 69 => ⟨S1x2048x1x16, .f32⟩
  | 70 => ⟨S16x2048x4x16, .f32⟩
  | 71 => ⟨S16x2048x4x16, .f32⟩
  | 72 => ⟨S1x2048x1x16, .f32⟩
  | 73 => ⟨S16x2048x4x16, .f32⟩
  | 74 => ⟨S16x2048x4x16, .f32⟩
  | 75 => ⟨S16x2048x4x16, .f32⟩
  | 76 => ⟨S1x2048x1x16, .f32⟩
  | 77 => ⟨S16x2048x4x16, .f32⟩
  | 78 => ⟨S16x2048x4x16, .f32⟩
  | 79 => ⟨S1x2048x1x16, .f32⟩
  | 80 => ⟨S16x2048x4x16, .f32⟩
  | 81 => ⟨S16x2048x4x16, .f32⟩
  | 82 => ⟨S16x2048x4x16, .f32⟩
  | 83 => ⟨S16x2048x4x32, .f32⟩
  | 84 => ⟨S16x2048x4x64, .f32⟩
  | 85 => ⟨S16x2048x1x64, .f32⟩
  | 86 => ⟨S16x2048x1x32, .f32⟩
  | 87 => ⟨S16x2048x1x32, .f32⟩
  | 88 => ⟨S16x2048x1x16, .f32⟩
  | 89 => ⟨S16x2048x1x16, .f32⟩
  | 90 => ⟨S2048x1x16, .f32⟩
  | 91 => ⟨S2048x1x16, .f32⟩
  | 92 => ⟨S1x2048x1x16, .f32⟩
  | 93 => ⟨S16x2048x1x16, .f32⟩
  | 94 => ⟨S16x2048x1x16, .f32⟩
  | 95 => ⟨S1x2048x1x16, .f32⟩
  | 96 => ⟨S16x2048x1x16, .f32⟩
  | 97 => ⟨S16x2048x1x16, .f32⟩
  | 98 => ⟨S16x2048x1x16, .f32⟩
  | 99 => ⟨S1x2048x1x16, .f32⟩
  | 100 => ⟨S16x2048x1x16, .f32⟩
  | 101 => ⟨S16x2048x1x16, .f32⟩
  | 102 => ⟨S1x2048x1x16, .f32⟩
  | 103 => ⟨S16x2048x1x16, .f32⟩
  | 104 => ⟨S16x2048x1x16, .f32⟩
  | 105 => ⟨S16x2048x1x16, .f32⟩
  | 106 => ⟨S16x2048x1x32, .f32⟩
  | 107 => ⟨S16x2048x1x16, .f32⟩
  | 108 => ⟨S16x2048x1x16, .f32⟩
  | 109 => ⟨S2048x1x16, .f32⟩
  | 110 => ⟨S2048x1x16, .f32⟩
  | 111 => ⟨S1x2048x1x16, .f32⟩
  | 112 => ⟨S16x2048x1x16, .f32⟩
  | 113 => ⟨S16x2048x1x16, .f32⟩
  | 114 => ⟨S1x2048x1x16, .f32⟩
  | 115 => ⟨S16x2048x1x16, .f32⟩
  | 116 => ⟨S16x2048x1x16, .f32⟩
  | 117 => ⟨S16x2048x1x16, .f32⟩
  | 118 => ⟨S1x2048x1x16, .f32⟩
  | 119 => ⟨S16x2048x1x16, .f32⟩
  | 120 => ⟨S16x2048x1x16, .f32⟩
  | 121 => ⟨S1x2048x1x16, .f32⟩
  | 122 => ⟨S16x2048x1x16, .f32⟩
  | 123 => ⟨S16x2048x1x16, .f32⟩
  | 124 => ⟨S16x2048x1x16, .f32⟩
  | 125 => ⟨S16x2048x1x32, .f32⟩
  | 126 => ⟨S16x2048x1x64, .f32⟩
  | 127 => ⟨S_, .f32⟩
  | _ => ⟨S16x2048x2048, .f32⟩

abbrev hbmTy0_3 (i : Nat) : BufTy := match i % 128 with
  | 0 => ⟨S16x2048x4x64, .f32⟩
  | 1 => ⟨S16x2048x4x128, .f32⟩
  | 2 => ⟨S16x2048x4x256, .f32⟩
  | 3 => ⟨S16x2048x4x128, .f32⟩
  | 4 => ⟨S16x2048x4x64, .f32⟩
  | 5 => ⟨S16x2048x4x256, .f32⟩
  | 6 => ⟨S16x2048x4x128, .f32⟩
  | 7 => ⟨S16x2048x768, .f32⟩
  | 8 => ⟨S16x2048x256, .f32⟩
  | 9 => ⟨S16x2048x256, .f32⟩
  | 10 => ⟨S16x2048x2x384, .f32⟩
  | 11 => ⟨S16x2048x2x128, .f32⟩
  | 12 => ⟨S16x2048x2x128, .f32⟩
  | 13 => ⟨S16x2048x2x640, .f32⟩
  | 14 => ⟨S16x2048x2x2x6, .f32⟩
  | 15 => ⟨S16x2048x1x2x6, .f32⟩
  | 16 => ⟨S16x2048x2x6, .f32⟩
  | 17 => ⟨S16x2048x1x2x6, .f32⟩
  | 18 => ⟨S16x2048x2x6, .f32⟩
  | 19 => ⟨S_, .f32⟩
  | 20 => ⟨S16x2048x2x116, .f32⟩
  | 21 => ⟨S16x2048x2x128, .f32⟩
  | 22 => ⟨S16x2048x1280, .f32⟩
  | 23 => ⟨S16x2048x1280, .bf16⟩
  | 24 => ⟨S16x2048x768, .bf16⟩
  | 25 => ⟨S16x2048x256, .f32⟩
  | 26 => ⟨S16x2048x768, .f32⟩
  | 27 => ⟨S16x768x2048, .f32⟩
  | 28 => ⟨S16x2048x256, .f32⟩
  | 29 => ⟨S16x2048x256, .bf16⟩
  | 30 => ⟨S16x256x2048, .f32⟩
  | 31 => ⟨S16x256x2048, .bf16⟩
  | 32 => ⟨S16x2048x1024, .f32⟩
  | 33 => ⟨S16x1024x2048, .f32⟩
  | 34 => ⟨S16x2048x1024, .f32⟩
  | 35 => ⟨S16x2048x1024, .bf16⟩
  | 36 => ⟨S16x2048x512, .f32⟩
  | 37 => ⟨S16x512x2048, .f32⟩
  | 38 => ⟨S16x512x2048, .bf16⟩
  | _ => ⟨S16x2048x2048, .f32⟩

abbrev hbmTy (i : Nat) : BufTy := match i / 128 with
  | 0 => hbmTy0_0 i
  | 1 => hbmTy0_1 i
  | 2 => hbmTy0_2 i
  | 3 => hbmTy0_3 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_7 : Ref sig .tc := ⟨.hbm, 101, rfl⟩
abbrev main_v83 : Ref sig .tc := ⟨.hbm, 102, rfl⟩
abbrev main_v84 : Ref sig .tc := ⟨.hbm, 103, rfl⟩
abbrev main_cst_8 : Ref sig .tc := ⟨.hbm, 104, rfl⟩
abbrev main_v85 : Ref sig .tc := ⟨.hbm, 105, rfl⟩
abbrev main_v86 : Ref sig .tc := ⟨.hbm, 106, rfl⟩
abbrev main_cst_9 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_10 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_11 : Ref sig .tc := ⟨.hbm, 139, rfl⟩
abbrev main_v117 : Ref sig .tc := ⟨.hbm, 140, rfl⟩
abbrev main_v118 : Ref sig .tc := ⟨.hbm, 141, rfl⟩
abbrev main_cst_12 : Ref sig .tc := ⟨.hbm, 142, rfl⟩
abbrev main_v119 : Ref sig .tc := ⟨.hbm, 143, rfl⟩
abbrev main_v120 : Ref sig .tc := ⟨.hbm, 144, rfl⟩
abbrev main_cst_13 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_14 : Ref sig .tc := ⟨.hbm, 199, rfl⟩
abbrev main_v174 : Ref sig .tc := ⟨.hbm, 200, rfl⟩
abbrev main_v175 : Ref sig .tc := ⟨.hbm, 201, rfl⟩
abbrev main_cst_15 : Ref sig .tc := ⟨.hbm, 202, rfl⟩
abbrev main_v176 : Ref sig .tc := ⟨.hbm, 203, rfl⟩
abbrev main_v177 : Ref sig .tc := ⟨.hbm, 204, rfl⟩
abbrev main_cst_16 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_cst_17 : Ref sig .tc := ⟨.hbm, 258, rfl⟩
abbrev main_v230 : Ref sig .tc := ⟨.hbm, 259, rfl⟩
abbrev main_v231 : Ref sig .tc := ⟨.hbm, 260, rfl⟩
abbrev main_cst_18 : Ref sig .tc := ⟨.hbm, 261, rfl⟩
abbrev main_v232 : Ref sig .tc := ⟨.hbm, 262, rfl⟩
abbrev main_v233 : Ref sig .tc := ⟨.hbm, 263, rfl⟩
abbrev main_cst_19 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_cst_20 : Ref sig .tc := ⟨.hbm, 280, rfl⟩
abbrev main_v249 : Ref sig .tc := ⟨.hbm, 281, rfl⟩
abbrev main_v250 : Ref sig .tc := ⟨.hbm, 282, rfl⟩
abbrev main_cst_21 : Ref sig .tc := ⟨.hbm, 283, rfl⟩
abbrev main_v251 : Ref sig .tc := ⟨.hbm, 284, rfl⟩
abbrev main_v252 : Ref sig .tc := ⟨.hbm, 285, rfl⟩
abbrev main_cst_22 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_cst_23 : Ref sig .tc := ⟨.hbm, 383, rfl⟩
abbrev main_v349 : Ref sig .tc := ⟨.hbm, 384, rfl⟩
abbrev main_v350 : Ref sig .tc := ⟨.hbm, 385, rfl⟩
abbrev main_v351 : Ref sig .tc := ⟨.hbm, 386, rfl⟩
abbrev main_v352 : Ref sig .tc := ⟨.hbm, 387, rfl⟩
abbrev main_v353 : Ref sig .tc := ⟨.hbm, 388, rfl⟩
abbrev main_v354 : Ref sig .tc := ⟨.hbm, 389, rfl⟩
abbrev main_v355 : Ref sig .tc := ⟨.hbm, 390, rfl⟩
abbrev main_v356 : Ref sig .tc := ⟨.hbm, 391, rfl⟩
abbrev main_v357 : Ref sig .tc := ⟨.hbm, 392, rfl⟩
abbrev main_v358 : Ref sig .tc := ⟨.hbm, 393, rfl⟩
abbrev main_v359 : Ref sig .tc := ⟨.hbm, 394, rfl⟩
abbrev main_v360 : Ref sig .tc := ⟨.hbm, 395, rfl⟩
abbrev main_v361 : Ref sig .tc := ⟨.hbm, 396, rfl⟩
abbrev main_v362 : Ref sig .tc := ⟨.hbm, 397, rfl⟩
abbrev main_v363 : Ref sig .tc := ⟨.hbm, 398, rfl⟩
abbrev main_v364 : Ref sig .tc := ⟨.hbm, 399, rfl⟩
abbrev main_v365 : Ref sig .tc := ⟨.hbm, 400, rfl⟩
abbrev main_v366 : Ref sig .tc := ⟨.hbm, 401, rfl⟩
abbrev main_v367 : Ref sig .tc := ⟨.hbm, 402, rfl⟩
abbrev main_cst_24 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_v371 : Ref sig .tc := ⟨.hbm, 407, rfl⟩
abbrev main_v372 : Ref sig .tc := ⟨.hbm, 408, rfl⟩
abbrev main_v373 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩
abbrev main_v377 : Ref sig .tc := ⟨.hbm, 413, rfl⟩
abbrev main_v378 : Ref sig .tc := ⟨.hbm, 414, rfl⟩
abbrev main_v379 : Ref sig .tc := ⟨.hbm, 415, rfl⟩
abbrev main_v380 : Ref sig .tc := ⟨.hbm, 416, rfl⟩
abbrev main_v381 : Ref sig .tc := ⟨.hbm, 417, rfl⟩
abbrev main_v382 : Ref sig .tc := ⟨.hbm, 418, rfl⟩
abbrev main_v383 : Ref sig .tc := ⟨.hbm, 419, rfl⟩
abbrev main_v384 : Ref sig .tc := ⟨.hbm, 420, rfl⟩
abbrev main_v385 : Ref sig .tc := ⟨.hbm, 421, rfl⟩
abbrev main_v386 : Ref sig .tc := ⟨.hbm, 422, rfl⟩

abbrev nD : Nat := 1
abbrev τ : Topo := Topo.v7x

variable {F : FTy → Type} [FloatOps F]
-- ==== Proof.Softmax.lean ====
/- Softmax over extended reals: the average of values under the weights `e^ρ`, computed in one pass with a subtracted
   maximum (as a reference does) or chunk by chunk with a running maximum in base two (as a kernel does). The scores are
   real numbers. The values may be infinite. -/
module

public import Idealize.ShloMosaic.PureOps.Ideal.Laws
public import Idealize.ShloMosaic.Lib.IdealHost

@[expose] public section

noncomputable section

namespace Cert.Proof.Softmax

open Idealize.ShloMosaic
open scoped BigOperators

/-- The bit pattern of minus infinity. -/
theorem ofBits_negInf : Ideal.ofBits .f32 0xFF800000#32 = (⊥ : EReal) := by simp [Ideal.ofBits, Ideal.ieee]
/-- The bit pattern of plus infinity. -/
theorem ofBits_posInf : Ideal.ofBits .f32 0x7F800000#32 = (⊤ : EReal) := by simp [Ideal.ofBits, Ideal.ieee]

/-- The average of `v` under the weights `e^ρ`, divided by their sum. -/
def smx {n : ℕ} (ρ : Fin n → ℝ) (v : Fin n → EReal) : EReal :=
  ∑ s, v s * ((Real.exp (ρ s) / ∑ t, Real.exp (ρ t) : ℝ) : EReal)

/-- A real factor that is not negative goes into a sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A sum of real numbers read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many real numbers, at least one, is a real number. -/
theorem foldMax_real {n : ℕ} [NeZero n] (f : Fin n → EReal) (r : Fin n → ℝ) (h : ∀ i, f i = (r i : EReal)) :
    ∃ μ : ℝ, (Finset.univ.fold max (⊥ : EReal) f) = (μ : EReal) := by
  have hb : Finset.univ.fold max (⊥ : EReal) f ≠ ⊥ := by
    intro e
    have h0 : f 0 ≤ Finset.univ.fold max (⊥ : EReal) f :=
      (Finset.le_fold_max _).mpr (Or.inr ⟨0, Finset.mem_univ _, le_refl _⟩)
    rw [e, h 0] at h0
    exact absurd (le_bot_iff.mp h0) (EReal.coe_ne_bot _)
  have ht : Finset.univ.fold max (⊥ : EReal) f ≠ ⊤ := by
    have : Finset.univ.fold max (⊥ : EReal) f < ⊤ :=
      (Finset.fold_max_lt _).mpr ⟨bot_lt_top, fun i _ => by rw [h i]; exact EReal.coe_lt_top _⟩
    exact this.ne
  exact ⟨_, (EReal.coe_toReal ht hb).symm⟩

/-! ## Chunk by chunk, in base two -/

/-- The weight of a score. -/
def wt (r : ℝ) : ℝ := (2 : ℝ) ^ r

theorem wt_pos (r : ℝ) : 0 < wt r := Real.rpow_pos_of_pos two_pos r

theorem wt_add (a b : ℝ) : wt (a + b) = wt a * wt b := Real.rpow_add two_pos a b

theorem exp2_sub (a b : ℝ) : Ideal.exp2 ((a : EReal) - (b : EReal)) = ((wt a * wt (-b) : ℝ) : EReal) := by
  rw [← EReal.coe_sub, Ideal.exp2_coe, ← wt_add, ← sub_eq_add_neg]; rfl

/-- What the running maximum `m`, the running sum `l` and the running product `a` hold after some scores, whose weights
    sum to `W` and weigh the values to `A`: both are scaled by the weight of minus the maximum. -/
def Inv (m l a : EReal) (W : ℝ) (A : EReal) : Prop :=
  ∃ μ : ℝ, m = (μ : EReal) ∧ l = ((W * wt (-μ) : ℝ) : EReal) ∧ a = A * ((wt (-μ) : ℝ) : EReal)

variable {n : ℕ} [NeZero n]

/-- The weights' sum of one chunk. -/
def csum (r : Fin n → ℝ) : ℝ := ∑ j, wt (r j)
/-- The weighed values' sum of one chunk. -/
def cval (r : Fin n → ℝ) (v : Fin n → EReal) : EReal := ∑ j, v j * ((wt (r j) : ℝ) : EReal)

theorem csum_pos (r : Fin n → ℝ) : 0 < csum r :=
  Finset.sum_pos (fun j _ => wt_pos _) ⟨0, Finset.mem_univ _⟩

theorem chunk_sum (s : Fin n → EReal) (r : Fin n → ℝ) (h : ∀ j, s j = (r j : EReal)) (μ : ℝ) :
    ∑ j, Ideal.exp2 (s j - (μ : EReal)) = ((csum r * wt (-μ) : ℝ) : EReal) := by
  simp only [h, exp2_sub]
  rw [← coe_sum, csum, Finset.sum_mul]

theorem chunk_val (s : Fin n → EReal) (r : Fin n → ℝ) (v : Fin n → EReal) (h : ∀ j, s j = (r j : EReal)) (μ : ℝ) :
    ∑ j, v j * Ideal.exp2 (s j - (μ : EReal)) = cval r v * ((wt (-μ) : ℝ) : EReal) := by
  simp only [h, exp2_sub]
  rw [cval, sum_mul_coe _ _ _ (wt_pos _).le]
  exact Finset.sum_congr rfl fun j _ => by rw [EReal.coe_mul, mul_assoc]

/-- The first chunk. -/
theorem inv_first (s : Fin n → EReal) (r : Fin n → ℝ) (v : Fin n → EReal) (h : ∀ j, s j = (r j : EReal)) (m : EReal)
    (hm : m = Finset.univ.fold max (⊥ : EReal) s) :
    Inv m (∑ j, Ideal.exp2 (s j - m)) (∑ j, v j * Ideal.exp2 (s j - m)) (csum r) (cval r v) := by
  obtain ⟨μ, hμ⟩ := foldMax_real s r h
  rw [hm, hμ]
  exact ⟨μ, rfl, chunk_sum s r h μ, chunk_val s r v h μ⟩

/-- A further chunk. -/
theorem inv_next {m l a : EReal} {W : ℝ} {A : EReal} (hI : Inv m l a W A) (s : Fin n → EReal) (r : Fin n → ℝ)
    (v : Fin n → EReal) (h : ∀ j, s j = (r j : EReal)) (m' : EReal)
    (hm : m' = max m (Finset.univ.fold max (⊥ : EReal) s)) :
    Inv m' (Ideal.exp2 (m - m') * l + ∑ j, Ideal.exp2 (s j - m'))
      (Ideal.exp2 (m - m') * a + ∑ j, v j * Ideal.exp2 (s j - m')) (W + csum r) (A + cval r v) := by
  obtain ⟨μ, rfl, rfl, rfl⟩ := hI
  obtain ⟨μc, hμc⟩ := foldMax_real s r h
  have hm' : m' = ((max μ μc : ℝ) : EReal) := by rw [hm, hμc]; exact (EReal.coe_strictMono.monotone.map_max).symm
  rw [hm']
  generalize max μ μc = ν
  have e1 : wt μ * wt (-ν) * wt (-μ) = wt (-ν) := by
    rw [mul_right_comm, ← wt_add, add_neg_cancel]; simp [wt]
  refine ⟨ν, rfl, ?_, ?_⟩
  · rw [chunk_sum s r h, exp2_sub, ← EReal.coe_mul, ← EReal.coe_add]
    congr 1
    rw [show wt μ * wt (-ν) * (W * wt (-μ)) = W * (wt μ * wt (-ν) * wt (-μ)) by ring, e1]; ring
  · rw [chunk_val s r v h, exp2_sub, mul_comm _ (A * _), mul_assoc, ← EReal.coe_mul, mul_comm (wt (-μ)), e1]
    exact (EReal.right_distrib_of_nonneg_of_ne_top (EReal.coe_nonneg.mpr (wt_pos _).le) (EReal.coe_ne_top _) _ _).symm

/-- The product scaled by one over the sum: the maximum is gone. -/
theorem inv_last {m l a : EReal} {W : ℝ} {A : EReal} (hI : Inv m l a W A) (hW : 0 < W) :
    a * Ideal.div 1 l = A * ((1 / W : ℝ) : EReal) := by
  obtain ⟨μ, rfl, rfl, rfl⟩ := hI
  have hp := wt_pos (-μ)
  rw [Ideal.div_coe (mul_pos hW hp).ne', one_mul, mul_assoc, ← EReal.coe_mul]
  congr 2
  field_simp

/-! ## In one pass -/

/-- A softmax with its maximum subtracted, or anything real in its place. -/
theorem one_pass (s : Fin n → EReal) (ρ : Fin n → ℝ) (v : Fin n → EReal) (h : ∀ j, s j = (ρ j : EReal)) (M : EReal)
    (hM : ∃ μ : ℝ, M = (μ : EReal)) :
    ∑ j, v j * Ideal.div (Ideal.exp (s j - M)) (∑ t, Ideal.exp (s t - M)) = smx ρ v := by
  obtain ⟨μ, rfl⟩ := hM
  have e : ∀ j, Ideal.exp (s j - (μ : EReal)) = ((Real.exp (ρ j) * Real.exp (-μ) : ℝ) : EReal) := fun j => by
    rw [h j, ← EReal.coe_sub, Ideal.exp_coe, ← Real.exp_add, ← sub_eq_add_neg]
  simp only [e]
  rw [← coe_sum, ← Finset.sum_mul]
  have hp : 0 < ∑ t, Real.exp (ρ t) := Finset.sum_pos (fun j _ => Real.exp_pos _) ⟨0, Finset.mem_univ _⟩
  have hq : 0 < Real.exp (-μ) := Real.exp_pos _
  refine Finset.sum_congr rfl fun j _ => ?_
  rw [Ideal.div_coe (mul_pos hp hq).ne', ← EReal.coe_mul]
  congr 2
  field_simp

/-! ## The two agree -/

/-- The weight in base two of a score divided by the logarithm of two. -/
theorem wt_div_log (ρ : ℝ) : wt (ρ * (Real.log 2)⁻¹) = Real.exp ρ := by
  have h2 : Real.log 2 ≠ 0 := (Real.log_pos one_lt_two).ne'
  rw [wt, Real.rpow_def_of_pos two_pos]
  congr 1
  field_simp

/-- A sum over 2048 places is four sums over 512. -/
theorem sum_four {α : Type*} [AddCommMonoid α] (f : Fin 2048 → α) :
    ∑ i, f i = ∑ j : Fin 512, f ⟨j.val, by omega⟩ + ∑ j : Fin 512, f ⟨512 + j.val, by omega⟩
      + ∑ j : Fin 512, f ⟨1024 + j.val, by omega⟩ + ∑ j : Fin 512, f ⟨1536 + j.val, by omega⟩ := by
  rw [Fin.sum_univ_add (a := 1536) (b := 512) f, Fin.sum_univ_add (a := 1024) (b := 512), Fin.sum_univ_add (a := 512) (b := 512)]
  rfl

/-- Place `j` of chunk `c` among 2048 places. -/
def pl (c : Fin 4) (j : Fin 512) : Fin 2048 := ⟨512 * c.val + j.val, by omega⟩

/-- The four chunks' weighed values over their weights are the softmax average over the whole. -/
theorem four_chunks (ρ : Fin 2048 → ℝ) (v : Fin 2048 → EReal) (r : Fin 2048 → ℝ) (hr : ∀ s, wt (r s) = Real.exp (ρ s)) :
    (cval (fun j => r (pl 0 j)) (fun j => v (pl 0 j)) + cval (fun j => r (pl 1 j)) (fun j => v (pl 1 j))
      + cval (fun j => r (pl 2 j)) (fun j => v (pl 2 j)) + cval (fun j => r (pl 3 j)) (fun j => v (pl 3 j)))
      * ((1 / (csum (fun j => r (pl 0 j)) + csum (fun j => r (pl 1 j)) + csum (fun j => r (pl 2 j))
        + csum (fun j => r (pl 3 j))) : ℝ) : EReal)
      = smx ρ v := by
  have hW : csum (fun j => r (pl 0 j)) + csum (fun j => r (pl 1 j)) + csum (fun j => r (pl 2 j))
      + csum (fun j => r (pl 3 j)) = ∑ t, Real.exp (ρ t) := by
    rw [sum_four (fun t => Real.exp (ρ t))]
    simp only [csum, hr, pl]
    simp
  have hA : cval (fun j => r (pl 0 j)) (fun j => v (pl 0 j)) + cval (fun j => r (pl 1 j)) (fun j => v (pl 1 j))
      + cval (fun j => r (pl 2 j)) (fun j => v (pl 2 j)) + cval (fun j => r (pl 3 j)) (fun j => v (pl 3 j))
      = ∑ s, v s * ((Real.exp (ρ s) : ℝ) : EReal) := by
    rw [sum_four (fun s => v s * ((Real.exp (ρ s) : ℝ) : EReal))]
    simp only [cval, hr, pl]
    simp
  have hp : 0 < ∑ t, Real.exp (ρ t) := Finset.sum_pos (fun j _ => Real.exp_pos _) ⟨0, Finset.mem_univ _⟩
  rw [hW, hA, sum_mul_coe _ _ _ (by positivity), smx]
  exact Finset.sum_congr rfl fun s _ => by rw [mul_assoc, ← EReal.coe_mul, mul_one_div]

end Cert.Proof.Softmax

end
-- ==== Proof.Online.lean ====
/- One head of an attention block as a kernel computes it: four chunks of 512 keys, a running maximum, a running sum and a
   running product with the values, and the product divided by the sum at the end. The scores stand transposed, a key per
   row and a query per column. Read at the exact instance, entry by entry, it is the softmax average of the values. -/
module

public import proofs.«01_k».proof.Proof.Softmax
public import Idealize.ShloMosaic.Lib.Pointwise

@[expose] public section

set_option maxRecDepth 16384

noncomputable section

namespace Cert.Proof.Online

open Idealize.ShloMosaic
open Cert.Proof.Softmax

variable {F : FTy → Type} [FloatOps F]

abbrev Sq : Shape := ⟨2, ![512, 512]⟩
abbrev Row : Shape := ⟨2, ![1, 512]⟩
abbrev Line : Shape := ⟨1, ![512]⟩
abbrev Val : Shape := ⟨2, ![128, 512]⟩
abbrev Flip : Shape := ⟨2, ![512, 128]⟩
abbrev Blk : Shape := ⟨3, ![1, 512, 128]⟩

/-- Values times weights. -/
def dotv : DotDims Val Sq Val where
  lhsContracting := [1]
  rhsContracting := [0]
  lhsNonContracting := [0]
  rhsNonContracting := [1]
  lhsBatch := []
  rhsBatch := []
  wf := by decide

/-- Each column's maximum. -/
def colMax (st : FVec F Sq .f32) : FVec F Row .f32 :=
  shapeCast Row (multiReduction .maximumf [0] Line st 0xFF800000#32 (by decide) (.inl rfl) rfl) (by decide)

/-- The weights under a maximum. -/
def weights (st : FVec F Sq .f32) (m : FVec F Row .f32) : FVec F Sq .f32 :=
  exp2 (subf st (broadcastTo Sq m (by decide)))

/-- Each column's sum. -/
def colSum (p : FVec F Sq .f32) : FVec F Row .f32 :=
  shapeCast Row (multiReduction .add [0] Line p 0x00000000#32 (by decide) (.inl rfl) rfl) (by decide)

/-- The values weighed. -/
def weigh (v : FVec F Val .bf16) (p : FVec F Sq .f32) : FVec F Val .f32 :=
  matmul dotv none v (truncf .bf16 p (by decide)) (constant Val .f32 0x00000000#32)

/-- The new maximum, sum and product after a further chunk. -/
def nextMax (m : FVec F Row .f32) (st : FVec F Sq .f32) : FVec F Row .f32 := maximumf m (colMax st)

def nextSum (m l : FVec F Row .f32) (st : FVec F Sq .f32) : FVec F Row .f32 :=
  addf (mulf (exp2 (subf m (nextMax m st))) l) (colSum (weights st (nextMax m st)))

def nextVal (m : FVec F Row .f32) (a : FVec F Val .f32) (st : FVec F Sq .f32) (v : FVec F Val .bf16) : FVec F Val .f32 :=
  addf (mulf (broadcastTo Val (exp2 (subf m (nextMax m st))) (by decide)) a) (weigh v (weights st (nextMax m st)))

/-- The product over the sum, the other way round and narrowed. -/
def finish (l : FVec F Row .f32) (a : FVec F Val .f32) : FVec F Blk .bf16 :=
  shapeCast Blk (truncf .bf16 (transpose Flip [1, 0]
    (mulf a (broadcastTo Val (divf (broadcast Row (Scalar.ofBits .f32 0x3F800000#32)) l) (by decide))) (by decide))
    (by decide)) (by decide)

/-- The whole of one head. -/
def headOut (s0 s1 s2 s3 : FVec F Sq .f32) (v0 v1 v2 v3 : FVec F Val .bf16) : FVec F Blk .bf16 :=
  finish
    (nextSum (nextMax (nextMax (colMax s0) s1) s2)
      (nextSum (nextMax (colMax s0) s1) (nextSum (colMax s0) (colSum (weights s0 (colMax s0))) s1) s2) s3)
    (nextVal (nextMax (nextMax (colMax s0) s1) s2)
      (nextVal (nextMax (colMax s0) s1) (nextVal (colMax s0) (weigh v0 (weights s0 (colMax s0))) s1 v1) s2 v2) s3 v3)

/-! ## Entry by entry, exactly -/

variable (st : FVec Ideal Sq .f32) (m l : FVec Ideal Row .f32) (a : FVec Ideal Val .f32) (v : FVec Ideal Val .bf16)

theorem colMax_apply (q : Fin 512) :
    colMax st (ix2 0 q) = Finset.univ.fold max (⊥ : EReal) fun j : Fin 512 => st (ix2 j q) := by
  pointwise [colMax]
  rw [ofBits_negInf]

theorem weights_apply (j q : Fin 512) : weights st m (ix2 j q) = Ideal.exp2 (st (ix2 j q) - m (ix2 0 q)) := by
  pointwise [weights]
  rfl

theorem colSum_apply (q : Fin 512) : colSum st (ix2 0 q) = ∑ j : Fin 512, st (ix2 j q) := by
  pointwise [colSum]

theorem weigh_apply (d : Fin 128) (q : Fin 512) : weigh v st (ix2 d q) = ∑ j : Fin 512, v (ix2 d j) * st (ix2 j q) := by
  pointwise [weigh, dotv]

theorem nextMax_apply (q : Fin 512) : nextMax m st (ix2 0 q) = max (m (ix2 0 q)) (colMax st (ix2 0 q)) := by
  pointwise [nextMax]

theorem nextSum_apply (q : Fin 512) : nextSum m l st (ix2 0 q)
    = Ideal.exp2 (m (ix2 0 q) - nextMax m st (ix2 0 q)) * l (ix2 0 q)
      + ∑ j : Fin 512, Ideal.exp2 (st (ix2 j q) - nextMax m st (ix2 0 q)) := by
  rw [← Finset.sum_congr rfl fun j _ => weights_apply st (nextMax m st) j q, ← colSum_apply]
  pointwise [nextSum]
  rfl

theorem nextVal_apply (d : Fin 128) (q : Fin 512) : nextVal m a st v (ix2 d q)
    = Ideal.exp2 (m (ix2 0 q) - nextMax m st (ix2 0 q)) * a (ix2 d q)
      + ∑ j : Fin 512, v (ix2 d j) * Ideal.exp2 (st (ix2 j q) - nextMax m st (ix2 0 q)) := by
  rw [← Finset.sum_congr rfl fun j _ => congrArg (v (ix2 d j) * ·) (weights_apply st (nextMax m st) j q), ← weigh_apply]
  pointwise [nextVal]
  rfl

theorem finish_apply (q : Fin 512) (d : Fin 128) :
    finish l a (ix3 0 q d) = a (ix2 d q) * Ideal.div 1 (l (ix2 0 q)) := by
  pointwise [finish]

/-- One head at a query and a value channel: the scores, in base two, being real. -/
theorem headOut_apply (s : Fin 4 → FVec Ideal Sq .f32) (w : Fin 4 → FVec Ideal Val .bf16) (q : Fin 512) (d : Fin 128)
    (r ρ : Fin 2048 → ℝ) (hs : ∀ c j, s c (ix2 j q) = (r (pl c j) : EReal)) (hr : ∀ t, wt (r t) = Real.exp (ρ t))
    (V : Fin 2048 → EReal) (hv : ∀ c j, w c (ix2 d j) = V (pl c j)) :
    headOut (s 0) (s 1) (s 2) (s 3) (w 0) (w 1) (w 2) (w 3) (ix3 0 q d) = smx ρ V := by
  rw [headOut, finish_apply, ← four_chunks ρ V r hr]
  have i0 : Inv (colMax (s 0) (ix2 0 q)) (colSum (weights (s 0) (colMax (s 0))) (ix2 0 q))
      (weigh (w 0) (weights (s 0) (colMax (s 0))) (ix2 d q)) (csum fun j => r (pl 0 j))
      (cval (fun j => r (pl 0 j)) fun j => V (pl 0 j)) := by
    rw [colSum_apply, weigh_apply]
    simp only [weights_apply, hv]
    exact inv_first (fun j => s 0 (ix2 j q)) _ _ (hs 0) _ (colMax_apply _ _)
  have next : ∀ (c : Fin 4) (m l : FVec Ideal Row .f32) (a : FVec Ideal Val .f32) (W : ℝ) (A : EReal),
      Inv (m (ix2 0 q)) (l (ix2 0 q)) (a (ix2 d q)) W A →
      Inv (nextMax m (s c) (ix2 0 q)) (nextSum m l (s c) (ix2 0 q)) (nextVal m a (s c) (w c) (ix2 d q))
        (W + csum fun j => r (pl c j)) (A + cval (fun j => r (pl c j)) fun j => V (pl c j)) := by
    intro c m l a W A hI
    rw [nextSum_apply, nextVal_apply]
    simp only [hv]
    exact inv_next hI (fun j => s c (ix2 j q)) _ _ (hs c) _ (by rw [nextMax_apply, colMax_apply])
  have i3 := next 3 _ _ _ _ _ (next 2 _ _ _ _ _ (next 1 _ _ _ _ _ i0))
  exact inv_last i3 (by have := fun c : Fin 4 => csum_pos fun j => r (pl c j); have h0 := this 0; have h1 := this 1
                        have h2 := this 2; have h3 := this 3; linarith)

end Cert.Proof.Online

end
-- ==== Proof.Attn.lean ====
/- What the attention kernel leaves of one block, head by head. -/
module

public import proofs.«01_k».proof.Proof.Online
public import proofs.«01_k».proof.Proof.Gen.KernelIdeal.Value

@[expose] public section

set_option maxRecDepth 16384

noncomputable section

namespace Cert.Proof.Attn

open Cert.KernelIdeal Cert.KernelIdeal.Gen Idealize.ShloMosaic Idealize.ShloMosaic.TcCoe
open Cert.Proof.Online Cert.Proof.Softmax

section Pieces

variable {F : FTy → Type} [FloatOps F] [Named F]

/-- The queries of one head, scaled. -/
def scaled (x : Vec F S1x128x512 .f32) : FVec F S128x512 .bf16 :=
  truncf .bf16 (mulf (shapeCast S128x512 x (by decide)) (broadcast S128x512 (Named.named κ "qscale" 0x3E0293EE#32))) (by decide)

/-- The scores of one chunk of keys. -/
def chunk (x : Vec F S1x128x512 .f32) (k : Vec F S1x512x128 .bf16) : FVec F S512x512 .f32 :=
  matmul dot_S512x128_S128x512_S512x512_1_0_0_1_n_n none (shapeCast S512x128 k (by decide)) (scaled x)
    (constant S512x512 .f32 0x00000000#32)

/-- The values of one chunk. -/
def chunkV (v : Vec F S1x128x512 .bf16) : FVec F S128x512 .bf16 := shapeCast S128x512 v (by decide)

/-- One head from the blocks. -/
def head (x : Vec F S1x128x512 .f32) (x1 : Vec F S1x2048x128 .bf16) (x2 : Vec F S1x128x2048 .bf16) : FVec F S1x512x128 .bf16 :=
  headOut (chunk x (View.ld x1 r0_3)) (chunk x (View.ld x1 r0_4)) (chunk x (View.ld x1 r0_6)) (chunk x (View.ld x1 r0_8))
    (chunkV (View.ld x2 r0_5)) (chunkV (View.ld x2 r0_7)) (chunkV (View.ld x2 r0_9)) (chunkV (View.ld x2 r0_10))

/-- The three stores are the three heads. -/
theorem out_eq (x0 : Vec F S1x384x512 .f32) (x1 : Vec F S1x2048x128 .bf16) (x2 : Vec F S1x128x2048 .bf16) :
    out0_3 x0 x1 x2 = View.canon [⟨r0_13, head (View.ld x0 r0_2) x1 x2⟩, ⟨r0_12, head (View.ld x0 r0_1) x1 x2⟩,
      ⟨r0_11, head (View.ld x0 r0_0) x1 x2⟩] := rfl

end Pieces

/-! ## One head, exactly -/

/-- The value that scales the queries: one over the root of the head's size, and one over the logarithm of two. -/
def qs : ℝ := (Real.sqrt 128)⁻¹ * (Real.log 2)⁻¹

theorem named_qs : (Named.named (F := Ideal) κ "qscale" 0x3E0293EE#32 : Ideal .f32) = (qs : EReal) := rfl

theorem scaled_apply (x : Vec Ideal S1x128x512 .f32) (e : Fin 128) (q : Fin 512) :
    scaled x (ix2 e q) = x (ix3 0 e q) * (qs : EReal) := by
  pointwise [scaled]
  rfl

theorem chunk_apply (x : Vec Ideal S1x128x512 .f32) (k : Vec Ideal S1x512x128 .bf16) (j q : Fin 512) :
    chunk x k (ix2 j q) = ∑ e : Fin 128, k (ix3 0 j e) * (x (ix3 0 e q) * (qs : EReal)) := by
  refine Eq.trans (b := ∑ e : Fin 128, k (ix3 0 j e) * scaled x (ix2 e q)) ?_
    (Finset.sum_congr rfl fun e _ => by rw [scaled_apply])
  pointwise [chunk]

theorem chunkV_apply (v : Vec Ideal S1x128x512 .bf16) (d : Fin 128) (j : Fin 512) :
    chunkV v (ix2 d j) = v (ix3 0 d j) := by
  pointwise [chunkV]

/-- The four loads of the keys, and of the values. -/
theorem ld_k (x1 : Vec Ideal S1x2048x128 .bf16) (j : Fin 512) (e : Fin 128) :
    View.ld x1 r0_3 (ix3 0 j e) = x1 (ix3 0 (pl 0 j) e) ∧ View.ld x1 r0_4 (ix3 0 j e) = x1 (ix3 0 (pl 1 j) e)
    ∧ View.ld x1 r0_6 (ix3 0 j e) = x1 (ix3 0 (pl 2 j) e) ∧ View.ld x1 r0_8 (ix3 0 j e) = x1 (ix3 0 (pl 3 j) e) := by
  refine ⟨?_, ?_, ?_, ?_⟩ <;> exact congrArg x1 (funext fun a => Fin.ext (by fin_cases a <;> simp [pl] <;> rfl))

theorem ld_v (x2 : Vec Ideal S1x128x2048 .bf16) (j : Fin 512) (d : Fin 128) :
    View.ld x2 r0_5 (ix3 0 d j) = x2 (ix3 0 d (pl 0 j)) ∧ View.ld x2 r0_7 (ix3 0 d j) = x2 (ix3 0 d (pl 1 j))
    ∧ View.ld x2 r0_9 (ix3 0 d j) = x2 (ix3 0 d (pl 2 j)) ∧ View.ld x2 r0_10 (ix3 0 d j) = x2 (ix3 0 d (pl 3 j)) := by
  refine ⟨?_, ?_, ?_, ?_⟩ <;> exact congrArg x2 (funext fun a => Fin.ext (by fin_cases a <;> simp [pl] <;> rfl))

/-- A product of reals summed, one factor scaled, is the sum scaled. -/
theorem dot_scaled {n : ℕ} (k x : Fin n → ℝ) (c : ℝ) :
    ∑ e, (k e : EReal) * ((x e : EReal) * (c : EReal)) = (((∑ e, k e * x e) * c : ℝ) : EReal) := by
  rw [Finset.sum_mul, coe_sum]
  exact Finset.sum_congr rfl fun e _ => by rw [← EReal.coe_mul, ← EReal.coe_mul, mul_assoc]

theorem head_apply (x : Vec Ideal S1x128x512 .f32) (x1 : Vec Ideal S1x2048x128 .bf16) (x2 : Vec Ideal S1x128x2048 .bf16)
    (q : Fin 512) (d : Fin 128) (qr : Fin 128 → ℝ) (kr : Fin 2048 → Fin 128 → ℝ)
    (hq : ∀ e, x (ix3 0 e q) = (qr e : EReal)) (hk : ∀ s e, x1 (ix3 0 s e) = (kr s e : EReal)) :
    head x x1 x2 (ix3 0 q d) = smx (fun s => (∑ e, kr s e * qr e) / Real.sqrt 128) fun s => x2 (ix3 0 d s) := by
  refine headOut_apply ![chunk x (View.ld x1 r0_3), chunk x (View.ld x1 r0_4), chunk x (View.ld x1 r0_6), chunk x (View.ld x1 r0_8)]
    ![chunkV (View.ld x2 r0_5), chunkV (View.ld x2 r0_7), chunkV (View.ld x2 r0_9), chunkV (View.ld x2 r0_10)]
    q d (fun s => (∑ e, kr s e * qr e) * qs) _ ?_ ?_ _ ?_
  · have one : ∀ (k : Vec Ideal S1x512x128 .bf16) (c : Fin 4) (j : Fin 512),
        (∀ e, k (ix3 0 j e) = x1 (ix3 0 (pl c j) e)) →
        chunk x k (ix2 j q) = (((∑ e, kr (pl c j) e * qr e) * qs : ℝ) : EReal) := fun k c j h => by
      rw [chunk_apply, ← dot_scaled]
      exact Finset.sum_congr rfl fun e _ => by rw [h, hk, hq]
    intro c j
    match c with
    | ⟨0, _⟩ => exact one _ 0 j fun e => (ld_k x1 j e).1
    | ⟨1, _⟩ => exact one _ 1 j fun e => (ld_k x1 j e).2.1
    | ⟨2, _⟩ => exact one _ 2 j fun e => (ld_k x1 j e).2.2.1
    | ⟨3, _⟩ => exact one _ 3 j fun e => (ld_k x1 j e).2.2.2
  · intro t
    rw [← wt_div_log, qs, ← mul_assoc, div_eq_mul_inv]
  · intro c j
    match c with
    | ⟨0, _⟩ => exact (chunkV_apply _ d j).trans (ld_v x2 j d).1
    | ⟨1, _⟩ => exact (chunkV_apply _ d j).trans (ld_v x2 j d).2.1
    | ⟨2, _⟩ => exact (chunkV_apply _ d j).trans (ld_v x2 j d).2.2.1
    | ⟨3, _⟩ => exact (chunkV_apply _ d j).trans (ld_v x2 j d).2.2.2

end Cert.Proof.Attn

end
-- ==== Proof.AttnValue.lean ====
/- The attention kernel's result array, as one function of the argument arrays. -/
module

public import proofs.«01_k».proof.Proof.Attn
public import Idealize.ShloMosaic.Lib.Pipeline.ValueKit.Point
public import Idealize.ShloMosaic.Lib.Pipeline.ValueKit.Tiles

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem
open Cert.Proof.Online Cert.Proof.Softmax

/-- A column of the queries' head and of the keys' or values' group. -/
def qcol (c : Fin 768) (e : Fin 128) : Fin 768 := ⟨c.val / 128 * 128 + e.val, by omega⟩
def kcol (c : Fin 768) (e : Fin 128) : Fin 256 := ⟨c.val / 384 * 128 + e.val, by omega⟩
def lane (c : Fin 768) : Fin 128 := ⟨c.val % 128, by omega⟩

/-- The score of query `i` of the head of column `c` and key `s`. -/
def score (q : S16x2048x768.Idx → EReal) (k : S16x2048x256.Idx → EReal) (b : Fin 16) (i : Fin 2048) (c : Fin 768)
    (s : Fin 2048) : ℝ :=
  (∑ e : Fin 128, (k (ix3 b s (kcol c e))).toReal * (q (ix3 b i (qcol c e))).toReal) / Real.sqrt 128

/-- The attention: at batch `b`, query `i` and column `c` the softmax average of the values. -/
def attn (q : S16x2048x768.Idx → EReal) (k v : S16x2048x256.Idx → EReal) : S16x2048x768.Idx → EReal := fun j =>
  smx (score q k (j 0) (j 1) (j 2)) fun s => v (ix3 (j 0) s (kcol (j 2) (lane (j 2))))

variable (m : (ℓ : Loc nD τ sig) → Buf (Elt Ideal) ℓ) (ρ : Dev nD → PrngReg)

/-- Core `c`'s queries, keys and values. -/
abbrev argQ (c : Dev nD) : Vec Ideal S16x2048x768 .f32 := m ((c : Thread nD τ).loc main_arg0)
abbrev argK (c : Dev nD) : Vec Ideal S16x2048x256 .f32 := m ((c : Thread nD τ).loc main_arg1)
abbrev argV (c : Dev nD) : Vec Ideal S16x2048x256 .f32 := m ((c : Thread nD τ).loc main_arg2)

theorem V_q (c : Dev nD) (b : Fin 16) (e : Fin 768) (i : Fin 2048) :
    V m c main_v0 (ix3 b e i) = argQ m c (ix3 b i e) := by
  have h : V m c main_v0 = transpose (s := S16x2048x768) S16x768x2048 [0, 2, 1] (argQ m c) (by decide) := by
    show StableHlo.after hostOps0 _ (Proc.devRef .tc main_v0) = _
    after_results
  rw [h]
  pointwise

theorem V_k (c : Dev nD) (b : Fin 16) (s : Fin 2048) (e : Fin 256) :
    V m c main_v3 (ix3 b s e) = argK m c (ix3 b s e) := by
  have h : V m c main_v3 = truncf (F := Ideal) (φ := .f32) .bf16 (argK m c) (by decide) := by
    show StableHlo.after hostOps0 _ (Proc.devRef .tc main_v3) = _
    after_results
  rw [h]
  pointwise

theorem V_v (c : Dev nD) (b : Fin 16) (e : Fin 256) (s : Fin 2048) :
    V m c main_v2 (ix3 b e s) = argV m c (ix3 b s e) := by
  have h : V m c main_v2 = truncf (F := Ideal) (φ := .f32) .bf16 (transpose (s := S16x2048x256) S16x256x2048 [0, 2, 1] (argV m c) (by decide)) (by decide) := by
    show StableHlo.after hostOps0 _ (Proc.devRef .tc main_v2) = _
    after_results
  rw [h]
  pointwise

/-- Each window's block index at a grid point. -/
theorem idx0 : ∀ t : Fin cfg0.N, win0_0.index t = ![(grid0.coords t 0).val, (grid0.coords t 1).val, (grid0.coords t 2).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, (grid0.coords t 2).val, (grid0.coords t 1).val] :=
  (by decide +kernel : ∀ t : Fin grid0.N, _)

theorem covers3 : (cfg0.win 3).Covers := by decide +kernel

/-- The grid coordinates' bounds. -/
theorem coords_lt (t : Fin cfg0.N) :
    (grid0.coords t 0).val < 16 ∧ (grid0.coords t 1).val < 2 ∧ (grid0.coords t 2).val < 4 :=
  ⟨(grid0.coords t 0).isLt, (grid0.coords t 1).isLt, (grid0.coords t 2).isLt⟩

/-- One head of a block is the attention at the block's place: `o` is where the head starts in the block's columns. -/
theorem head_point (c : Dev nD) (hq : ∀ j, argQ m c j = ((argQ m c j).toReal : EReal))
    (hk : ∀ j, argK m c j = ((argK m c j).toReal : EReal)) (t : Fin cfg0.N) (xq : Vec Ideal S1x128x512 .f32) (o : ℕ)
    (ho : o = 0 ∨ o = 128 ∨ o = 256)
    (hx : ∀ (e : Fin 128) (q : Fin 512), xq (ix3 0 e q) = iblk m c 0 t (ix3 0 ⟨o + e.val, by omega⟩ q))
    (q : Fin 512) (d : Fin 128) (b : Fin 16) (i : Fin 2048) (n : Fin 768) (h0 : b.val = (grid0.coords t 0).val)
    (h1 : i.val = (grid0.coords t 2).val * 512 + q.val) (h2 : n.val = (grid0.coords t 1).val * 384 + (o + d.val)) :
    head xq (iblk m c 1 t) (iblk m c 2 t) (ix3 0 q d) = attn (argQ m c) (argK m c) (argV m c) (ix3 b i n) := by
  obtain ⟨b0, b1, b2⟩ := coords_lt t
  have hg : ((grid0.coords t 1).val * 384 + (o + d.val)) / 384 = (grid0.coords t 1).val := by omega
  have hm : ((grid0.coords t 1).val * 384 + (o + d.val)) % 128 = d.val := by omega
  have hh : ((grid0.coords t 1).val * 384 + (o + d.val)) / 128 * 128 = (grid0.coords t 1).val * 384 + o := by omega
  refine (head_apply _ _ _ q d (fun e => (argQ m c (ix3 b i (qcol n e))).toReal)
    (fun s e => (argK m c (ix3 b s (kcol n e))).toReal) ?_ ?_).trans ?_
  · intro e
    rw [hx, ← hq]
    blk_simp [iblk]
    rw [show (win0_0.blk t).view.emb (ix3 0 ⟨o + e.val, by omega⟩ q)
      = ix3 b (qcol n e) i from by blk_ext [idx0 t, qcol, h0, h1, h2, hh]]
    exact V_q m c _ _ _
  · intro s e
    rw [← hk]
    blk_simp [iblk]
    rw [show (win0_1.blk t).view.emb (ix3 0 s e) = ix3 b s (kcol n e) from by
      blk_ext [idx1 t, kcol, h0, h2, hg]]
    exact V_k m c _ _ _
  · unfold attn score
    congr 1
    funext s
    blk_simp [iblk]
    rw [show (win0_2.blk t).view.emb (ix3 0 d s) = ix3 b (kcol n (lane n)) s from by
      blk_ext [idx2 t, kcol, lane, h0, h2, hg, hm]]
    exact V_v m c _ _ _

/-- The same at any index of a head's store and of the array. -/
theorem head_at (c : Dev nD) (hq : ∀ j, argQ m c j = ((argQ m c j).toReal : EReal))
    (hk : ∀ j, argK m c j = ((argK m c j).toReal : EReal)) (t : Fin cfg0.N) (xq : Vec Ideal S1x128x512 .f32) (o : ℕ)
    (ho : o = 0 ∨ o = 128 ∨ o = 256)
    (hx : ∀ (e : Fin 128) (q : Fin 512), xq (ix3 0 e q) = iblk m c 0 t (ix3 0 ⟨o + e.val, by omega⟩ q))
    (x : S1x512x128.Idx) (j : S16x2048x768.Idx) (h0 : (j 0).val = (grid0.coords t 0).val)
    (h1 : (j 1).val = (grid0.coords t 2).val * 512 + (x 1).val)
    (h2 : (j 2).val = (grid0.coords t 1).val * 384 + (o + (x 2).val)) :
    head xq (iblk m c 1 t) (iblk m c 2 t) x = attn (argQ m c) (argK m c) (argV m c) j := by
  obtain ⟨a, q, d, rfl⟩ : ∃ a q d, x = ix3 a q d := ⟨_, _, _, eq_ix3 x⟩
  obtain ⟨b, i, n, rfl⟩ : ∃ b i n, j = ix3 b i n := ⟨_, _, _, eq_ix3 j⟩
  obtain rfl : a = 0 := Subsingleton.elim _ _
  exact head_point m c hq hk t xq o ho hx q d b i n h0 h1 h2

/-- The three loads of the queries. -/
theorem ld_q (x0 : Vec Ideal S1x384x512 .f32) (e : Fin 128) (q : Fin 512) :
    View.ld x0 r0_0 (ix3 0 e q) = x0 (ix3 0 ⟨0 + e.val, by omega⟩ q)
    ∧ View.ld x0 r0_1 (ix3 0 e q) = x0 (ix3 0 ⟨128 + e.val, by omega⟩ q)
    ∧ View.ld x0 r0_2 (ix3 0 e q) = x0 (ix3 0 ⟨256 + e.val, by omega⟩ q) := by
  refine ⟨?_, ?_, ?_⟩ <;> exact congrArg x0 (funext fun a => Fin.ext (by fin_cases a <;> simp <;> rfl))

/-- The result array after the run, the queries and keys being real. -/
theorem final (c : Dev nD) (hq : ∀ j, argQ m c j = ((argQ m c j).toReal : EReal))
    (hk : ∀ j, argK m c j = ((argK m c j).toReal : EReal)) :
    (dats m 0 c).arrAt 3 cfg0.N = attn (argQ m c) (argK m c) (argV m c) := by
  refine (dats m 0 c).arrAt_eq_of_covers 3 _ covers3 fun t hf y => ?_
  blk_simp
  rw [after0_3, out_eq]
  canon_tiles x h
  case piece0 =>
    refine head_at m c hq hk t _ 256 (by simp) (fun e q => (ld_q (iblk m c 0 t) e q).2.2) x _ ?_ ?_ ?_ <;>
      (blk_simp [idx3 t] <;> omega)
  case piece1 =>
    refine head_at m c hq hk t _ 128 (by simp) (fun e q => (ld_q (iblk m c 0 t) e q).2.1) x _ ?_ ?_ ?_ <;>
      (blk_simp [idx3 t] <;> omega)
  case piece2 =>
    refine head_at m c hq hk t _ 0 (by simp) (fun e q => (ld_q (iblk m c 0 t) e q).1) x _ ?_ ?_ ?_ <;>
      (blk_simp [idx3 t] <;> omega)

end Cert.Proof.Attn

end
-- ==== Proof.AttnRef.lean ====
/- The reference of the attention, as the same function of its argument arrays. -/
module

public import proofs.«01_k».proof.Proof.AttnValue
public import proofs.«01_k».proof.Proof.Gen.ReferenceIdeal.Read

@[expose] public section

set_option maxRecDepth 16384

noncomputable section

namespace Cert.Proof.AttnRef

open Cert.ReferenceIdeal Cert.ReferenceIdeal.Gen Cert.ReferenceIdeal.Read Idealize.ShloMosaic
open Cert.Proof.Softmax

variable (q : Vec Ideal S16x2048x768 .f32) (k v : Vec Ideal S16x2048x256 .f32)

/-- The logits at a batch, group, head of the group, query and key. -/
theorem logit (b : Fin 16) (g : Fin 2) (r : Fin 3) (i s : Fin 2048) :
    val_main_v8 q k (ix5 b g r i s)
      = Ideal.div (∑ e : Fin 128, k (ix3 b s ⟨g.val * 128 + e.val, by omega⟩) * q (ix3 b i ⟨g.val * 384 + r.val * 128 + e.val, by omega⟩))
        (Ideal.sqrt (Ideal.ofBits .f32 0x43000000#32)) := by
  pointwise [val_main_v8, val_main_v7, val_main_v6, val_main_cst, val_main_v5, val_main_v4, val_main_v3, val_main_v1, val_main_v0]

theorem ofBits_128 : Ideal.ofBits .f32 0x43000000#32 = ((128 : ℝ) : EReal) := by
  simp [Ideal.ofBits, Ideal.ieee, -EReal.coe_mul]; norm_num

/-- The logits, the queries and keys being real, are the scores. -/
theorem logit_real (hq : ∀ j, q j = ((q j).toReal : EReal)) (hk : ∀ j, k j = ((k j).toReal : EReal))
    (b : Fin 16) (g : Fin 2) (r : Fin 3) (i s : Fin 2048) (c : Fin 768) (hc : c.val / 128 = g.val * 3 + r.val) :
    val_main_v8 q k (ix5 b g r i s) = (Attn.score q k b i c s : EReal) := by
  have h128 : Real.sqrt 128 ≠ 0 := (Real.sqrt_pos.mpr (by norm_num)).ne'
  rw [logit, ofBits_128, Ideal.sqrt_coe, if_neg (by norm_num), Ideal.div_coe h128, Attn.score, div_eq_mul_one_div (Finset.sum _ _), EReal.coe_mul,
    coe_sum]
  congr 1
  refine Finset.sum_congr rfl fun e _ => ?_
  rw [EReal.coe_mul, ← hq, ← hk]
  have e1 : Attn.kcol c e = ⟨g.val * 128 + e.val, by omega⟩ := Fin.ext (by simp only [Attn.kcol]; omega)
  have e2 : Attn.qcol c e = ⟨g.val * 384 + r.val * 128 + e.val, by omega⟩ := Fin.ext (by simp only [Attn.qcol]; omega)
  rw [e1, e2]

/-- What is subtracted, the greatest logit of the query's row, is real. -/
theorem shift_real (hq : ∀ j, q j = ((q j).toReal : EReal)) (hk : ∀ j, k j = ((k j).toReal : EReal))
    (b : Fin 16) (g : Fin 2) (r : Fin 3) (i : Fin 2048) (c : Fin 768) (hc : c.val / 128 = g.val * 3 + r.val) :
    ∃ μ : ℝ, val_main_v11 q k (ix4 b g r i) = (μ : EReal) := by
  have h9 : val_main_v9 q k (ix4 b g r i)
      = (Finset.univ : Finset (Fin 2048)).fold max (⊥ : EReal) fun s => val_main_v8 q k (ix5 b g r i s) := by
    unfold val_main_v9
    rw [Host.reduce_eq_fold_single _ _ _ _ (by decide)]
    rw [show val_main_cst_0 (F := Ideal) (Shape.Idx.first h_S_) = (⊥ : EReal) from ofBits_negInf]
    refine Finset.fold_congr fun s _ => congrArg (val_main_v8 q k) ?_
    funext a
    fin_cases a <;> rfl
  obtain ⟨μ, hμ⟩ := foldMax_real _ _ fun s => logit_real q k hq hk b g r i s c hc
  refine ⟨μ, ?_⟩
  rw [val_main_v11_apply, h9, hμ]
  show max (val_main_v10 (F := Ideal) _) _ = _
  rw [show val_main_v10 (F := Ideal) (ix4 b g r i) = (⊥ : EReal) from (val_main_v10_apply _).trans ofBits_negInf]
  exact max_eq_right bot_le

/-- One entry of the weights. -/
theorem weight (b : Fin 16) (g : Fin 2) (r : Fin 3) (i s : Fin 2048) :
    val_main_v19 q k (ix5 b g r i s)
      = Ideal.div (Ideal.exp (val_main_v8 q k (ix5 b g r i s) - val_main_v11 q k (ix4 b g r i)))
        (∑ t : Fin 2048, Ideal.exp (val_main_v8 q k (ix5 b g r i t) - val_main_v11 q k (ix4 b g r i))) := by
  pointwise [val_main_v19, val_main_v18, val_main_v17, val_main_v16, val_main_v15, val_main_v14, val_main_v13, val_main_v12]
  rw [show val_main_cst_2 (F := Ideal) (Shape.Idx.first h_S_) = (0 : EReal) from Ideal.ofBits_zero_f32, zero_add]

/-- The reference is the attention. -/
theorem ref_eq (hq : ∀ j, q j = ((q j).toReal : EReal)) (hk : ∀ j, k j = ((k j).toReal : EReal)) :
    val_main_v23 q k v = Attn.attn q k v := by
  funext j
  obtain ⟨b, i, c, rfl⟩ : ∃ b i c, j = ix3 b i c := ⟨_, _, _, eq_ix3 j⟩
  have hcast : val_main_v23 q k v (ix3 b i c) = ∑ s : Fin 2048, v (ix3 b s (Attn.kcol c (Attn.lane c)))
      * val_main_v19 q k (ix5 b ⟨c.val / 384, by omega⟩ ⟨c.val / 128 % 3, by omega⟩ i s) := by
    pointwise [val_main_v23, val_main_v22, val_main_v21, val_main_v20, val_main_v2]
    rfl
  rw [hcast]
  simp only [weight]
  exact one_pass _ _ _ (fun s => logit_real q k hq hk _ _ _ _ _ c (by show c.val / 128 = c.val / 384 * 3 + c.val / 128 % 3; omega)) _
    (shift_real q k hq hk _ _ _ _ c (by show c.val / 128 = c.val / 384 * 3 + c.val / 128 % 3; omega))

end Cert.Proof.AttnRef

end
-- ==== Proof.AttnAlg.lean ====
/- The grouped-query attention call against its reference: both end at softmax attention, from the same arguments. -/
module

public import proofs.«01_k».proof.Defs
public import proofs.«01_k».proof.Proof.AttnRef
public import proofs.«01_k».proof.Proof.Gen.Pre_gqa_finite

@[expose] public section

set_option maxRecDepth 16384

noncomputable section

namespace Cert.Proof

open Idealize.ShloMosaic Idealize.SL.Sem

/-- A value whose magnitude is below infinity is a real number. -/
theorem real_of_abs_lt {x : EReal} (h : (FloatOps.cmpf (F := Ideal) (φ := .f32) .olt (FloatOps.hostAbsf x)
      (FloatOps.ofBits (F := Ideal) .f32 0x7F800000#32)) = 1#1) : x = ((x.toReal : ℝ) : EReal) := by
  have hb : max x (-x) < ⊤ := by
    have h' : BitVec.ofBool (decide (max x (-x) < Ideal.ofBits .f32 0x7F800000#32)) = 1#1 := h
    rw [Softmax.ofBits_posInf] at h'
    by_contra hn
    rw [decide_eq_false hn] at h'
    exact absurd h' (by decide)
  refine (EReal.coe_toReal (fun e => ?_) (fun e => ?_)).symm <;> subst e <;> simp at hb

namespace Attn

/-- What the precondition says of the arguments. -/
theorem finite [Cert.Pre_gqa_finite.Facts] (m : (ℓ : Loc KernelIdeal.nD KernelIdeal.τ KernelIdeal.sig) → Buf (Elt Ideal) ℓ)
    (h : Pre_KernelIdeal_gqa_finite m) (c : Dev KernelIdeal.nD) :
    (∀ j, argQ m c j = ((argQ m c j).toReal : EReal)) ∧ (∀ j, argK m c j = ((argK m c j).toReal : EReal)) :=
  ⟨fun j => real_of_abs_lt (congrFun (h c).1 j), fun j => real_of_abs_lt (congrFun (h c).2 j)⟩

/-- Both programs end at softmax attention. -/
theorem algebraic : algebraic_KernelIdeal_ReferenceIdeal_pre_gqa_finite (hKernelIdeal := KernelIdeal.Gen.facts)
    (hReferenceIdeal := ReferenceIdeal.Gen.facts) (hPre_gqa_finite := Pre_gqa_finite.Gen.facts) := by
  haveI := Pre_gqa_finite.Gen.facts
  intro m g m' g' hpre hargs
  refine ⟨fun c => attn (argQ m c) (argK m c) (argV m c), ?_, ?_⟩
  · exact (θ_run _ _ _).mono (fun r h c => ⟨(h c).1.trans (final m c (finite m hpre c).1 (finite m hpre c).2), (h c).2⟩)
      (KernelIdeal.Value.run_blocks m g)
  · refine (θ_run _ _ _).mono (fun r h c => ⟨(h c).1.trans ?_, (h c).2⟩) (ReferenceIdeal.Value.run m' g')
    obtain ⟨e0, e1, e2⟩ := hargs c
    rw [e0, e1, e2]
    exact (ReferenceIdeal.Read.val_main_v23_eq _ _ _).trans
      (AttnRef.ref_eq _ _ _ (finite m hpre c).1 (finite m hpre c).2)

end Attn

end Cert.Proof

end
-- ==== Proof.Ffn.lean ====
/- The feed-forward call with the last normalisation: the mathematics, and the block arithmetic of the kernel read at an
   index. -/
module

public import proofs.«01_k».proof.Proof.Softmax
public import proofs.«01_k».proof.Proof.Gen.FfnIdeal.Value
public import Idealize.ShloMosaic.Lib.Pointwise
public import Idealize.ShloMosaic.Lib.Pipeline.ValueKit.Acc

@[expose] public section

set_option maxRecDepth 16384

noncomputable section

namespace Cert.Proof.Ffn

open Cert.FfnIdeal Cert.FfnIdeal.Gen Idealize.ShloMosaic Idealize.ShloMosaic.TcCoe Idealize.SL.Sem
open Cert.Proof.Softmax

variable (x h : S16x2048x2048.Idx → EReal) (md : S2x16x12288.Idx → EReal) (w : S2x2048x11264.Idx → EReal)
  (wd : S2x5632x2048.Idx → EReal) (fg : S2048.Idx → EReal)

/-- `x / (1 + e^-x)`. -/
def silu (a : EReal) : EReal := a * Ideal.div 1 (1 + Ideal.exp (-a))

/-- Column `n` of the gate and up projections at a token. -/
def proj (b : Fin 16) (i : Fin 2048) (n : Fin 11264) : EReal := ∑ e : Fin 2048, h (ix3 b i e) * w (ix3 1 e n)

/-- The gated hidden unit `u`. -/
def unit (b : Fin 16) (i : Fin 2048) (u : Fin 5632) : EReal :=
  silu (proj h w b i ⟨u.val, by omega⟩) * proj h w b i ⟨5632 + u.val, by omega⟩

/-- The token's residual stream after the call, before the last normalisation. -/
def stream (b : Fin 16) (i d : Fin 2048) : EReal :=
  x (ix3 b i d) + md (ix3 1 b ⟨10240 + d.val, by omega⟩) * ∑ u : Fin 5632, unit h w b i u * wd (ix3 1 u d)

/-- A row divided by its root mean square, times the gain. -/
def norm (r : Fin 2048 → EReal) (g : EReal) (d : Fin 2048) : EReal :=
  r d * Ideal.rsqrt (Ideal.div (∑ e, r e * r e) (Ideal.ofBits .f32 0x45000000#32) + Ideal.ofBits .f32 0x358637BD#32) * g

/-- The call's result. -/
def out : S16x2048x2048.Idx → EReal := fun j => norm (stream x h md w wd (j 0) (j 1)) (fg (ix1 (j 2))) (j 2)

/-- What one tile of hidden units adds. -/
def part (b : Fin 16) (i d : Fin 2048) (s : Fin 11) : EReal :=
  ∑ k : Fin 512, unit h w b i ⟨s.val * 512 + k.val, by omega⟩ * wd (ix3 1 ⟨s.val * 512 + k.val, by omega⟩ d)

/-! ## The kernel's payloads -/

theorem pay1_at (h : Vec Ideal S1x512x2048 .bf16) (wg wu : Vec Ideal S1x2048x512 .bf16) (wd : Vec Ideal S1x512x2048 .bf16)
    (acc : Vec Ideal S1x512x2048 .f32) (g : Vec Ideal S1x1x1x2048 .f32) (q : Fin 512) (d : Fin 2048) :
    k0_pay1 (k0_pay4 h wg wu wd) (k0_pay5 acc) (k0_pay6 g) (ix3 0 q d)
      = acc (ix3 0 q d) + g (ix4 0 0 0 d) * ∑ k : Fin 512, silu (∑ e : Fin 2048, h (ix3 0 q e) * wg (ix3 0 e k))
          * (∑ e : Fin 2048, h (ix3 0 q e) * wu (ix3 0 e k)) * wd (ix3 0 k d) := by
  pointwise [k0_pay1, k0_pay4, k0_pay5, k0_pay6]
  simp only [silu, zero_sub]

theorem pay2_at (acc : Vec Ideal S1x512x2048 .f32) (g : Vec Ideal S1x2048 .f32) (q : Fin 512) (d : Fin 2048) :
    k0_pay2 acc g (ix3 0 q d) = norm (fun e => acc (ix3 0 q e)) (g (ix2 0 d)) d := by
  pointwise [k0_pay2]
  rfl

theorem pay3_at (x : Vec Ideal S1x512x2048 .f32) (q : Fin 512) (d : Fin 2048) :
    k0_pay3 x (ix3 0 q d) = x (ix3 0 q d) := by
  pointwise [k0_pay3]

/-! ## Finite activations and weights -/

/-- The hidden units are real. -/
theorem silu_real (r : ℝ) : silu (r : EReal) = ((r * (1 / (1 + Real.exp (-r))) : ℝ) : EReal) := by
  have hp : (1 + Real.exp (-r)) ≠ 0 := (add_pos one_pos (Real.exp_pos _)).ne'
  rw [silu, ← EReal.coe_neg, Ideal.exp_coe, ← EReal.coe_one, ← EReal.coe_add, Ideal.div_coe hp, ← EReal.coe_mul, ← EReal.coe_mul, one_mul]

theorem proj_real (hh : ∀ j, h j = ((h j).toReal : EReal)) (hw : ∀ e n, w (ix3 1 e n) = ((w (ix3 1 e n)).toReal : EReal))
    (b : Fin 16) (i : Fin 2048) (n : Fin 11264) :
    proj h w b i n = ((∑ e : Fin 2048, (h (ix3 b i e)).toReal * (w (ix3 1 e n)).toReal : ℝ) : EReal) := by
  rw [proj, coe_sum]
  exact Finset.sum_congr rfl fun e _ => by rw [EReal.coe_mul, ← hh, ← hw]

theorem unit_real (hh : ∀ j, h j = ((h j).toReal : EReal)) (hw : ∀ e n, w (ix3 1 e n) = ((w (ix3 1 e n)).toReal : EReal))
    (b : Fin 16) (i : Fin 2048) (u : Fin 5632) : unit h w b i u = ((unit h w b i u).toReal : EReal) := by
  rw [unit, proj_real h w hh hw, proj_real h w hh hw, silu_real, ← EReal.coe_mul, EReal.toReal_coe]

/-- The gated tiles add up to the gated sum. -/
theorem stream_eq (hh : ∀ j, h j = ((h j).toReal : EReal)) (hw : ∀ e n, w (ix3 1 e n) = ((w (ix3 1 e n)).toReal : EReal))
    (hd : ∀ u d, wd (ix3 1 u d) = ((wd (ix3 1 u d)).toReal : EReal))
    (hm : ∀ b (d : Fin 2048), md (ix3 1 b ⟨10240 + d.val, by omega⟩) = ((md (ix3 1 b ⟨10240 + d.val, by omega⟩)).toReal : EReal))
    (b : Fin 16) (i d : Fin 2048) :
    x (ix3 b i d) + ∑ s : Fin 11, md (ix3 1 b ⟨10240 + d.val, by omega⟩) * part h w wd b i d s = stream x h md w wd b i d := by
  rw [stream]
  congr 1
  have hs : ∑ u : Fin 5632, unit h w b i u * wd (ix3 1 u d) = ∑ s : Fin 11, part h w wd b i d s :=
    (Fin.sum_mul_add_fin 11 512 (fun u : Fin 5632 => unit h w b i u * wd (ix3 1 u d))).symm
  have hp : ∀ s, part h w wd b i d s = ((part h w wd b i d s).toReal : EReal) := by
    intro s
    have : part h w wd b i d s = ((∑ k : Fin 512, (unit h w b i ⟨s.val * 512 + k.val, by omega⟩).toReal
        * (wd (ix3 1 ⟨s.val * 512 + k.val, by omega⟩ d)).toReal : ℝ) : EReal) := by
      rw [part, coe_sum]
      exact Finset.sum_congr rfl fun k _ => by rw [EReal.coe_mul, ← unit_real h w hh hw, ← hd]
    rw [this, EReal.toReal_coe]
  rw [hs, hm, Finset.sum_congr rfl fun s _ => hp s, ← coe_sum, ← EReal.coe_mul, Finset.mul_sum, coe_sum]
  exact Finset.sum_congr rfl fun s _ => by rw [EReal.coe_mul, ← hp]

end Cert.Proof.Ffn

end
-- ==== Proof.FfnValue.lean ====
/- The feed-forward kernel's result array, as one function of the argument arrays. -/
module

public import proofs.«01_k».proof.Proof.Ffn
public import Idealize.ShloMosaic.Lib.Pipeline.ValueKit.Point
public import Idealize.ShloMosaic.Lib.Pipeline.ValueKit.Tiles

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem

variable (m : (ℓ : Loc nD τ sig) → Buf (Elt Ideal) ℓ) (ρ : Dev nD → PrngReg)

/-- Core `c`'s residual stream, activations, modulation, weights and gain. -/
abbrev argX (c : Dev nD) : Vec Ideal S16x2048x2048 .f32 := m ((c : Thread nD τ).loc main_arg0)
abbrev argH (c : Dev nD) : Vec Ideal S16x2048x2048 .f32 := m ((c : Thread nD τ).loc main_arg1)
abbrev argM (c : Dev nD) : Vec Ideal S2x16x12288 .f32 := m ((c : Thread nD τ).loc main_arg2)
abbrev argW (c : Dev nD) : Vec Ideal S2x2048x11264 .f32 := m ((c : Thread nD τ).loc main_arg3)
abbrev argD (c : Dev nD) : Vec Ideal S2x5632x2048 .f32 := m ((c : Thread nD τ).loc main_arg4)
abbrev argG (c : Dev nD) : Vec Ideal S2048 .f32 := m ((c : Thread nD τ).loc main_arg5)

theorem V_h (c : Dev nD) (j : S16x2048x2048.Idx) : V m c main_v0 j = argH m c j := by
  have h : V m c main_v0 = truncf (F := Ideal) (φ := .f32) .bf16 (argH m c) (by decide) := by
    show StableHlo.after hostOps0 _ (Proc.devRef .tc main_v0) = _
    after_results
  rw [h]
  pointwise

theorem V_m (c : Dev nD) (l : Fin 2) (b : Fin 16) (r : Fin 6) (d : Fin 2048) :
    V m c main_v1 (ix4 l b r d) = argM m c (ix3 l b ⟨r.val * 2048 + d.val, by omega⟩) := by
  have h : V m c main_v1 = shapeCast (s := S2x16x12288) S2x16x6x2048 (argM m c) (by decide) := by
    show StableHlo.after hostOps0 _ (Proc.devRef .tc main_v1) = _
    after_results
    rfl
  rw [h]
  pointwise

theorem V_w (c : Dev nD) (j : S2x2048x11264.Idx) : V m c main_v2 j = argW m c j := by
  have h : V m c main_v2 = truncf (F := Ideal) (φ := .f32) .bf16 (argW m c) (by decide) := by
    show StableHlo.after hostOps0 _ (Proc.devRef .tc main_v2) = _
    after_results
  rw [h]
  pointwise

theorem V_d (c : Dev nD) (j : S2x5632x2048.Idx) : V m c main_v3 j = argD m c j := by
  have h : V m c main_v3 = truncf (F := Ideal) (φ := .f32) .bf16 (argD m c) (by decide) := by
    show StableHlo.after hostOps0 _ (Proc.devRef .tc main_v3) = _
    after_results
  rw [h]
  pointwise

theorem V_g (c : Dev nD) (d : Fin 2048) : V m c main_v4 (ix2 0 d) = argG m c (ix1 d) := by
  have h : V m c main_v4 = shapeCast (s := S2048) S1x2048 (argG m c) (by decide) := by
    show StableHlo.after hostOps0 _ (Proc.devRef .tc main_v4) = _
    after_results
    rfl
  rw [h]
  pointwise

/-- Each window's block index at a grid point. -/
theorem idx0 : ∀ t : Fin cfg0.N, win0_0.index t = ![t.val / 44, t.val / 11 % 4, 0] :=
  (by decide +kernel : ∀ t : Fin grid0.N, _)
theorem idx1 : ∀ t : Fin cfg0.N, win0_1.index t = ![t.val / 44, t.val / 11 % 4, 0] :=
  (by decide +kernel : ∀ t : Fin grid0.N, _)
theorem idx2 : ∀ t : Fin cfg0.N, win0_2.index t = ![1, t.val / 44, 0, 0] :=
  (by decide +kernel : ∀ t : Fin grid0.N, _)
theorem idx3 : ∀ t : Fin cfg0.N, win0_3.index t = ![1, 0, t.val % 11] :=
  (by decide +kernel : ∀ t : Fin grid0.N, _)
theorem idx4 : ∀ t : Fin cfg0.N, win0_4.index t = ![1, 0, 11 + t.val % 11] :=
  (by decide +kernel : ∀ t : Fin grid0.N, _)
theorem idx5 : ∀ t : Fin cfg0.N, win0_5.index t = ![1, t.val % 11, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![t.val / 44, t.val / 11 % 4, 0] :=
  (by decide +kernel : ∀ t : Fin grid0.N, _)

theorem covers7 : (cfg0.win 7).Covers := by decide +kernel

/-- The batch and the token of a grid point's row `q`. -/
def bat (t : Fin cfg0.N) : Fin 16 := ⟨t.val / 44, by have : t.val < 704 := t.isLt; omega⟩
def tok (t : Fin cfg0.N) (q : Fin 512) : Fin 2048 := ⟨t.val / 11 % 4 * 512 + q.val, by omega⟩
def til (t : Fin cfg0.N) : Fin 11 := ⟨t.val % 11, by omega⟩

/-! ## The blocks at a grid point -/

theorem b0 (c : Dev nD) (t : Fin cfg0.N) (q : Fin 512) (d : Fin 2048) :
    iblk m c 0 t (ix3 0 q d) = argX m c (ix3 (bat t) (tok t q) d) := by
  blk_simp [iblk]
  rw [show (win0_0.blk t).view.emb (ix3 0 q d) = ix3 (bat t) (tok t q) d from by blk_ext [idx0 t, bat, tok]]
  rfl

theorem b1 (c : Dev nD) (t : Fin cfg0.N) (q : Fin 512) (d : Fin 2048) :
    iblk m c 1 t (ix3 0 q d) = argH m c (ix3 (bat t) (tok t q) d) := by
  blk_simp [iblk]
  rw [show (win0_1.blk t).view.emb (ix3 0 q d) = ix3 (bat t) (tok t q) d from by blk_ext [idx1 t, bat, tok]]
  exact V_h m c _

theorem b2 (c : Dev nD) (t : Fin cfg0.N) (d : Fin 2048) :
    iblk m c 2 t (ix4 0 0 5 d) = argM m c (ix3 1 (bat t) ⟨10240 + d.val, by omega⟩) := by
  blk_simp [iblk]
  rw [show (win0_2.blk t).view.emb (ix4 0 0 5 d) = ix4 1 (bat t) 5 d from by blk_ext [idx2 t, bat]]
  exact V_m m c _ _ _ _

theorem b3 (c : Dev nD) (t : Fin cfg0.N) (e : Fin 2048) (k : Fin 512) :
    iblk m c 3 t (ix3 0 e k) = argW m c (ix3 1 e ⟨(til t).val * 512 + k.val, by omega⟩) := by
  blk_simp [iblk]
  rw [show (win0_3.blk t).view.emb (ix3 0 e k) = ix3 1 e ⟨(til t).val * 512 + k.val, by omega⟩ from by blk_ext [idx3 t, til]]
  exact V_w m c _

theorem b4 (c : Dev nD) (t : Fin cfg0.N) (e : Fin 2048) (k : Fin 512) :
    iblk m c 4 t (ix3 0 e k) = argW m c (ix3 1 e ⟨5632 + ((til t).val * 512 + k.val), by omega⟩) := by
  blk_simp [iblk]
  rw [show (win0_4.blk t).view.emb (ix3 0 e k) = ix3 1 e ⟨5632 + ((til t).val * 512 + k.val), by omega⟩ from by blk_ext [idx4 t, til]]
  exact V_w m c _

theorem b5 (c : Dev nD) (t : Fin cfg0.N) (k : Fin 512) (d : Fin 2048) :
    iblk m c 5 t (ix3 0 k d) = argD m c (ix3 1 ⟨(til t).val * 512 + k.val, by omega⟩ d) := by
  blk_simp [iblk]
  rw [show (win0_5.blk t).view.emb (ix3 0 k d) = ix3 1 ⟨(til t).val * 512 + k.val, by omega⟩ d from by blk_ext [idx5 t, til]]
  exact V_d m c _

theorem b6 (c : Dev nD) (t : Fin cfg0.N) (d : Fin 2048) : iblk m c 6 t (ix2 0 d) = argG m c (ix1 d) := by
  blk_simp [iblk]
  rw [show (win0_6.blk t).view.emb (ix2 0 d) = ix2 0 d from by blk_ext [idx6 t]]
  exact V_g m c _

/-- What a grid point adds to its output block. -/
theorem step (c : Dev nD) (t : Fin cfg0.N) (acc : Vec Ideal S1x512x2048 .f32) (q : Fin 512) (d : Fin 2048)
    (g : Vec Ideal S1x1x1x2048 .f32) (hg : g (ix4 0 0 0 d) = iblk m c 2 t (ix4 0 0 5 d)) :
    k0_pay1 (k0_pay4 (iblk m c 1 t) (iblk m c 3 t) (iblk m c 4 t) (iblk m c 5 t)) (k0_pay5 acc) (k0_pay6 g) (ix3 0 q d)
      = acc (ix3 0 q d) + argM m c (ix3 1 (bat t) ⟨10240 + d.val, by omega⟩)
          * part (argH m c) (argW m c) (argD m c) (bat t) (tok t q) d (til t) := by
  rw [pay1_at, hg, b2]
  simp only [b1, b3, b4, b5]
  rfl

/-- The modulation's last row as the body loads it. -/
theorem ld_m (x2 : Vec Ideal S1x1x6x2048 .f32) (d : Fin 2048) :
    View.ld x2 (Rect.unit ![0, 0, 5, 0] ![1, 1, 1, 2048] inb_S1x1x6x2048_S1x1x1x2048_0_0_5_0) (ix4 0 0 0 d) = x2 (ix4 0 0 5 d) :=
  congrArg x2 (funext fun a => Fin.ext (by fin_cases a <;> simp <;> rfl))

/-- What tile `s` adds, and nothing past the last. -/
def gated (c : Dev nD) (b : Fin 16) (i d : Fin 2048) (s : ℕ) : EReal :=
  if hs : s < 11 then argM m c (ix3 1 b ⟨10240 + d.val, by omega⟩) * part (argH m c) (argW m c) (argD m c) b i d ⟨s, hs⟩ else 0

/-- The output block after `r` tiles, before the last one. -/
theorem partial_eq (c : Dev nD) (q : Fin 512) (d : Fin 2048) : ∀ (r : ℕ) (t : Fin cfg0.N), t.val % 11 = r → r < 10 →
    outsAt0 m c t.val t.isLt (ix3 0 q d)
      = argX m c (ix3 (bat t) (tok t q) d) + ∑ s ∈ Finset.range (r + 1), gated m c (bat t) (tok t q) d s := by
  intro r
  induction r with
  | zero =>
    intro t h0 _
    rw [outsAt0_A m c t h0 (by omega)]
    frame_out
    rw [step m c t _ q d _ (ld_m _ d), pay3_at, b0, Finset.sum_range_one]
    simp only [gated, til, h0, Nat.zero_lt_succ, dite_true]
  | succ r ih =>
    intro t h0 h1
    have hl : t.val - 1 < cfg0.N := Nat.lt_of_le_of_lt (Nat.sub_le _ _) t.isLt
    have hb : bat ⟨t.val - 1, hl⟩ = bat t := Fin.ext (by simp only [bat]; omega)
    have ht : tok ⟨t.val - 1, hl⟩ q = tok t q := Fin.ext (by simp only [tok]; omega)
    have h := ih ⟨t.val - 1, hl⟩ (by simp only; omega) (by omega)
    rw [hb, ht] at h
    rw [outsAt0_B m c t (by omega) (by omega)]
    frame_out
    rw [step m c t _ q d _ (ld_m _ d), h, add_assoc, Finset.sum_range_succ _ (r + 1)]
    congr 2
    simp only [gated, til, h0, dif_pos (show r + 1 < 11 by omega)]

/-- All tiles together. -/
theorem gated_sum (c : Dev nD) (b : Fin 16) (i d : Fin 2048) :
    ∑ s ∈ Finset.range 11, gated m c b i d s
      = ∑ s : Fin 11, argM m c (ix3 1 b ⟨10240 + d.val, by omega⟩) * part (argH m c) (argW m c) (argD m c) b i d s := by
  rw [Finset.sum_range]
  exact Finset.sum_congr rfl fun s _ => by simp only [gated, s.isLt, dite_true]

/-- Finite activations, modulation and weights, as far as the call reads them. -/
structure Finite (c : Dev nD) : Prop where
  h : ∀ j, argH m c j = ((argH m c j).toReal : EReal)
  w : ∀ e n, argW m c (ix3 1 e n) = ((argW m c (ix3 1 e n)).toReal : EReal)
  d : ∀ u d, argD m c (ix3 1 u d) = ((argD m c (ix3 1 u d)).toReal : EReal)
  m : ∀ b (d : Fin 2048), argM m c (ix3 1 b ⟨10240 + d.val, by omega⟩)
    = ((argM m c (ix3 1 b ⟨10240 + d.val, by omega⟩)).toReal : EReal)

/-- The last point of a block leaves the normalised stream. -/
theorem last_eq (c : Dev nD) (hf : Finite m c) (t : Fin cfg0.N) (h1 : t.val % 11 = 10) (q : Fin 512) (d : Fin 2048) :
    outsAt0 m c t.val t.isLt (ix3 0 q d)
      = out (argX m c) (argH m c) (argM m c) (argW m c) (argD m c) (argG m c) (ix3 (bat t) (tok t q) d) := by
  have hl : t.val - 1 < cfg0.N := Nat.lt_of_le_of_lt (Nat.sub_le _ _) t.isLt
  have hb : bat ⟨t.val - 1, hl⟩ = bat t := Fin.ext (by simp only [bat]; omega)
  have ht : tok ⟨t.val - 1, hl⟩ q = tok t q := Fin.ext (by simp only [tok]; omega)
  rw [outsAt0_C m c t (by omega) h1]
  frame_out
  rw [pay2_at, b6]
  show norm _ _ _ = norm (stream (argX m c) (argH m c) (argM m c) (argW m c) (argD m c) (bat t) (tok t q)) (argG m c (ix1 d)) d
  congr 1
  funext e
  have h := partial_eq m c q e 9 ⟨t.val - 1, hl⟩ (by simp only; omega) (by omega)
  rw [hb, ht] at h
  rw [step m c t _ q e _ (ld_m _ e), h, add_assoc]
  refine Eq.trans ?_ (stream_eq _ _ _ _ _ hf.h hf.w hf.d hf.m _ _ _)
  rw [← gated_sum m c, Finset.sum_range_succ _ 10]
  congr 2
  simp only [gated, til, h1, dif_pos (show 10 < 11 by omega)]

theorem flush7 : ∀ t : Fin cfg0.N, (cfg0.win 7).flush t = true → t.val % 11 = 10 :=
  (by decide +kernel : ∀ t : Fin grid0.N, _)

/-- The result array after the run. -/
theorem final (c : Dev nD) (hfin : Finite m c) :
    (dats m 0 c).arrAt 7 cfg0.N = out (argX m c) (argH m c) (argM m c) (argW m c) (argD m c) (argG m c) := by
  refine (dats m 0 c).arrAt_eq_of_covers 7 _ covers7 fun t hf y => ?_
  blk_simp
  rw [after0_7]
  obtain ⟨a, q, d, rfl⟩ : ∃ a q d, y = ix3 a q d := ⟨_, _, _, eq_ix3 y⟩
  obtain rfl : a = 0 := Subsingleton.elim _ _
  rw [show (win0_7.blk t).view.emb (ix3 0 q d) = ix3 (bat t) (tok t q) d from by blk_ext [idx7 t, bat, tok]]
  exact last_eq m c hfin t (flush7 t hf) q d

end Cert.Proof.Ffn

end
-- ==== Proof.FfnRef.lean ====
/- The feed-forward reference is the same function of its arguments. -/
module

public import proofs.«01_k».proof.Proof.Ffn
public import proofs.«01_k».proof.Proof.Gen.FfnReferenceIdeal.Read

@[expose] public section

set_option maxRecDepth 16384

noncomputable section

namespace Cert.Proof.FfnRef

open Cert.FfnReferenceIdeal Cert.FfnReferenceIdeal.Gen Cert.FfnReferenceIdeal.Read Idealize.ShloMosaic

variable (x h : Vec Ideal S16x2048x2048 .f32) (md : Vec Ideal S2x16x12288 .f32) (w : Vec Ideal S2x2048x11264 .f32)
  (wd : Vec Ideal S2x5632x2048 .f32) (fg : Vec Ideal S2048 .f32)

theorem proj_at (b : Fin 16) (i : Fin 2048) (n : Fin 11264) :
    val_main_v13 h w (ix3 b i n) = Ffn.proj h w b i n := by
  pointwise [val_main_v13, val_main_v10, val_main_v9]
  rfl

theorem unit_at (b : Fin 16) (i : Fin 2048) (u : Fin 5632) :
    val_main_v17 h w (ix3 b i u) = Ffn.unit h w b i u := by
  pointwise [val_main_v17, val_main_v16, val_main_v15, val_main_v14, val_main_call0_v5, val_main_call0_v4, val_main_call0_v3,
    val_main_call0_v2, val_main_call0_v1, val_main_call0_v0, val_main_call0_cst, val_main_call0_cst_0]
  simp only [proj_at, Ffn.unit, Ffn.silu]

theorem stream_at (b : Fin 16) (i d : Fin 2048) :
    val_main_v21 x h md w wd (ix3 b i d) = Ffn.stream x h md w wd b i d := by
  pointwise [val_main_v21, val_main_v20, val_main_v19, val_main_v18, val_main_v12, val_main_v11, val_main_v8, val_main_v7, val_main_v1, val_main_v0]
  simp only [unit_at, Ffn.stream]

theorem ref_eq : val_main_v34 x h md w wd fg = Ffn.out x h md w wd fg := by
  funext j
  obtain ⟨b, i, d, rfl⟩ : ∃ b i d, j = ix3 b i d := ⟨_, _, _, eq_ix3 j⟩
  pointwise [val_main_v34, val_main_v33, val_main_v32, val_main_v31, val_main_v30, val_main_v29, val_main_v28, val_main_v27, val_main_v26,
    val_main_v25, val_main_v24, val_main_v23, val_main_v22, val_main_cst_0, val_main_cst_1]
  simp only [stream_at]
  rw [show val_main_cst (F := Ideal) (Shape.Idx.first h_S_) = (0 : EReal) from Ideal.ofBits_zero_f32, zero_add]
  rfl

end Cert.Proof.FfnRef

end
-- ==== Proof.FfnAlg.lean ====
/- The feed-forward call against its reference, from the same arguments. -/
module

public import proofs.«01_k».proof.Proof.AttnAlg
public import proofs.«01_k».proof.Proof.FfnValue
public import proofs.«01_k».proof.Proof.FfnRef
public import proofs.«01_k».proof.Proof.Gen.Pre_ffn_finite

@[expose] public section

set_option maxRecDepth 16384

noncomputable section

namespace Cert.Proof.Ffn

open Idealize.ShloMosaic Idealize.SL.Sem

/-! A layer's slice of the modulation and of the weights, read at an index. -/

theorem slice_m [Cert.Pre_ffn_finite.Facts] (x : Vec Ideal Pre_ffn_finite.S2x16x12288 .f32) (b : Fin 16) (d : Fin 2048) :
    shapeCast Pre_ffn_finite.S16x2048 (extractStridedSlice Pre_ffn_finite.S1x16x2048 ![1, 0, 10240] x
      Pre_ffn_finite.Facts.slices_S2x16x12288_S1x16x2048_1_0_10240) Pre_ffn_finite.Facts.shapeCasts_S1x16x2048_S16x2048 (ix2 b d)
      = x (ix3 1 b ⟨10240 + d.val, by omega⟩) := by
  pointwise

theorem slice_w [Cert.Pre_ffn_finite.Facts] (x : Vec Ideal Pre_ffn_finite.S2x2048x11264 .f32) (e : Fin 2048) (n : Fin 11264) :
    shapeCast Pre_ffn_finite.S2048x11264 (extractStridedSlice Pre_ffn_finite.S1x2048x11264 ![1, 0, 0] x
      Pre_ffn_finite.Facts.slices_S2x2048x11264_S1x2048x11264_1_0_0) Pre_ffn_finite.Facts.shapeCasts_S1x2048x11264_S2048x11264 (ix2 e n)
      = x (ix3 1 e n) := by
  pointwise

theorem slice_d [Cert.Pre_ffn_finite.Facts] (x : Vec Ideal Pre_ffn_finite.S2x5632x2048 .f32) (u : Fin 5632) (d : Fin 2048) :
    shapeCast Pre_ffn_finite.S5632x2048 (extractStridedSlice Pre_ffn_finite.S1x5632x2048 ![1, 0, 0] x
      Pre_ffn_finite.Facts.slices_S2x5632x2048_S1x5632x2048_1_0_0) Pre_ffn_finite.Facts.shapeCasts_S1x5632x2048_S5632x2048 (ix2 u d)
      = x (ix3 1 u d) := by
  pointwise

/-- What the precondition says of the arguments. -/
theorem finite [Cert.Pre_ffn_finite.Facts] (m : (ℓ : Loc FfnIdeal.nD FfnIdeal.τ FfnIdeal.sig) → Buf (Elt Ideal) ℓ)
    (h : Pre_FfnIdeal_ffn_finite m) (c : Dev FfnIdeal.nD) : Finite m c where
  h j := real_of_abs_lt (congrFun (h c).1 j)
  m b d := by
    have r := real_of_abs_lt (congrFun (h c).2.1 (ix2 b d))
    exact (slice_m (argM m c) b d) ▸ r
  w e n := by
    have r := real_of_abs_lt (congrFun (h c).2.2.1 (ix2 e n))
    exact (slice_w (argW m c) e n) ▸ r
  d u d := by
    have r := real_of_abs_lt (congrFun (h c).2.2.2 (ix2 u d))
    exact (slice_d (argD m c) u d) ▸ r

/-- Both programs end at the same residual stream, normalised. -/
theorem algebraic : algebraic_FfnIdeal_FfnReferenceIdeal_pre_ffn_finite (hFfnIdeal := FfnIdeal.Gen.facts)
    (hFfnReferenceIdeal := FfnReferenceIdeal.Gen.facts) (hPre_ffn_finite := Pre_ffn_finite.Gen.facts) := by
  haveI := Pre_ffn_finite.Gen.facts
  intro m g m' g' hpre hargs
  refine ⟨fun c => out (argX m c) (argH m c) (argM m c) (argW m c) (argD m c) (argG m c), ?_, ?_⟩
  · exact (θ_run _ _ _).mono (fun r h c => ⟨(h c).1.trans (final m c (finite m hpre c)), (h c).2⟩) (FfnIdeal.Value.run_blocks m g)
  · refine (θ_run _ _ _).mono (fun r h c => ⟨(h c).1.trans ?_, (h c).2⟩) (FfnReferenceIdeal.Value.run m' g')
    obtain ⟨e0, e1, e2, e3, e4, e5⟩ := hargs c
    refine (FfnReferenceIdeal.Read.val_main_v34_eq m' c).trans ?_
    rw [e0, e1, e2, e3, e4, e5]
    exact FfnRef.ref_eq _ _ _ _ _ _

end Cert.Proof.Ffn

end
-- ==== Proof.Mla.lean ====
/- What the latent attention's kernel leaves of one block, head by head. -/
module

public import proofs.«01_k».proof.Proof.Attn
public import proofs.«01_k».proof.Proof.Gen.MlaIdeal.Value

@[expose] public section

set_option maxRecDepth 16384

noncomputable section

namespace Cert.Proof.Mla

open Cert.MlaIdeal Cert.MlaIdeal.Gen Idealize.ShloMosaic Idealize.ShloMosaic.TcCoe
open Cert.Proof.Online Cert.Proof.Softmax
open Cert.Proof.Attn (chunkV chunkV_apply dot_scaled)

section Pieces

variable {F : FTy → Type} [FloatOps F] [Named F]

/-- The queries of one head, scaled. -/
def scaled (x : Vec F S1x256x512 .f32) : FVec F S256x512 .bf16 :=
  truncf .bf16 (mulf (shapeCast S256x512 x (by decide)) (broadcast S256x512 (Named.named κ "mscale" 0x3DD53B95#32))) (by decide)

/-- The scores of one chunk of the head's keys. -/
def chunk (x : Vec F S1x256x512 .f32) (k : Vec F S1x512x256 .bf16) : FVec F S512x512 .f32 :=
  matmul dot_S512x256_S256x512_S512x512_1_0_0_1_n_n none (shapeCast S512x256 k (by decide)) (scaled x)
    (constant S512x512 .f32 0x00000000#32)

/-- One head from its queries and its chunks of keys and values. -/
def head (x : Vec F S1x256x512 .f32) (k0 k1 k2 k3 : Vec F S1x512x256 .bf16) (v0 v1 v2 v3 : Vec F S1x128x512 .bf16) :
    FVec F S1x512x128 .bf16 :=
  headOut (chunk x k0) (chunk x k1) (chunk x k2) (chunk x k3) (chunkV v0) (chunkV v1) (chunkV v2) (chunkV v3)

/-- The two stores are the two heads. -/
theorem out_eq (x0 : Vec F S1x512x512 .f32) (x1 : Vec F S1x2048x512 .bf16) (x2 : Vec F S1x256x2048 .bf16) :
    out0_3 x0 x1 x2 = View.canon [
      ⟨r0_19, head (View.ld x0 r0_1) (View.ld x1 r0_9) (View.ld x1 r0_12) (View.ld x1 r0_14) (View.ld x1 r0_16)
        (View.ld x2 r0_13) (View.ld x2 r0_15) (View.ld x2 r0_17) (View.ld x2 r0_18)⟩,
      ⟨r0_11, head (View.ld x0 r0_0) (View.ld x1 r0_2) (View.ld x1 r0_3) (View.ld x1 r0_5) (View.ld x1 r0_7)
        (View.ld x2 r0_4) (View.ld x2 r0_6) (View.ld x2 r0_8) (View.ld x2 r0_10)⟩] := rfl

end Pieces

/-- The value that scales the queries: one over the root of the head's size, and one over the logarithm of two. -/
def ms : ℝ := (Real.sqrt 192)⁻¹ * (Real.log 2)⁻¹

theorem named_ms : (Named.named (F := Ideal) κ "mscale" 0x3DD53B95#32 : Ideal .f32) = (ms : EReal) := rfl

theorem scaled_apply (x : Vec Ideal S1x256x512 .f32) (e : Fin 256) (q : Fin 512) :
    scaled x (ix2 e q) = x (ix3 0 e q) * (ms : EReal) := by
  pointwise [scaled]
  rfl

theorem chunk_apply (x : Vec Ideal S1x256x512 .f32) (k : Vec Ideal S1x512x256 .bf16) (j q : Fin 512) :
    chunk x k (ix2 j q) = ∑ e : Fin 256, k (ix3 0 j e) * (x (ix3 0 e q) * (ms : EReal)) := by
  refine Eq.trans (b := ∑ e : Fin 256, k (ix3 0 j e) * scaled x (ix2 e q)) ?_
    (Finset.sum_congr rfl fun e _ => by rw [scaled_apply])
  pointwise [chunk]

/-- A head at a query and a value channel, the queries and keys being real. -/
theorem head_apply (x : Vec Ideal S1x256x512 .f32) (k : Fin 4 → Vec Ideal S1x512x256 .bf16) (v : Fin 4 → Vec Ideal S1x128x512 .bf16)
    (q : Fin 512) (d : Fin 128) (qr : Fin 256 → ℝ) (kr : Fin 2048 → Fin 256 → ℝ) (vr : Fin 2048 → EReal)
    (hq : ∀ e, x (ix3 0 e q) = (qr e : EReal)) (hk : ∀ c j e, k c (ix3 0 j e) = (kr (pl c j) e : EReal))
    (hv : ∀ c j, v c (ix3 0 d j) = vr (pl c j)) :
    head x (k 0) (k 1) (k 2) (k 3) (v 0) (v 1) (v 2) (v 3) (ix3 0 q d)
      = smx (fun s => (∑ e, kr s e * qr e) / Real.sqrt 192) vr := by
  refine headOut_apply (fun c => chunk x (k c)) (fun c => chunkV (v c)) q d (fun s => (∑ e, kr s e * qr e) * ms) _ ?_ ?_ _ ?_
  · intro c j
    rw [chunk_apply, ← dot_scaled]
    exact Finset.sum_congr rfl fun e _ => by rw [hk, hq]
  · intro t
    rw [← wt_div_log, ms, ← mul_assoc, div_eq_mul_inv]
  · intro c j
    exact (chunkV_apply _ d j).trans (hv c j)

/-- A sum over a padded axis, the padding being zero. -/
theorem sum_padded (f : Fin 256 → ℝ) (g : Fin 192 → ℝ) (h : ∀ (e : Fin 256) (h : e.val < 192), f e = g ⟨e.val, h⟩)
    (h' : ∀ e : Fin 256, ¬ e.val < 192 → f e = 0) : (∑ e, f e) = ∑ e, g e := by
  have s := Fin.sum_univ_add (a := 192) (b := 64) f
  have z : ∑ e : Fin 64, f (Fin.natAdd 192 e) = 0 := Finset.sum_eq_zero fun e _ => h' _ (Nat.not_lt.mpr (Nat.le_add_right 192 e.val))
  rw [Finset.sum_congr rfl fun e _ => h (Fin.castAdd 64 e) e.isLt, z, add_zero] at s
  exact s

end Cert.Proof.Mla

end
-- ==== Proof.MlaValue.lean ====
/- The latent attention's result array, as one function of the argument arrays. -/
module

public import proofs.«01_k».proof.Proof.Mla
public import Idealize.ShloMosaic.Lib.Pipeline.ValueKit.Point
public import Idealize.ShloMosaic.Lib.Pipeline.ValueKit.Tiles

@[expose] public section

set_option maxRecDepth 16384

noncomputable section

namespace Cert.Proof.Mla

open Cert.MlaIdeal Cert.MlaIdeal.Gen Cert.MlaIdeal.Value Idealize.ShloMosaic Idealize.ShloMosaic.TcCoe Idealize.SL.Sem
open Cert.Proof.Online Cert.Proof.Softmax

/-- A column's head and its channel. -/
def hd (c : Fin 512) : Fin 4 := ⟨c.val / 128, by omega⟩
def ch (c : Fin 512) : Fin 128 := ⟨c.val % 128, by omega⟩

/-- A head's lane in the padded queries and keys, and in the values: of a block's two heads, and of the four. -/
def lq (r : Fin 2) (e : Fin 256) : Fin 512 := ⟨r.val * 256 + e.val, by omega⟩
def lv (r : Fin 2) (d : Fin 128) : Fin 256 := ⟨r.val * 128 + d.val, by omega⟩
def cq (h : Fin 4) (e : Fin 256) : Fin 1024 := ⟨h.val * 256 + e.val, by omega⟩
def cv (h : Fin 4) (d : Fin 128) : Fin 512 := ⟨h.val * 128 + d.val, by omega⟩

/-- The score of query `i` of head `h` and key `s`. -/
def score (q k : S16x2048x4x192.Idx → EReal) (b : Fin 16) (i : Fin 2048) (h : Fin 4) (s : Fin 2048) : ℝ :=
  (∑ e : Fin 192, (k (ix4 b s h e)).toReal * (q (ix4 b i h e)).toReal) / Real.sqrt 192

/-- The attention: at batch `b`, query `i` and a head's channel the softmax average of the head's values. -/
def attn (q k : S16x2048x4x192.Idx → EReal) (v : S16x2048x4x128.Idx → EReal) : S16x2048x512.Idx → EReal := fun j =>
  smx (score q k (j 0) (j 1) (hd (j 2))) fun s => v (ix4 (j 0) s (hd (j 2)) (ch (j 2)))

variable (m : (ℓ : Loc nD τ sig) → Buf (Elt Ideal) ℓ) (ρ : Dev nD → PrngReg)

/-- Core `c`'s queries, keys and values. -/
abbrev argQ (c : Dev nD) : Vec Ideal S16x2048x4x192 .f32 := m ((c : Thread nD τ).loc main_arg0)
abbrev argK (c : Dev nD) : Vec Ideal S16x2048x4x192 .f32 := m ((c : Thread nD τ).loc main_arg1)
abbrev argV (c : Dev nD) : Vec Ideal S16x2048x4x128 .f32 := m ((c : Thread nD τ).loc main_arg2)

/-- A padded head's entry. -/
def padded (a : S16x2048x4x192.Idx → EReal) (b : Fin 16) (i : Fin 2048) (h : Fin 4) (e : Fin 256) : EReal :=
  if l : e.val < 192 then a (ix4 b i h ⟨e.val, l⟩) else 0

theorem V_q (c : Dev nD) (b : Fin 16) (h : Fin 4) (e : Fin 256) (i : Fin 2048) :
    V m c main_v2 (ix3 b (cq h e) i) = padded (argQ m c) b i h e := by
  have hv : V m c main_v2 = transpose (s := S16x2048x1024) S16x1024x2048 [0, 2, 1] (shapeCast (s := S16x2048x4x256) S16x2048x1024
      (pad S16x2048x4x256 ![0, 0, 0, 0] ![0, 0, 0, 64] ![0, 0, 0, 0] (argQ m c) (constant (F := Ideal) S_ .f32 0x00000000#32)
        pads_S16x2048x4x192_S16x2048x4x256_000_000_000_0640 h_S_) (by decide)) (by decide) := by
    show StableHlo.after hostOps0 _ (Proc.devRef .tc main_v2) = _
    after_results
    exact congrArg (fun z => transpose (s := S16x2048x1024) S16x1024x2048 [0, 2, 1] z transposes_S16x2048x1024_S16x1024x2048_0_2_1) rfl
  rw [hv]
  pointwise [cq]
  rfl

theorem V_k (c : Dev nD) (b : Fin 16) (s : Fin 2048) (h : Fin 4) (e : Fin 256) :
    V m c main_v8 (ix3 b s (cq h e)) = padded (argK m c) b s h e := by
  have hv : V m c main_v8 = truncf (F := Ideal) (φ := .f32) .bf16 (shapeCast (s := S16x2048x4x256) S16x2048x1024
      (pad S16x2048x4x256 ![0, 0, 0, 0] ![0, 0, 0, 64] ![0, 0, 0, 0] (argK m c) (constant (F := Ideal) S_ .f32 0x00000000#32)
        pads_S16x2048x4x192_S16x2048x4x256_000_000_000_0640 h_S_) (by decide)) (by decide) := by
    show StableHlo.after hostOps0 _ (Proc.devRef .tc main_v8) = _
    after_results
    exact congrArg (fun z => truncf (F := Ideal) (φ := .f32) .bf16 (s := S16x2048x1024) z bitsLt_bf16_f32) rfl
  rw [hv]
  pointwise [cq]
  rfl

theorem V_v (c : Dev nD) (b : Fin 16) (n : Fin 512) (s : Fin 2048) :
    V m c main_v5 (ix3 b n s) = argV m c (ix4 b s (hd n) (ch n)) := by
  have hv : V m c main_v5 = truncf (F := Ideal) (φ := .f32) .bf16 (transpose (s := S16x2048x512) S16x512x2048 [0, 2, 1]
      (shapeCast (s := S16x2048x4x128) S16x2048x512 (argV m c) (by decide)) (by decide)) (by decide) := by
    show StableHlo.after hostOps0 _ (Proc.devRef .tc main_v5) = _
    after_results
    exact congrArg (fun z => truncf (F := Ideal) (φ := .f32) .bf16 (transpose (s := S16x2048x512) S16x512x2048 [0, 2, 1] z transposes_S16x2048x512_S16x512x2048_0_2_1) bitsLt_bf16_f32) rfl
  rw [hv]
  pointwise [cq]
  rfl

/-- Each window's block index at a grid point. -/
theorem idx0 : ∀ t : Fin cfg0.N, win0_0.index t = ![t.val / 8, t.val / 4 % 2, t.val % 4] := (by decide +kernel : ∀ t : Fin grid0.N, _)
theorem idx1 : ∀ t : Fin cfg0.N, win0_1.index t = ![t.val / 8, 0, t.val / 4 % 2] := (by decide +kernel : ∀ t : Fin grid0.N, _)
theorem idx2 : ∀ t : Fin cfg0.N, win0_2.index t = ![t.val / 8, t.val / 4 % 2, 0] := (by decide +kernel : ∀ t : Fin grid0.N, _)
theorem idx3 : ∀ t : Fin cfg0.N, win0_3.index t = ![t.val / 8, t.val % 4, t.val / 4 % 2] := (by decide +kernel : ∀ t : Fin grid0.N, _)

theorem covers3 : (cfg0.win 3).Covers := by decide +kernel

/-- A grid point's batch, its head of number `r`, and its query. -/
def bat (t : Fin cfg0.N) : Fin 16 := ⟨t.val / 8, by have : t.val < 128 := t.isLt; omega⟩
def hed (t : Fin cfg0.N) (r : Fin 2) : Fin 4 := ⟨t.val / 4 % 2 * 2 + r.val, by omega⟩
def tok (t : Fin cfg0.N) (q : Fin 512) : Fin 2048 := ⟨t.val % 4 * 512 + q.val, by omega⟩

/-! A window's block of an array. -/

theorem read0 (A : Vec Ideal S16x1024x2048 .f32) (t : Fin cfg0.N) (r : Fin 2) (e : Fin 256) (q : Fin 512) :
    ((cfg0.win 0).blk t).view.read (Elt Ideal) A (ix3 0 (lq r e) q) = A (ix3 (bat t) (cq (hed t r) e) (tok t q)) := by
  show A ((win0_0.blk t).view.emb (ix3 0 (lq r e) q)) = _
  rw [show (win0_0.blk t).view.emb (ix3 0 (lq r e) q) = ix3 (bat t) (cq (hed t r) e) (tok t q) from by blk_ext [idx0 t, bat, hed, tok, lq, cq]]

theorem read1 (A : Vec Ideal S16x2048x1024 .bf16) (t : Fin cfg0.N) (r : Fin 2) (s : Fin 2048) (e : Fin 256) :
    ((cfg0.win 1).blk t).view.read (Elt Ideal) A (ix3 0 s (lq r e)) = A (ix3 (bat t) s (cq (hed t r) e)) := by
  show A ((win0_1.blk t).view.emb (ix3 0 s (lq r e))) = _
  rw [show (win0_1.blk t).view.emb (ix3 0 s (lq r e)) = ix3 (bat t) s (cq (hed t r) e) from by blk_ext [idx1 t, bat, hed, lq, cq]]

theorem read2 (A : Vec Ideal S16x512x2048 .bf16) (t : Fin cfg0.N) (r : Fin 2) (d : Fin 128) (s : Fin 2048) :
    ((cfg0.win 2).blk t).view.read (Elt Ideal) A (ix3 0 (lv r d) s) = A (ix3 (bat t) (cv (hed t r) d) s) := by
  show A ((win0_2.blk t).view.emb (ix3 0 (lv r d) s)) = _
  rw [show (win0_2.blk t).view.emb (ix3 0 (lv r d) s) = ix3 (bat t) (cv (hed t r) d) s from by blk_ext [idx2 t, bat, hed, lv, cv]]

theorem b0 (c : Dev nD) (t : Fin cfg0.N) (r : Fin 2) (e : Fin 256) (q : Fin 512) :
    iblk m c 0 t (ix3 0 (lq r e) q) = padded (argQ m c) (bat t) (tok t q) (hed t r) e := by
  unfold iblk
  exact (read0 (V m c main_v2) t r e q).trans (V_q m c _ _ _ _)

theorem b1 (c : Dev nD) (t : Fin cfg0.N) (r : Fin 2) (s : Fin 2048) (e : Fin 256) :
    iblk m c 1 t (ix3 0 s (lq r e)) = padded (argK m c) (bat t) s (hed t r) e := by
  unfold iblk
  exact (read1 (V m c main_v8) t r s e).trans (V_k m c _ _ _ _)

theorem b2 (c : Dev nD) (t : Fin cfg0.N) (r : Fin 2) (d : Fin 128) (s : Fin 2048) :
    iblk m c 2 t (ix3 0 (lv r d) s) = argV m c (ix4 (bat t) s (hed t r) d) := by
  unfold iblk
  refine (read2 (V m c main_v5) t r d s).trans ((V_v m c _ _ _).trans (congrArg (argV m c) ?_))
  rw [show hd (cv (hed t r) d) = hed t r from Fin.ext (by simp only [hd, cv]; omega),
    show ch (cv (hed t r) d) = d from Fin.ext (by simp only [ch, cv]; omega)]

/-- The four loads of a head's keys, and of its values. -/
theorem ld_k (x1 : Vec Ideal S1x2048x512 .bf16) (j : Fin 512) (e : Fin 256) (c : Fin 4) :
    (![View.ld x1 r0_2, View.ld x1 r0_3, View.ld x1 r0_5, View.ld x1 r0_7] : Fin 4 → Vec Ideal S1x512x256 .bf16) c (ix3 0 j e)
      = x1 (ix3 0 (pl c j) (lq 0 e))
    ∧ (![View.ld x1 r0_9, View.ld x1 r0_12, View.ld x1 r0_14, View.ld x1 r0_16] : Fin 4 → Vec Ideal S1x512x256 .bf16) c (ix3 0 j e)
      = x1 (ix3 0 (pl c j) (lq 1 e)) := by
  fin_cases c <;> refine ⟨?_, ?_⟩ <;> exact congrArg x1 (funext fun a => Fin.ext (by fin_cases a <;> simp [pl, lq, lv] <;> rfl))

theorem ld_v (x2 : Vec Ideal S1x256x2048 .bf16) (j : Fin 512) (d : Fin 128) (c : Fin 4) :
    (![View.ld x2 r0_4, View.ld x2 r0_6, View.ld x2 r0_8, View.ld x2 r0_10] : Fin 4 → Vec Ideal S1x128x512 .bf16) c (ix3 0 d j)
      = x2 (ix3 0 (lv 0 d) (pl c j))
    ∧ (![View.ld x2 r0_13, View.ld x2 r0_15, View.ld x2 r0_17, View.ld x2 r0_18] : Fin 4 → Vec Ideal S1x128x512 .bf16) c (ix3 0 d j)
      = x2 (ix3 0 (lv 1 d) (pl c j)) := by
  fin_cases c <;> refine ⟨?_, ?_⟩ <;> exact congrArg x2 (funext fun a => Fin.ext (by fin_cases a <;> simp [pl, lq, lv] <;> rfl))

theorem ld_q (x0 : Vec Ideal S1x512x512 .f32) (e : Fin 256) (q : Fin 512) :
    View.ld x0 r0_0 (ix3 0 e q) = x0 (ix3 0 (lq 0 e) q)
    ∧ View.ld x0 r0_1 (ix3 0 e q) = x0 (ix3 0 (lq 1 e) q) := by
  refine ⟨?_, ?_⟩ <;> exact congrArg x0 (funext fun a => Fin.ext (by fin_cases a <;> simp [lq] <;> rfl))

/-- A padded head of real numbers is real. -/
theorem padded_real (a : S16x2048x4x192.Idx → EReal) (ha : ∀ j, a j = ((a j).toReal : EReal)) (b : Fin 16) (i : Fin 2048)
    (h : Fin 4) (e : Fin 256) : padded a b i h e = ((padded a b i h e).toReal : EReal) := by
  unfold padded
  split_ifs with l
  · exact ha _
  · rfl

/-- A padded head's product is the head's. -/
theorem score_eq (q k : S16x2048x4x192.Idx → EReal) (b : Fin 16) (i : Fin 2048) (h : Fin 4) (s : Fin 2048) :
    (∑ e : Fin 256, (padded k b s h e).toReal * (padded q b i h e).toReal) / Real.sqrt 192 = score q k b i h s := by
  unfold score
  congr 1
  refine sum_padded _ _ (fun e l => ?_) fun e l => ?_
  · simp only [padded, dif_pos l]
  · simp only [padded, dif_neg l, EReal.toReal_zero, mul_zero]

/-- One head of a block is the attention at the block's place. -/
theorem head_at (c : Dev nD) (hq : ∀ j, argQ m c j = ((argQ m c j).toReal : EReal))
    (hk : ∀ j, argK m c j = ((argK m c j).toReal : EReal)) (t : Fin cfg0.N) (r : Fin 2) (xq : Vec Ideal S1x256x512 .f32)
    (k : Fin 4 → Vec Ideal S1x512x256 .bf16) (v : Fin 4 → Vec Ideal S1x128x512 .bf16)
    (hxq : ∀ (e : Fin 256) (q : Fin 512), xq (ix3 0 e q) = iblk m c 0 t (ix3 0 (lq r e) q))
    (hxk : ∀ (j : Fin 512) (e : Fin 256) (n : Fin 4), k n (ix3 0 j e) = iblk m c 1 t (ix3 0 (pl n j) (lq r e)))
    (hxv : ∀ (j : Fin 512) (d : Fin 128) (n : Fin 4), v n (ix3 0 d j) = iblk m c 2 t (ix3 0 (lv r d) (pl n j)))
    (x : S1x512x128.Idx) (j : S16x2048x512.Idx) (h0 : (j 0).val = t.val / 8) (h1 : (j 1).val = t.val % 4 * 512 + (x 1).val)
    (h2 : (j 2).val = t.val / 4 % 2 * 256 + (r.val * 128 + (x 2).val)) :
    head xq (k 0) (k 1) (k 2) (k 3) (v 0) (v 1) (v 2) (v 3) x = attn (argQ m c) (argK m c) (argV m c) j := by
  obtain ⟨a, q, d, rfl⟩ : ∃ a q d, x = ix3 a q d := ⟨_, _, _, eq_ix3 x⟩
  obtain ⟨b, i, n, rfl⟩ : ∃ b i n, j = ix3 b i n := ⟨_, _, _, eq_ix3 j⟩
  obtain rfl : a = 0 := Subsingleton.elim _ _
  obtain rfl : b = bat t := Fin.ext h0
  obtain rfl : i = tok t q := Fin.ext h1
  have h2' : n.val = t.val / 4 % 2 * 256 + (r.val * 128 + d.val) := h2
  have e1 : hd n = hed t r := Fin.ext (by simp only [hd, hed]; omega)
  have e2 : ch n = d := Fin.ext (by simp only [ch]; omega)
  refine (head_apply xq k v q d (fun e => (padded (argQ m c) (bat t) (tok t q) (hed t r) e).toReal)
    (fun s e => (padded (argK m c) (bat t) s (hed t r) e).toReal) (fun s => argV m c (ix4 (bat t) s (hed t r) d)) ?_ ?_ ?_).trans ?_
  · intro e
    rw [hxq, b0]
    exact padded_real _ hq _ _ _ _
  · intro n j e
    rw [hxk, b1]
    exact padded_real _ hk _ _ _ _
  · intro n j
    rw [hxv, b2]
  · show _ = smx (score (argQ m c) (argK m c) (bat t) (tok t q) (hd n)) fun s => argV m c (ix4 (bat t) s (hd n) (ch n))
    rw [e1, e2]
    simp only [score_eq]

/-- The result array after the run, the queries and keys being real. -/
theorem final (c : Dev nD) (hq : ∀ j, argQ m c j = ((argQ m c j).toReal : EReal))
    (hk : ∀ j, argK m c j = ((argK m c j).toReal : EReal)) :
    (dats m 0 c).arrAt 3 cfg0.N = attn (argQ m c) (argK m c) (argV m c) := by
  refine (dats m 0 c).arrAt_eq_of_covers 3 _ covers3 fun t hf y => ?_
  blk_simp
  rw [after0_3, out_eq]
  canon_tiles x h
  case piece0 =>
    refine head_at m c hq hk t 1 _ _ _ (fun e q => (ld_q (iblk m c 0 t) e q).2) (fun j e n => (ld_k (iblk m c 1 t) j e n).2)
      (fun j d n => (ld_v (iblk m c 2 t) j d n).2) x _ ?_ ?_ ?_ <;> (blk_simp [idx3 t] <;> omega)
  case piece1 =>
    refine head_at m c hq hk t 0 _ _ _ (fun e q => (ld_q (iblk m c 0 t) e q).1) (fun j e n => (ld_k (iblk m c 1 t) j e n).1)
      (fun j d n => (ld_v (iblk m c 2 t) j d n).1) x _ ?_ ?_ ?_ <;> (blk_simp [idx3 t] <;> omega)

end Cert.Proof.Mla

end
-- ==== Proof.MlaRef.lean ====
/- The reference of the latent attention, as the same function of its argument arrays. -/
module

public import proofs.«01_k».proof.Proof.MlaValue
public import proofs.«01_k».proof.Proof.Gen.MlaReferenceIdeal.Read

@[expose] public section

set_option maxRecDepth 16384

noncomputable section

namespace Cert.Proof.MlaRef

open Cert.MlaReferenceIdeal Cert.MlaReferenceIdeal.Gen Cert.MlaReferenceIdeal.Read Idealize.ShloMosaic
open Cert.Proof.Softmax

variable (q k : Vec Ideal S16x2048x4x192 .f32) (v : Vec Ideal S16x2048x4x128 .f32)

theorem logit (b : Fin 16) (h : Fin 4) (i s : Fin 2048) : val_main_v5 q k (ix5 b h 0 i s)
    = Ideal.div (∑ e : Fin 192, k (ix4 b s h e) * q (ix4 b i h e)) (Ideal.sqrt (Ideal.ofBits .f32 0x43400000#32)) := by
  pointwise [val_main_v5, val_main_v4, val_main_v3, val_main_cst, val_main_v2, val_main_v1, val_main_v0]

theorem ofBits_192 : Ideal.ofBits .f32 0x43400000#32 = ((192 : ℝ) : EReal) := by
  simp [Ideal.ofBits, Ideal.ieee, -EReal.coe_mul]; norm_num

/-- The logits, the queries and keys being real, are the scores. -/
theorem logit_real (hq : ∀ j, q j = ((q j).toReal : EReal)) (hk : ∀ j, k j = ((k j).toReal : EReal)) (b : Fin 16) (h : Fin 4)
    (i s : Fin 2048) : val_main_v5 q k (ix5 b h 0 i s) = (Mla.score q k b i h s : EReal) := by
  have h192 : Real.sqrt 192 ≠ 0 := (Real.sqrt_pos.mpr (by norm_num)).ne'
  rw [logit, ofBits_192, Ideal.sqrt_coe, if_neg (by norm_num), Ideal.div_coe h192, Mla.score, div_eq_mul_one_div (Finset.sum _ _),
    EReal.coe_mul, coe_sum]
  congr 1
  refine Finset.sum_congr rfl fun e _ => ?_
  rw [EReal.coe_mul, ← hq, ← hk]

/-- What is subtracted, the greatest logit of the query's row, is real. -/
theorem shift_real (hq : ∀ j, q j = ((q j).toReal : EReal)) (hk : ∀ j, k j = ((k j).toReal : EReal)) (b : Fin 16) (h : Fin 4)
    (i : Fin 2048) : ∃ μ : ℝ, val_main_v8 q k (ix4 b h 0 i) = (μ : EReal) := by
  have h6 : val_main_v6 q k (ix4 b h 0 i)
      = (Finset.univ : Finset (Fin 2048)).fold max (⊥ : EReal) fun s => val_main_v5 q k (ix5 b h 0 i s) := by
    unfold val_main_v6
    rw [Host.reduce_eq_fold_single _ _ _ _ (by decide)]
    rw [show val_main_cst_0 (F := Ideal) (Shape.Idx.first h_S_) = (⊥ : EReal) from ofBits_negInf]
    refine Finset.fold_congr fun s _ => congrArg (val_main_v5 q k) ?_
    funext a
    fin_cases a <;> rfl
  obtain ⟨μ, hμ⟩ := foldMax_real _ _ fun s => logit_real q k hq hk b h i s
  refine ⟨μ, ?_⟩
  rw [val_main_v8_apply, h6, hμ]
  show max (val_main_v7 (F := Ideal) _) _ = _
  rw [show val_main_v7 (F := Ideal) (ix4 b h 0 i) = (⊥ : EReal) from (val_main_v7_apply _).trans ofBits_negInf]
  exact max_eq_right bot_le

/-- One entry of the weights. -/
theorem weight (b : Fin 16) (h : Fin 4) (i s : Fin 2048) : val_main_v16 q k (ix5 b h 0 i s)
    = Ideal.div (Ideal.exp (val_main_v5 q k (ix5 b h 0 i s) - val_main_v8 q k (ix4 b h 0 i)))
      (∑ t : Fin 2048, Ideal.exp (val_main_v5 q k (ix5 b h 0 i t) - val_main_v8 q k (ix4 b h 0 i))) := by
  pointwise [val_main_v16, val_main_v15, val_main_v14, val_main_v13, val_main_v12, val_main_v11, val_main_v10, val_main_v9]
  rw [show val_main_cst_2 (F := Ideal) (Shape.Idx.first h_S_) = (0 : EReal) from Ideal.ofBits_zero_f32]
  exact congrArg _ (zero_add _)

/-- The reference is the attention. -/
theorem ref_eq (hq : ∀ j, q j = ((q j).toReal : EReal)) (hk : ∀ j, k j = ((k j).toReal : EReal)) :
    val_main_v20 q k v = Mla.attn q k v := by
  funext j
  obtain ⟨b, i, c, rfl⟩ : ∃ b i c, j = ix3 b i c := ⟨_, _, _, eq_ix3 j⟩
  have hcast : val_main_v20 q k v (ix3 b i c) = ∑ s : Fin 2048, v (ix4 b s (Mla.hd c) (Mla.ch c))
      * val_main_v16 q k (ix5 b (Mla.hd c) 0 i s) := by
    pointwise [val_main_v20, val_main_v19, val_main_v18, val_main_v17]
    rfl
  rw [hcast]
  simp only [weight]
  exact one_pass _ _ _ (fun s => logit_real q k hq hk _ _ _ _) _ (shift_real q k hq hk _ _ _)

end Cert.Proof.MlaRef

end
-- ==== Proof.MlaAlg.lean ====
/- The latent attention against its reference: both end at softmax attention, from the same arguments. -/
module

public import proofs.«01_k».proof.Proof.AttnAlg
public import proofs.«01_k».proof.Proof.MlaRef
public import proofs.«01_k».proof.Proof.Gen.Pre_mla_finite

@[expose] public section

set_option maxRecDepth 16384

noncomputable section

namespace Cert.Proof.Mla

open Idealize.ShloMosaic Idealize.SL.Sem

/-- What the precondition says of the arguments. -/
theorem finite [Cert.Pre_mla_finite.Facts] (m : (ℓ : Loc MlaIdeal.nD MlaIdeal.τ MlaIdeal.sig) → Buf (Elt Ideal) ℓ)
    (h : Pre_MlaIdeal_mla_finite m) (c : Dev MlaIdeal.nD) :
    (∀ j, argQ m c j = ((argQ m c j).toReal : EReal)) ∧ (∀ j, argK m c j = ((argK m c j).toReal : EReal)) :=
  ⟨fun j => real_of_abs_lt (congrFun (h c).1 j), fun j => real_of_abs_lt (congrFun (h c).2 j)⟩

theorem algebraic : algebraic_MlaIdeal_MlaReferenceIdeal_pre_mla_finite (hMlaIdeal := MlaIdeal.Gen.facts)
    (hMlaReferenceIdeal := MlaReferenceIdeal.Gen.facts) (hPre_mla_finite := Pre_mla_finite.Gen.facts) := by
  haveI := Pre_mla_finite.Gen.facts
  intro m g m' g' hpre hargs
  refine ⟨fun c => attn (argQ m c) (argK m c) (argV m c), ?_, ?_⟩
  · exact (θ_run _ _ _).mono (fun r h c => ⟨(h c).1.trans (final m c (finite m hpre c).1 (finite m hpre c).2), (h c).2⟩)
      (MlaIdeal.Value.run_blocks m g)
  · refine (θ_run _ _ _).mono (fun r h c => ⟨(h c).1.trans ?_, (h c).2⟩) (MlaReferenceIdeal.Value.run m' g')
    obtain ⟨e0, e1, e2⟩ := hargs c
    rw [e0, e1, e2]
    exact (MlaReferenceIdeal.Read.val_main_v20_eq _ _ _).trans
      (MlaRef.ref_eq _ _ _ (finite m hpre c).1 (finite m hpre c).2)

end Cert.Proof.Mla

end
-- ==== Proof.Out.lean ====
/- The output projection with the second normalisation: the mathematics, and the kernel's block arithmetic read at an
   index. -/
module

public import proofs.«01_k».proof.Proof.Ffn
public import proofs.«01_k».proof.Proof.Gen.OutIdeal.Value

@[expose] public section

set_option maxRecDepth 16384

noncomputable section

namespace Cert.Proof.Out

open Cert.OutIdeal Cert.OutIdeal.Gen Idealize.ShloMosaic Idealize.ShloMosaic.TcCoe Idealize.SL.Sem

variable (x0 : Vec Ideal S1x512x2048 .f32) (x1 : Vec Ideal S1x1x6x2048 .f32) (x2 : Vec Ideal S1x512x768 .bf16)
  (x3 : Vec Ideal S1x512x512 .bf16) (x4 : Vec Ideal S1x512x768 .bf16) (x5 : Vec Ideal S1x2048x2048 .bf16)
  (x6 : Vec Ideal S1x1x2048 .f32)

/-! ## The mathematics -/

section Math

variable (x : S16x2048x2048.Idx → EReal) (md : S2x16x12288.Idx → EReal) (oa : S16x2048x768.Idx → EReal)
  (ob : S16x2048x512.Idx → EReal) (oc : S16x2048x768.Idx → EReal) (w : S2x2048x2048.Idx → EReal) (g : S2x2048.Idx → EReal)

/-- The three mixers' outputs through the output matrix. -/
def mix (b : Fin 16) (i d : Fin 2048) : EReal :=
  (∑ e : Fin 768, oa (ix3 b i e) * w (ix3 1 ⟨e.val, by omega⟩ d))
    + (∑ e : Fin 512, ob (ix3 b i e) * w (ix3 1 ⟨768 + e.val, by omega⟩ d))
    + ∑ e : Fin 768, oc (ix3 b i e) * w (ix3 1 ⟨1280 + e.val, by omega⟩ d)

/-- The residual stream after the mixers. -/
def stream (b : Fin 16) (i d : Fin 2048) : EReal :=
  x (ix3 b i d) + md (ix3 1 b ⟨4096 + d.val, by omega⟩) * mix oa ob oc w b i d

/-- The normalised, scaled and shifted stream. -/
def hid (b : Fin 16) (i d : Fin 2048) : EReal :=
  Ffn.norm (stream x md oa ob oc w b i) (g (ix2 1 d)) d * (1 + md (ix3 1 b ⟨8192 + d.val, by omega⟩))
    + md (ix3 1 b ⟨6144 + d.val, by omega⟩)

/-- The call's two results. -/
def res0 : S16x2048x2048.Idx → EReal := fun j => stream x md oa ob oc w (j 0) (j 1) (j 2)
def res1 : S16x2048x2048.Idx → EReal := fun j => hid x md oa ob oc w g (j 0) (j 1) (j 2)

end Math

/-! ## The stores -/

/-- A row of a block after the projection. -/
def row (r : Fin 512) (d : Fin 2048) : EReal :=
  x0 (ix3 0 r d) + x1 (ix4 0 0 2 d) * ((∑ e : Fin 768, x2 (ix3 0 r e) * x5 (ix3 0 ⟨e.val, by omega⟩ d))
    + (∑ e : Fin 512, x3 (ix3 0 r e) * x5 (ix3 0 ⟨768 + e.val, by omega⟩ d))
    + ∑ e : Fin 768, x4 (ix3 0 r e) * x5 (ix3 0 ⟨1280 + e.val, by omega⟩ d))

/-- The row normalised, scaled and shifted. -/
def rowN (r : Fin 512) (d : Fin 2048) : EReal :=
  Ffn.norm (row x0 x1 x2 x3 x4 x5 r) (x6 (ix3 0 0 d)) d * (1 + x1 (ix4 0 0 4 d)) + x1 (ix4 0 0 3 d)

theorem top_at (q : Fin 256) (d : Fin 2048) :
    k0_pay6 (k0_pay14 x0 x1 x2 x3 x4 x5 x6) (View.ld x0 r0_7) (View.ld x1 r0_8) (ix2 q d)
      = row x0 x1 x2 x3 x4 x5 ⟨q.val, by omega⟩ d := by
  pointwise [k0_pay6, k0_pay14, k0_pay2]
  rfl

theorem bot_at (q : Fin 256) (d : Fin 2048) :
    k0_pay10 (k0_pay15 x0 x1 x2 x3 x4 x5 x6) (View.ld x0 r0_12) (View.ld x1 r0_8) (ix2 q d)
      = row x0 x1 x2 x3 x4 x5 ⟨256 + q.val, by omega⟩ d := by
  pointwise [k0_pay10, k0_pay15, k0_pay5, k0_pay4, k0_pay3]
  rfl

theorem top7 (q : Fin 256) (d : Fin 2048) :
    k0_pay7 (k0_pay14 x0 x1 x2 x3 x4 x5 x6) (View.ld x0 r0_7) (View.ld x1 r0_8) (ix3 0 q d)
      = row x0 x1 x2 x3 x4 x5 ⟨q.val, by omega⟩ d := by
  rw [← top_at x0 x1 x2 x3 x4 x5 x6 q d]
  pointwise [k0_pay7]

theorem bot7 (q : Fin 256) (d : Fin 2048) :
    k0_pay11 (k0_pay15 x0 x1 x2 x3 x4 x5 x6) (View.ld x0 r0_12) (View.ld x1 r0_8) (ix3 0 q d)
      = row x0 x1 x2 x3 x4 x5 ⟨256 + q.val, by omega⟩ d := by
  rw [← bot_at x0 x1 x2 x3 x4 x5 x6 q d]
  pointwise [k0_pay11]

theorem top8 (q : Fin 256) (d : Fin 2048) :
    k0_pay9 (k0_pay8 (k0_pay14 x0 x1 x2 x3 x4 x5 x6) (View.ld x0 r0_7) (View.ld x1 r0_8) (View.ld x6 r0_9)) (View.ld x1 r0_10)
        (View.ld x1 r0_11) (ix3 0 q d)
      = rowN x0 x1 x2 x3 x4 x5 x6 ⟨q.val, by omega⟩ d := by
  simp only [rowN, Ffn.norm, ← top_at x0 x1 x2 x3 x4 x5 x6 q]
  pointwise [k0_pay9, k0_pay8]

theorem bot8 (q : Fin 256) (d : Fin 2048) :
    k0_pay1 (k0_pay10 (k0_pay15 x0 x1 x2 x3 x4 x5 x6) (View.ld x0 r0_12) (View.ld x1 r0_8)) (k0_pay12 (View.ld x6 r0_9))
        (k0_pay13 (k0_pay15 x0 x1 x2 x3 x4 x5 x6) (View.ld x0 r0_12) (View.ld x1 r0_8)) (Scalar.ofBits .f32 0x358637BD#32)
        (View.ld x1 r0_10) (View.ld x1 r0_11) (ix3 0 q d)
      = rowN x0 x1 x2 x3 x4 x5 x6 ⟨256 + q.val, by omega⟩ d := by
  simp only [rowN, Ffn.norm, ← bot_at x0 x1 x2 x3 x4 x5 x6 q]
  pointwise [k0_pay1, k0_pay12, k0_pay13]

end Cert.Proof.Out

end
-- ==== Proof.OutValue.lean ====
/- The output projection's result arrays, as functions of the argument arrays. -/
module

public import proofs.«01_k».proof.Proof.Out
public import Idealize.ShloMosaic.Lib.Pipeline.ValueKit.Point
public import Idealize.ShloMosaic.Lib.Pipeline.ValueKit.Tiles

@[expose] public section

set_option maxRecDepth 16384

noncomputable section

namespace Cert.Proof.Out

open Cert.OutIdeal Cert.OutIdeal.Gen Cert.OutIdeal.Value Idealize.ShloMosaic Idealize.ShloMosaic.TcCoe Idealize.SL.Sem

variable (m : (ℓ : Loc nD τ sig) → Buf (Elt Ideal) ℓ) (ρ : Dev nD → PrngReg)

/-- Core `c`'s residual stream, modulation, mixer outputs, output matrix and gain. -/
abbrev argX (c : Dev nD) : Vec Ideal S16x2048x2048 .f32 := m ((c : Thread nD τ).loc main_arg0)
abbrev argM (c : Dev nD) : Vec Ideal S2x16x12288 .f32 := m ((c : Thread nD τ).loc main_arg1)
abbrev argA (c : Dev nD) : Vec Ideal S16x2048x768 .f32 := m ((c : Thread nD τ).loc main_arg2)
abbrev argB (c : Dev nD) : Vec Ideal S16x2048x512 .f32 := m ((c : Thread nD τ).loc main_arg3)
abbrev argC (c : Dev nD) : Vec Ideal S16x2048x768 .f32 := m ((c : Thread nD τ).loc main_arg4)
abbrev argW (c : Dev nD) : Vec Ideal S2x2048x2048 .f32 := m ((c : Thread nD τ).loc main_arg5)
abbrev argG (c : Dev nD) : Vec Ideal S2x2048 .f32 := m ((c : Thread nD τ).loc main_arg6)

theorem V_m (c : Dev nD) (l : Fin 2) (b : Fin 16) (r : Fin 6) (d : Fin 2048) :
    V m c main_v0 (ix4 l b r d) = argM m c (ix3 l b ⟨r.val * 2048 + d.val, by omega⟩) := by
  have h : V m c main_v0 = shapeCast (s := S2x16x12288) S2x16x6x2048 (argM m c) (by decide) := by
    show StableHlo.after hostOps0 _ (Proc.devRef .tc main_v0) = _
    after_results
    rfl
  rw [h]
  pointwise

theorem V_a (c : Dev nD) (j : S16x2048x768.Idx) : V m c main_v1 j = argA m c j := by
  have h : V m c main_v1 = truncf (F := Ideal) (φ := .f32) .bf16 (argA m c) (by decide) := by
    show StableHlo.after hostOps0 _ (Proc.devRef .tc main_v1) = _
    after_results
  rw [h]
  pointwise

theorem V_b (c : Dev nD) (j : S16x2048x512.Idx) : V m c main_v2 j = argB m c j := by
  have h : V m c main_v2 = truncf (F := Ideal) (φ := .f32) .bf16 (argB m c) (by decide) := by
    show StableHlo.after hostOps0 _ (Proc.devRef .tc main_v2) = _
    after_results
  rw [h]
  pointwise

theorem V_c (c : Dev nD) (j : S16x2048x768.Idx) : V m c main_v3 j = argC m c j := by
  have h : V m c main_v3 = truncf (F := Ideal) (φ := .f32) .bf16 (argC m c) (by decide) := by
    show StableHlo.after hostOps0 _ (Proc.devRef .tc main_v3) = _
    after_results
  rw [h]
  pointwise

theorem V_w (c : Dev nD) (j : S2x2048x2048.Idx) : V m c main_v4 j = argW m c j := by
  have h : V m c main_v4 = truncf (F := Ideal) (φ := .f32) .bf16 (argW m c) (by decide) := by
    show StableHlo.after hostOps0 _ (Proc.devRef .tc main_v4) = _
    after_results
  rw [h]
  pointwise

theorem V_g (c : Dev nD) (l : Fin 2) (d : Fin 2048) : V m c main_v5 (ix3 l 0 d) = argG m c (ix2 l d) := by
  have h : V m c main_v5 = shapeCast (s := S2x2048) S2x1x2048 (argG m c) (by decide) := by
    show StableHlo.after hostOps0 _ (Proc.devRef .tc main_v5) = _
    after_results
    rfl
  rw [h]
  pointwise

/-- Each window's block index at a grid point. -/
theorem idx0 : ∀ t : Fin cfg0.N, win0_0.index t = ![t.val / 4, t.val % 4, 0] := (by decide +kernel : ∀ t : Fin grid0.N, _)
theorem idx1 : ∀ t : Fin cfg0.N, win0_1.index t = ![1, t.val / 4, 0, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![1, 0, 0] := (by decide +kernel : ∀ t : Fin grid0.N, _)
theorem idx6 : ∀ t : Fin cfg0.N, win0_6.index t = ![1, 0, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)

theorem covers7 : (cfg0.win 7).Covers := by decide +kernel
theorem covers8 : (cfg0.win 8).Covers := by decide +kernel

/-- The batch and the token of a grid point's row. -/
def bat (t : Fin cfg0.N) : Fin 16 := ⟨t.val / 4, by have : t.val < 64 := t.isLt; omega⟩
def tok (t : Fin cfg0.N) (q : Fin 512) : Fin 2048 := ⟨t.val % 4 * 512 + q.val, by omega⟩

theorem b0 (c : Dev nD) (t : Fin cfg0.N) (q : Fin 512) (d : Fin 2048) :
    iblk m c 0 t (ix3 0 q d) = argX m c (ix3 (bat t) (tok t q) d) := by
  blk_simp [iblk]
  rw [show (win0_0.blk t).view.emb (ix3 0 q d) = ix3 (bat t) (tok t q) d from by blk_ext [idx0 t, bat, tok]]
  rfl

theorem b2 (c : Dev nD) (t : Fin cfg0.N) (q : Fin 512) (d : Fin 768) :
    iblk m c 2 t (ix3 0 q d) = argA m c (ix3 (bat t) (tok t q) d) := by
  blk_simp [iblk]
  rw [show (win0_2.blk t).view.emb (ix3 0 q d) = ix3 (bat t) (tok t q) d from by blk_ext [idx2 t, bat, tok]]
  exact V_a m c _

theorem b3 (c : Dev nD) (t : Fin cfg0.N) (q : Fin 512) (d : Fin 512) :
    iblk m c 3 t (ix3 0 q d) = argB m c (ix3 (bat t) (tok t q) d) := by
  blk_simp [iblk]
  rw [show (win0_3.blk t).view.emb (ix3 0 q d) = ix3 (bat t) (tok t q) d from by blk_ext [idx3 t, bat, tok]]
  exact V_b m c _

theorem b4 (c : Dev nD) (t : Fin cfg0.N) (q : Fin 512) (d : Fin 768) :
    iblk m c 4 t (ix3 0 q d) = argC m c (ix3 (bat t) (tok t q) d) := by
  blk_simp [iblk]
  rw [show (win0_4.blk t).view.emb (ix3 0 q d) = ix3 (bat t) (tok t q) d from by blk_ext [idx4 t, bat, tok]]
  exact V_c m c _

theorem b1 (c : Dev nD) (t : Fin cfg0.N) (r : Fin 6) (d : Fin 2048) :
    iblk m c 1 t (ix4 0 0 r d) = argM m c (ix3 1 (bat t) ⟨r.val * 2048 + d.val, by omega⟩) := by
  blk_simp [iblk]
  rw [show (win0_1.blk t).view.emb (ix4 0 0 r d) = ix4 1 (bat t) r d from by blk_ext [idx1 t, bat]]
  exact V_m m c _ _ _ _

theorem b5 (c : Dev nD) (t : Fin cfg0.N) (e d : Fin 2048) :
    iblk m c 5 t (ix3 0 e d) = argW m c (ix3 1 e d) := by
  blk_simp [iblk]
  rw [show (win0_5.blk t).view.emb (ix3 0 e d) = ix3 1 e d from by blk_ext [idx5 t]]
  exact V_w m c _

theorem b6 (c : Dev nD) (t : Fin cfg0.N) (d : Fin 2048) :
    iblk m c 6 t (ix3 0 0 d) = argG m c (ix2 1 d) := by
  blk_simp [iblk]
  rw [show (win0_6.blk t).view.emb (ix3 0 0 d) = ix3 1 0 d from by blk_ext [idx6 t]]
  exact V_g m c _ _

/-- A block's row is the stream at its token. -/
theorem row_eq (c : Dev nD) (t : Fin cfg0.N) (r : Fin 512) (d : Fin 2048) :
    row (iblk m c 0 t) (iblk m c 1 t) (iblk m c 2 t) (iblk m c 3 t) (iblk m c 4 t) (iblk m c 5 t) r d
      = stream (argX m c) (argM m c) (argA m c) (argB m c) (argC m c) (argW m c) (bat t) (tok t r) d := by
  simp only [row, b0, b1, b2, b3, b4, b5]
  rfl

theorem rowN_eq (c : Dev nD) (t : Fin cfg0.N) (r : Fin 512) (d : Fin 2048) :
    rowN (iblk m c 0 t) (iblk m c 1 t) (iblk m c 2 t) (iblk m c 3 t) (iblk m c 4 t) (iblk m c 5 t) (iblk m c 6 t) r d
      = hid (argX m c) (argM m c) (argA m c) (argB m c) (argC m c) (argW m c) (argG m c) (bat t) (tok t r) d := by
  rw [rowN, b1, b1, b6, funext fun d => row_eq m c t r d]
  rfl

/-- From a store's index to the array's. -/
theorem at_index (f : Fin 256 → Fin 2048 → EReal) (g : Fin 16 → Fin 2048 → Fin 2048 → EReal) (t : Fin cfg0.N) (o : ℕ)
    (ho : o = 0 ∨ o = 256) (h : ∀ q d, f q d = g (bat t) (tok t ⟨o + q.val, by omega⟩) d) (q : Fin 256) (d : Fin 2048)
    (j : S16x2048x2048.Idx) (h0 : (j 0).val = t.val / 4) (h1 : (j 1).val = t.val % 4 * 512 + (o + q.val))
    (h2 : (j 2).val = d.val) : f q d = g (j 0) (j 1) (j 2) := by
  have e0 : bat t = j 0 := Fin.ext h0.symm
  have e1 : tok t ⟨o + q.val, by omega⟩ = j 1 := Fin.ext h1.symm
  have e2 : d = j 2 := Fin.ext h2.symm
  exact (h q d).trans (congr (congr (congrArg g e0) e1) e2)

theorem unit_ix (x : S1x256x2048.Idx) : x = ix3 (0 : Fin 1) (x 1) (x 2) := by
  obtain ⟨a, q, d, rfl⟩ : ∃ a q d, x = ix3 a q d := ⟨_, _, _, eq_ix3 x⟩
  obtain rfl : a = 0 := Subsingleton.elim _ _
  rfl

/-- The result arrays after the run. -/
theorem final7 (c : Dev nD) :
    (dats m 0 c).arrAt 7 cfg0.N = res0 (argX m c) (argM m c) (argA m c) (argB m c) (argC m c) (argW m c) := by
  refine (dats m 0 c).arrAt_eq_of_covers 7 _ covers7 fun t hf y => ?_
  blk_simp
  rw [after0_7, out0_7]
  canon_tiles x h
  case piece0 =>
    refine ((congrArg _ (unit_ix x)).trans (bot7 _ _ _ _ _ _ _ (x 1) (x 2))).trans ?_
    refine at_index (fun q d => row _ _ _ _ _ _ ⟨256 + q.val, by omega⟩ d) _ t 256 (.inr rfl) (fun q d => row_eq m c t _ d) (x 1) (x 2) _ ?_ ?_ ?_ <;>
      (blk_simp [idx7 t] <;> omega)
  case piece1 =>
    refine ((congrArg _ (unit_ix x)).trans (top7 _ _ _ _ _ _ _ (x 1) (x 2))).trans ?_
    refine at_index (fun q d => row _ _ _ _ _ _ ⟨q.val, by omega⟩ d) _ t 0 (.inl rfl) (fun q d => (row_eq m c t _ d).trans (by simp only [Nat.zero_add])) (x 1) (x 2) _ ?_ ?_ ?_ <;>
      (blk_simp [idx7 t] <;> omega)

theorem final8 (c : Dev nD) :
    (dats m 0 c).arrAt 8 cfg0.N = res1 (argX m c) (argM m c) (argA m c) (argB m c) (argC m c) (argW m c) (argG m c) := by
  refine (dats m 0 c).arrAt_eq_of_covers 8 _ covers8 fun t hf y => ?_
  blk_simp
  rw [after0_8, out0_8]
  canon_tiles x h
  case piece0 =>
    refine ((congrArg _ (unit_ix x)).trans (bot8 _ _ _ _ _ _ _ (x 1) (x 2))).trans ?_
    refine at_index (fun q d => rowN _ _ _ _ _ _ _ ⟨256 + q.val, by omega⟩ d) _ t 256 (.inr rfl) (fun q d => rowN_eq m c t _ d) (x 1) (x 2) _ ?_ ?_ ?_ <;>
      (blk_simp [idx8 t] <;> omega)
  case piece1 =>
    refine ((congrArg _ (unit_ix x)).trans (top8 _ _ _ _ _ _ _ (x 1) (x 2))).trans ?_
    refine at_index (fun q d => rowN _ _ _ _ _ _ _ ⟨q.val, by omega⟩ d) _ t 0 (.inl rfl) (fun q d => (rowN_eq m c t _ d).trans (by simp only [Nat.zero_add])) (x 1) (x 2) _ ?_ ?_ ?_ <;>
      (blk_simp [idx8 t] <;> omega)

end Cert.Proof.Out

end
-- ==== Proof.OutRef.lean ====
/- The output projection's reference is the same functions of its arguments. -/
module

public import proofs.«01_k».proof.Proof.Out
public import proofs.«01_k».proof.Proof.Gen.OutReferenceIdeal.Read

@[expose] public section

set_option maxRecDepth 16384

noncomputable section

namespace Cert.Proof.OutRef

open Cert.OutReferenceIdeal Cert.OutReferenceIdeal.Gen Cert.OutReferenceIdeal.Read Idealize.ShloMosaic

variable (x : Vec Ideal S16x2048x2048 .f32) (md : Vec Ideal S2x16x12288 .f32) (oa : Vec Ideal S16x2048x768 .f32)
  (ob : Vec Ideal S16x2048x512 .f32) (oc : Vec Ideal S16x2048x768 .f32) (w : Vec Ideal S2x2048x2048 .f32)
  (g : Vec Ideal S2x2048 .f32)

/-- The mixers' outputs side by side. -/
theorem cat_at (b : Fin 16) (i e : Fin 2048) : val_main_v14 oa ob oc (ix3 b i e)
    = if h : e.val < 768 then oa (ix3 b i ⟨e.val, h⟩) else if h : e.val - 768 < 512 then ob (ix3 b i ⟨e.val - 768, h⟩)
      else oc (ix3 b i ⟨e.val - 768 - 512, by omega⟩) := by
  pointwise [val_main_v14]

/-- A sum over the concatenated axis, part by part. -/
theorem sum_parts (f : Fin 2048 → EReal) : (∑ e, f e) = (∑ e : Fin 768, f ⟨e.val, by omega⟩)
    + (∑ e : Fin 512, f ⟨768 + e.val, by omega⟩) + ∑ e : Fin 768, f ⟨1280 + e.val, by omega⟩ := by
  have h := Fin.sum_univ_add (a := 768 + 512) (b := 768) f
  rw [Fin.sum_univ_add (a := 768) (b := 512)] at h
  exact h

theorem mix_at (b : Fin 16) (i d : Fin 2048) : val_main_v17 oa ob oc w (ix3 b i d) = Out.mix oa ob oc w b i d := by
  have h : val_main_v17 oa ob oc w (ix3 b i d) = ∑ e : Fin 2048, val_main_v14 oa ob oc (ix3 b i e) * w (ix3 1 e d) := by
    pointwise [val_main_v17, val_main_v16, val_main_v15]
  rw [h]
  simp only [cat_at]
  rw [sum_parts]
  unfold Out.mix
  congr 1

theorem stream_at (b : Fin 16) (i d : Fin 2048) :
    val_main_v20 x md oa ob oc w (ix3 b i d) = Out.stream x md oa ob oc w b i d := by
  pointwise [val_main_v20, val_main_v19, val_main_v18, val_main_v10, val_main_v4, val_main_v1, val_main_v0]
  rw [mix_at]
  rfl

theorem hid_at (b : Fin 16) (i d : Fin 2048) :
    val_main_v42 x md oa ob oc w g (ix3 b i d) = Out.hid x md oa ob oc w g b i d := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v12, val_main_v11, val_main_v6, val_main_v5, val_main_v1, val_main_v0, val_main_cst_0, val_main_cst_1, val_main_cst_2]
  simp only [stream_at]
  rw [show val_main_cst (F := Ideal) (Shape.Idx.first h_S_) = (0 : EReal) from Ideal.ofBits_zero_f32, zero_add]
  rfl

theorem ref0_eq : val_main_v20 x md oa ob oc w = Out.res0 x md oa ob oc w := by
  funext j
  obtain ⟨b, i, d, rfl⟩ : ∃ b i d, j = ix3 b i d := ⟨_, _, _, eq_ix3 j⟩
  exact stream_at x md oa ob oc w b i d

theorem ref1_eq : val_main_v42 x md oa ob oc w g = Out.res1 x md oa ob oc w g := by
  funext j
  obtain ⟨b, i, d, rfl⟩ : ∃ b i d, j = ix3 b i d := ⟨_, _, _, eq_ix3 j⟩
  exact hid_at x md oa ob oc w g b i d

end Cert.Proof.OutRef

end
-- ==== Proof.OutAlg.lean ====
/- The output projection against its reference, from the same arguments. -/
module

public import proofs.«01_k».proof.Defs
public import proofs.«01_k».proof.Proof.OutValue
public import proofs.«01_k».proof.Proof.OutRef

@[expose] public section

set_option maxRecDepth 16384

noncomputable section

namespace Cert.Proof.Out

open Idealize.ShloMosaic Idealize.SL.Sem

theorem algebraic : algebraic_OutIdeal_OutReferenceIdeal (hOutIdeal := OutIdeal.Gen.facts)
    (hOutReferenceIdeal := OutReferenceIdeal.Gen.facts) := by
  intro m g m' g' hpre hargs
  refine ⟨fun c => res0 (argX m c) (argM m c) (argA m c) (argB m c) (argC m c) (argW m c),
    fun c => res1 (argX m c) (argM m c) (argA m c) (argB m c) (argC m c) (argW m c) (argG m c), ?_, ?_⟩
  · exact (θ_run _ _ _).mono (fun r h c => ⟨(h c).1.trans (final7 m c), (h c).2.1.trans (final8 m c), (h c).2.2⟩)
      (OutIdeal.Value.run_blocks m g)
  · refine (θ_run _ _ _).mono (fun r h c => ⟨(h c).1.trans ?_, (h c).2.1.trans ?_, (h c).2.2⟩) (OutReferenceIdeal.Value.run m' g')
    · obtain ⟨e0, e1, e2, e3, e4, e5, e6⟩ := hargs c
      rw [e0, e1, e2, e3, e4, e5]
      exact (OutReferenceIdeal.Read.val_main_v20_eq _ _ _ _ _ _).trans (OutRef.ref0_eq _ _ _ _ _ _)
    · obtain ⟨e0, e1, e2, e3, e4, e5, e6⟩ := hargs c
      refine (OutReferenceIdeal.Read.val_main_v42_eq m' c).trans ?_
      rw [e0, e1, e2, e3, e4, e5, e6]
      exact OutRef.ref1_eq _ _ _ _ _ _ _

end Cert.Proof.Out

end
-- ==== Proof.ModValue.lean ====
/- The modulation call: its result array as a function of the arguments. -/
module

public import proofs.«01_k».proof.Proof.Ffn
public import proofs.«01_k».proof.Proof.Gen.ModulationIdeal.Value
public import Idealize.ShloMosaic.Lib.Pipeline.ValueKit.Point
public import Idealize.ShloMosaic.Lib.Pipeline.ValueKit.Tiles

@[expose] public section

set_option maxRecDepth 16384

noncomputable section

namespace Cert.Proof.Mod

open Cert.ModulationIdeal Cert.ModulationIdeal.Gen Cert.ModulationIdeal.Value Idealize.ShloMosaic Idealize.ShloMosaic.TcCoe Idealize.SL.Sem

/-- The modulation at layer `l`, batch `b` and column `n`: the conditioning through SiLU, the layer's matrix and bias. -/
def modAt (c : S16x2048.Idx → EReal) (w : S2x2048x12288.Idx → EReal) (b : S2x12288.Idx → EReal) (l : Fin 2) (i : Fin 16)
    (n : Fin 12288) : EReal :=
  (∑ e : Fin 2048, Ffn.silu (c (ix2 i e)) * w (ix3 l e n)) + b (ix2 l n)

def res (c : S16x2048.Idx → EReal) (w : S2x2048x12288.Idx → EReal) (b : S2x12288.Idx → EReal) : S2x16x12288.Idx → EReal :=
  fun j => modAt c w b (j 0) (j 1) (j 2)

theorem out_at (x0 : Vec Ideal S16x2048 .f32) (x1 : Vec Ideal S1x2048x1024 .f32) (x2 : Vec Ideal S1x1x1024 .f32) (i : Fin 16)
    (n : Fin 1024) : k0_pay1 (View.ld x0 r0_0) (View.ld x1 r0_1) (View.ld x2 r0_2) (ix3 0 i n)
      = (∑ e : Fin 2048, Ffn.silu (x0 (ix2 i e)) * x1 (ix3 0 e n)) + x2 (ix3 0 0 n) := by
  pointwise [k0_pay1]
  simp only [zero_sub]
  rfl

variable (m : (ℓ : Loc nD τ sig) → Buf (Elt Ideal) ℓ) (ρ : Dev nD → PrngReg)

/-- Core `c`'s conditioning, matrices and biases. -/
abbrev argC (c : Dev nD) : Vec Ideal S16x2048 .f32 := m ((c : Thread nD τ).loc main_arg0)
abbrev argW (c : Dev nD) : Vec Ideal S2x2048x12288 .f32 := m ((c : Thread nD τ).loc main_arg1)
abbrev argB (c : Dev nD) : Vec Ideal S2x12288 .f32 := m ((c : Thread nD τ).loc main_arg2)

theorem V_b (c : Dev nD) (l : Fin 2) (n : Fin 12288) : V m c main_v0 (ix3 l 0 n) = argB m c (ix2 l n) := by
  have h : V m c main_v0 = shapeCast (s := S2x12288) S2x1x12288 (argB m c) (by decide) := by
    show StableHlo.after hostOps0 _ (Proc.devRef .tc main_v0) = _
    after_results
    rfl
  rw [h]
  pointwise

/-- Each window's block index at a grid point. -/
theorem idx0 : ∀ t : Fin cfg0.N, win0_0.index t = ![0, 0] := (by decide +kernel : ∀ t : Fin grid0.N, _)
theorem idx1 : ∀ t : Fin cfg0.N, win0_1.index t = ![t.val / 12, 0, t.val % 12] := (by decide +kernel : ∀ t : Fin grid0.N, _)
theorem idx2 : ∀ t : Fin cfg0.N, win0_2.index t = ![t.val / 12, 0, t.val % 12] := (by decide +kernel : ∀ t : Fin grid0.N, _)
theorem idx3 : ∀ t : Fin cfg0.N, win0_3.index t = ![t.val / 12, 0, t.val % 12] := (by decide +kernel : ∀ t : Fin grid0.N, _)

theorem covers3 : (cfg0.win 3).Covers := by decide +kernel

/-- A grid point's layer and its columns. -/
def lay (t : Fin cfg0.N) : Fin 2 := ⟨t.val / 12, by have : t.val < 24 := t.isLt; omega⟩
def col (t : Fin cfg0.N) (n : Fin 1024) : Fin 12288 := ⟨t.val % 12 * 1024 + n.val, by omega⟩

theorem b0 (c : Dev nD) (t : Fin cfg0.N) (i : Fin 16) (e : Fin 2048) : iblk m c 0 t (ix2 i e) = argC m c (ix2 i e) := by
  blk_simp [iblk]
  rw [show (win0_0.blk t).view.emb (ix2 i e) = ix2 i e from by blk_ext [idx0 t]]
  rfl

theorem b1 (c : Dev nD) (t : Fin cfg0.N) (e : Fin 2048) (n : Fin 1024) :
    iblk m c 1 t (ix3 0 e n) = argW m c (ix3 (lay t) e (col t n)) := by
  blk_simp [iblk]
  rw [show (win0_1.blk t).view.emb (ix3 0 e n) = ix3 (lay t) e (col t n) from by blk_ext [idx1 t, lay, col]]
  rfl

theorem b2 (c : Dev nD) (t : Fin cfg0.N) (n : Fin 1024) : iblk m c 2 t (ix3 0 0 n) = argB m c (ix2 (lay t) (col t n)) := by
  blk_simp [iblk]
  rw [show (win0_2.blk t).view.emb (ix3 0 0 n) = ix3 (lay t) 0 (col t n) from by blk_ext [idx2 t, lay, col]]
  exact V_b m c _ _

/-- A block's entry is the modulation at its place. -/
theorem point (c : Dev nD) (t : Fin cfg0.N) (x : S1x16x1024.Idx) (j : S2x16x12288.Idx) (h0 : (j 0).val = t.val / 12)
    (h1 : (j 1).val = (x 1).val) (h2 : (j 2).val = t.val % 12 * 1024 + (x 2).val) :
    k0_pay1 (View.ld (iblk m c 0 t) r0_0) (View.ld (iblk m c 1 t) r0_1) (View.ld (iblk m c 2 t) r0_2) x
      = res (argC m c) (argW m c) (argB m c) j := by
  obtain ⟨a, i, n, rfl⟩ : ∃ a i n, x = ix3 a i n := ⟨_, _, _, eq_ix3 x⟩
  obtain ⟨l, i', n', rfl⟩ : ∃ l i n, j = ix3 l i n := ⟨_, _, _, eq_ix3 j⟩
  obtain rfl : a = 0 := Subsingleton.elim _ _
  obtain rfl : l = lay t := Fin.ext h0
  obtain rfl : i' = i := Fin.ext h1
  obtain rfl : n' = col t n := Fin.ext h2
  refine (out_at _ _ _ _ _).trans ?_
  simp only [b0, b1, b2]
  rfl

/-- The result array after the run. -/
theorem final (c : Dev nD) : (dats m 0 c).arrAt 3 cfg0.N = res (argC m c) (argW m c) (argB m c) := by
  refine (dats m 0 c).arrAt_eq_of_covers 3 _ covers3 fun t hf y => ?_
  blk_simp
  rw [after0_3, out0_3]
  canon_tiles x h
  case piece0 =>
    refine point m c t x _ ?_ ?_ ?_ <;> (blk_simp [idx3 t] <;> omega)

end Cert.Proof.Mod

end
-- ==== Proof.ModAlg.lean ====
/- The modulation against its reference, from the same arguments. -/
module

public import proofs.«01_k».proof.Defs
public import proofs.«01_k».proof.Proof.ModValue
public import proofs.«01_k».proof.Proof.Gen.ModulationReferenceIdeal.Read

@[expose] public section

set_option maxRecDepth 16384

noncomputable section

namespace Cert.Proof.Mod

open Idealize.ShloMosaic Idealize.SL.Sem Cert.ModulationReferenceIdeal.Read

theorem ref_at (c : Vec Ideal ModulationIdeal.S16x2048 .f32) (w : Vec Ideal ModulationIdeal.S2x2048x12288 .f32)
    (b : Vec Ideal ModulationIdeal.S2x12288 .f32) (l : Fin 2) (i : Fin 16) (n : Fin 12288) :
    val_main_v5 (F := Ideal) c w b (ix3 l i n) = modAt c w b l i n := by
  pointwise [val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  unfold modAt
  refine congrArg (· + _) (Finset.sum_congr rfl fun e _ => ?_)
  rw [mul_comm]
  rfl

theorem algebraic : algebraic_ModulationIdeal_ModulationReferenceIdeal (hModulationIdeal := ModulationIdeal.Gen.facts)
    (hModulationReferenceIdeal := ModulationReferenceIdeal.Gen.facts) := by
  intro m g m' g' hpre hargs
  refine ⟨fun c => res (argC m c) (argW m c) (argB m c), ?_, ?_⟩
  · exact (θ_run _ _ _).mono (fun r h c => ⟨(h c).1.trans (final m c), (h c).2⟩) (ModulationIdeal.Value.run_blocks m g)
  · refine (θ_run _ _ _).mono (fun r h c => ⟨(h c).1.trans ?_, (h c).2⟩) (ModulationReferenceIdeal.Value.run m' g')
    obtain ⟨e0, e1, e2⟩ := hargs c
    rw [e0, e1, e2]
    refine (val_main_v5_eq _ _ _).trans ?_
    funext j
    obtain ⟨l, i, n, rfl⟩ : ∃ l i n, j = ix3 l i n := ⟨_, _, _, eq_ix3 j⟩
    exact ref_at _ _ _ l i n

end Cert.Proof.Mod

end
-- ==== Proof.PrepMath.lean ====
/- The projections before the mixers: the mathematics. -/
module

public import proofs.«01_k».proof.Proof.Ffn

@[expose] public section

set_option maxRecDepth 16384

noncomputable section

namespace Cert.Proof.Prep

open Idealize.ShloMosaic

/-- The arrays of this file, over a literal shape. -/
abbrev Arr (r : ℕ) (s : Fin r → ℕ) := (⟨r, s⟩ : Shape).Idx → EReal

/-- A row over its root mean square, times a gain; `k` is the row's length as a literal. -/
def nrm {n : ℕ} (k : BitVec 32) (r g : Fin n → EReal) (d : Fin n) : EReal :=
  r d * Ideal.rsqrt (Ideal.div (∑ e, r e * r e) (Ideal.ofBits .f32 k) + Ideal.ofBits .f32 0x358637BD#32) * g d

/-- The axial rotary embedding of a row of four quarters: the first two are turned by the row's angles, the last two by
    the column's. -/
def rot {n : ℕ} (q : ℕ) (hq : n = 4 * q) (x : Fin n → EReal) (cr sr cc sc : Fin q → EReal) (j : Fin n) : EReal :=
  if h : j.val < q then x j * cr ⟨j.val, h⟩ - x ⟨q + j.val, by omega⟩ * sr ⟨j.val, h⟩
  else if h2 : j.val < 2 * q then x ⟨j.val - q, by omega⟩ * sr ⟨j.val - q, by omega⟩ + x j * cr ⟨j.val - q, by omega⟩
  else if h3 : j.val < 3 * q then x j * cc ⟨j.val - 2 * q, by omega⟩ - x ⟨q + j.val, by omega⟩ * sc ⟨j.val - 2 * q, by omega⟩
  else x ⟨j.val - q, by omega⟩ * sc ⟨j.val - 3 * q, by omega⟩ + x j * cc ⟨j.val - 3 * q, by omega⟩

variable (x : Arr 3 ![16, 2048, 2048]) (md : Arr 3 ![2, 16, 12288]) (g : Arr 2 ![2, 2048]) (w : Arr 3 ![2, 2048, 4184])
  (qg kg : Arr 2 ![2, 128]) (mq : Arr 2 ![2, 512]) (wq : Arr 3 ![2, 512, 768]) (mk : Arr 2 ![2, 256])
  (wk : Arr 3 ![2, 256, 1024]) (ar ay ac az : Arr 2 ![2048, 32]) (br bs bc bz : Arr 2 ![2048, 16])

/-- The normalised, scaled and shifted stream. -/
def hid (b : Fin 16) (i d : Fin 2048) : EReal :=
  nrm 0x45000000#32 (fun e => x (ix3 b i e)) (fun e => g (ix2 1 e)) d * (1 + md (ix3 1 b ⟨2048 + d.val, by omega⟩))
    + md (ix3 1 b ⟨d.val, by omega⟩)

/-- The projection before the mixers. -/
def proj (b : Fin 16) (i : Fin 2048) (c : Fin 4184) : EReal := ∑ d, hid x md g b i d * w (ix3 1 d c)

/-- The query heads of the grouped attention. -/
def qa (b : Fin 16) (i : Fin 2048) (h : Fin 6) (l : Fin 128) : EReal :=
  rot 32 rfl (nrm 0x43000000#32 (fun e => proj x md g w b i ⟨h.val * 128 + e.val, by omega⟩) (fun e => qg (ix2 1 e)))
    (fun e => ar (ix2 i e)) (fun e => ay (ix2 i e)) (fun e => ac (ix2 i e)) (fun e => az (ix2 i e)) l

/-- Its key heads. -/
def ka (b : Fin 16) (i : Fin 2048) (h : Fin 2) (l : Fin 128) : EReal :=
  rot 32 rfl (nrm 0x43000000#32 (fun e => proj x md g w b i ⟨768 + (h.val * 128 + e.val), by omega⟩) (fun e => kg (ix2 1 e)))
    (fun e => ar (ix2 i e)) (fun e => ay (ix2 i e)) (fun e => ac (ix2 i e)) (fun e => az (ix2 i e)) l

/-- The latent attention's queries before the embedding, -/
def qb (b : Fin 16) (i : Fin 2048) (c : Fin 768) : EReal :=
  ∑ e, nrm 0x44000000#32 (fun e => proj x md g w b i ⟨1280 + e.val, by omega⟩) (fun e => mq (ix2 1 e)) e * wq (ix3 1 e c)

/-- its keys and values, -/
def kv (b : Fin 16) (i : Fin 2048) (c : Fin 1024) : EReal :=
  ∑ e, nrm 0x43800000#32 (fun e => proj x md g w b i ⟨1792 + e.val, by omega⟩) (fun e => mk (ix2 1 e)) e * wk (ix3 1 e c)

/-- the queries' part that is turned, -/
def qpe (b : Fin 16) (i : Fin 2048) (h : Fin 4) (l : Fin 64) : EReal :=
  rot 16 rfl (fun e => qb x md g w mq wq b i ⟨h.val * 192 + (128 + e.val), by omega⟩)
    (fun e => br (ix2 i e)) (fun e => bs (ix2 i e)) (fun e => bc (ix2 i e)) (fun e => bz (ix2 i e)) l

/-- and the keys' one, which the heads share. -/
def kpe (b : Fin 16) (i : Fin 2048) (l : Fin 64) : EReal :=
  rot 16 rfl (fun e => proj x md g w b i ⟨2048 + e.val, by omega⟩)
    (fun e => br (ix2 i e)) (fun e => bs (ix2 i e)) (fun e => bc (ix2 i e)) (fun e => bz (ix2 i e)) l

/-- A query head: the plain part, the turned part, zeros. -/
def qbh (b : Fin 16) (i : Fin 2048) (h : Fin 4) (l : Fin 256) : EReal :=
  if h1 : l.val < 128 then qb x md g w mq wq b i ⟨h.val * 192 + l.val, by omega⟩
  else if h2 : l.val - 128 < 64 then qpe x md g w mq wq br bs bc bz b i h ⟨l.val - 128, h2⟩ else 0

/-- A key head likewise. -/
def kbh (b : Fin 16) (i : Fin 2048) (h : Fin 4) (l : Fin 256) : EReal :=
  if h1 : l.val < 128 then kv x md g w mk wk b i ⟨h.val * 256 + l.val, by omega⟩
  else if h2 : l.val - 128 < 64 then kpe x md g w br bs bc bz b i ⟨l.val - 128, h2⟩ else 0

/-- The state space's inputs, by group. -/
def ssx (b : Fin 16) (i : Fin 2048) (h : Fin 2) (l : Fin 640) : EReal :=
  if h1 : l.val < 384 then proj x md g w b i ⟨2880 + (h.val * 384 + l.val), by omega⟩
  else if h2 : l.val - 384 < 128 then proj x md g w b i ⟨2880 + (768 + (h.val * 128 + (l.val - 384))), by omega⟩
  else proj x md g w b i ⟨2880 + (1024 + (h.val * 128 + (l.val - 384 - 128))), by omega⟩

/-- Its time steps, by group, in a lane row of zeros. -/
def sst (b : Fin 16) (i : Fin 2048) (h : Fin 2) (l : Fin 128) : EReal :=
  if h1 : l.val < 6 then proj x md g w b i ⟨4160 + (h.val * 6 + l.val), by omega⟩
  else if h2 : l.val - 6 < 6 then proj x md g w b i ⟨4160 + (12 + (h.val * 6 + (l.val - 6))), by omega⟩ else 0

/-- The call's nine results. -/
def res0 : Arr 3 ![16, 2048, 1280] := fun j =>
  ssx x md g w (j 0) (j 1) ⟨(j 2).val / 640, by have : (j 2).val < 1280 := (j 2).isLt; omega⟩ ⟨(j 2).val % 640, by omega⟩
def res1 : Arr 3 ![16, 2048, 768] := fun j =>
  proj x md g w (j 0) (j 1) ⟨2112 + (j 2).val, by have : (j 2).val < 768 := (j 2).isLt; omega⟩
def res2 : Arr 3 ![16, 2048, 256] := fun j =>
  sst x md g w (j 0) (j 1) ⟨(j 2).val / 128, by have : (j 2).val < 256 := (j 2).isLt; omega⟩ ⟨(j 2).val % 128, by omega⟩
def res3 : Arr 3 ![16, 768, 2048] := fun j =>
  qa x md g w qg ar ay ac az (j 0) (j 2) ⟨(j 1).val / 128, by have : (j 1).val < 768 := (j 1).isLt; omega⟩ ⟨(j 1).val % 128, by omega⟩
def res4 : Arr 3 ![16, 2048, 256] := fun j =>
  ka x md g w kg ar ay ac az (j 0) (j 1) ⟨(j 2).val / 128, by have : (j 2).val < 256 := (j 2).isLt; omega⟩ ⟨(j 2).val % 128, by omega⟩
def res5 : Arr 3 ![16, 256, 2048] := fun j =>
  proj x md g w (j 0) (j 2) ⟨1024 + (j 1).val, by have : (j 1).val < 256 := (j 1).isLt; omega⟩
def res6 : Arr 3 ![16, 1024, 2048] := fun j =>
  qbh x md g w mq wq br bs bc bz (j 0) (j 2) ⟨(j 1).val / 256, by have : (j 1).val < 1024 := (j 1).isLt; omega⟩
    ⟨(j 1).val % 256, by omega⟩
def res7 : Arr 3 ![16, 2048, 1024] := fun j =>
  kbh x md g w mk wk br bs bc bz (j 0) (j 1) ⟨(j 2).val / 256, by have : (j 2).val < 1024 := (j 2).isLt; omega⟩
    ⟨(j 2).val % 256, by omega⟩
def res8 : Arr 3 ![16, 512, 2048] := fun j =>
  kv x md g w mk wk (j 0) (j 2) ⟨(j 1).val / 128 * 256 + (128 + (j 1).val % 128), by
    have : (j 1).val < 512 := (j 1).isLt; omega⟩

/-! ## The turn as the kernel makes it -/

/-- One lane: itself times the cosine, and the lane `q` further (in an even part) or `q` back (in an odd one) times the
    signed sine; `p` is the rotation that brings the lane `q` further. -/
def turn (q p : ℕ) (x : Fin 128 → EReal) (c s : EReal) (j : Fin 128) : EReal :=
  x j * c + (if j.val / q % 2 = 0 then x ⟨(j.val + 128 - p) % 128, by omega⟩ else x ⟨(j.val + 128 - q) % 128, by omega⟩) * s

/-- The parity of a lane's part as the kernel computes it, with the corrections of a rounded division. -/
def parity (q v : BitVec 32) : BitVec 1 :=
  IntOp.cmpi .eq
    (Scalar.select
      (IntOp.andi
        (IntOp.xori
          (IntOp.cmpi .slt
            (IntOp.remsi ArithUnit.vector
              (Scalar.select
                (IntOp.andi
                  (IntOp.cmpi .ne (IntOp.subi (BitVec.setWidth 32 (IntOp.cmpi .sgt v 0#32)) (BitVec.setWidth 32 (IntOp.cmpi .slt v 0#32)))
                    (Scalar.subi (Scalar.extui (Scalar.cmpi .sgt q 0#32)) (Scalar.extui (Scalar.cmpi .slt q 0#32))))
                  (IntOp.cmpi .ne (IntOp.remsi ArithUnit.vector v q) 0#32))
                (IntOp.subi (IntOp.divsi ArithUnit.vector v q) 1#32)
                (IntOp.divsi ArithUnit.vector v q))
              (Scalar.select (Scalar.cmpi .eq 2#32 0#32) 1#32 2#32))
            0#32)
          (Scalar.cmpi .slt (Scalar.select (Scalar.cmpi .eq 2#32 0#32) 1#32 2#32) 0#32))
        (IntOp.cmpi .ne
          (IntOp.remsi ArithUnit.vector
            (Scalar.select
              (IntOp.andi
                (IntOp.cmpi .ne (IntOp.subi (BitVec.setWidth 32 (IntOp.cmpi .sgt v 0#32)) (BitVec.setWidth 32 (IntOp.cmpi .slt v 0#32)))
                  (Scalar.subi (Scalar.extui (Scalar.cmpi .sgt q 0#32)) (Scalar.extui (Scalar.cmpi .slt q 0#32))))
                (IntOp.cmpi .ne (IntOp.remsi ArithUnit.vector v q) 0#32))
              (IntOp.subi (IntOp.divsi ArithUnit.vector v q) 1#32)
              (IntOp.divsi ArithUnit.vector v q))
            (Scalar.select (Scalar.cmpi .eq 2#32 0#32) 1#32 2#32))
          0#32))
      (IntOp.addi
        (IntOp.remsi ArithUnit.vector
          (Scalar.select
            (IntOp.andi
              (IntOp.cmpi .ne (IntOp.subi (BitVec.setWidth 32 (IntOp.cmpi .sgt v 0#32)) (BitVec.setWidth 32 (IntOp.cmpi .slt v 0#32)))
                (Scalar.subi (Scalar.extui (Scalar.cmpi .sgt q 0#32)) (Scalar.extui (Scalar.cmpi .slt q 0#32))))
              (IntOp.cmpi .ne (IntOp.remsi ArithUnit.vector v q) 0#32))
            (IntOp.subi (IntOp.divsi ArithUnit.vector v q) 1#32)
            (IntOp.divsi ArithUnit.vector v q))
          (Scalar.select (Scalar.cmpi .eq 2#32 0#32) 1#32 2#32))
        (Scalar.select (Scalar.cmpi .eq 2#32 0#32) 1#32 2#32))
      (IntOp.remsi ArithUnit.vector
        (Scalar.select
          (IntOp.andi
            (IntOp.cmpi .ne (IntOp.subi (BitVec.setWidth 32 (IntOp.cmpi .sgt v 0#32)) (BitVec.setWidth 32 (IntOp.cmpi .slt v 0#32)))
              (Scalar.subi (Scalar.extui (Scalar.cmpi .sgt q 0#32)) (Scalar.extui (Scalar.cmpi .slt q 0#32))))
            (IntOp.cmpi .ne (IntOp.remsi ArithUnit.vector v q) 0#32))
          (IntOp.subi (IntOp.divsi ArithUnit.vector v q) 1#32)
          (IntOp.divsi ArithUnit.vector v q))
        (Scalar.select (Scalar.cmpi .eq 2#32 0#32) 1#32 2#32)))
    0#32

theorem parity32 : ∀ j : Fin 128, parity 32#32 (BitVec.ofNat 32 j.val) = if j.val / 32 % 2 = 0 then 1#1 else 0#1 := by
  decide +kernel

theorem parity16 : ∀ j : Fin 128, parity 16#32 (BitVec.ofNat 32 j.val) = if j.val / 16 % 2 = 0 then 1#1 else 0#1 := by
  decide +kernel

theorem turn32 (x : Fin 128 → EReal) (c s : EReal) (j : Fin 128) :
    x j * c + Scalar.select (parity 32#32 (BitVec.ofNat 32 j.val)) (x ⟨(j.val + 128 - 96) % 128, by omega⟩)
      (x ⟨(j.val + 128 - 32) % 128, by omega⟩) * s = turn 32 96 x c s j := by
  rw [parity32]
  unfold turn
  by_cases h : j.val / 32 % 2 = 0 <;> simp only [h, if_true, if_false] <;> rfl

theorem turn16 (x : Fin 128 → EReal) (c s : EReal) (j : Fin 128) :
    x j * c + Scalar.select (parity 16#32 (BitVec.ofNat 32 j.val)) (x ⟨(j.val + 128 - 112) % 128, by omega⟩)
      (x ⟨(j.val + 128 - 16) % 128, by omega⟩) * s = turn 16 112 x c s j := by
  rw [parity16]
  unfold turn
  by_cases h : j.val / 16 % 2 = 0 <;> simp only [h, if_true, if_false] <;> rfl

/-- The packed cosines and signed sines at a lane. -/
def cosT {q : ℕ} (cr cc : Fin q → EReal) (j : ℕ) : EReal :=
  if h : j < q then cr ⟨j, h⟩ else if h : j - q < q then cr ⟨j - q, h⟩ else if h : j - q - q < q then cc ⟨j - q - q, h⟩
  else if h : j - q - q - q < q then cc ⟨j - q - q - q, h⟩ else 0

def sinT {q : ℕ} (sr sc : Fin q → EReal) (j : ℕ) : EReal :=
  if h : j < q then -sr ⟨j, h⟩ else if h : j - q < q then sr ⟨j - q, h⟩ else if h : j - q - q < q then -sc ⟨j - q - q, h⟩
  else if h : j - q - q - q < q then sc ⟨j - q - q - q, h⟩ else 0

/-- With the packed tables the turn is the rotary embedding, -/
theorem turn_rot32 (x : Fin 128 → EReal) (cr sr cc sc : Fin 32 → EReal) (j : Fin 128) :
    turn 32 96 x (cosT cr cc j.val) (sinT sr sc j.val) j = rot 32 rfl x cr sr cc sc j := by
  unfold turn rot cosT sinT
  have hj := j.isLt
  by_cases h1 : j.val < 32
  · rw [if_pos (by omega : j.val / 32 % 2 = 0), dif_pos h1, dif_pos h1, dif_pos h1, sub_eq_add_neg, mul_neg,
      show (⟨(j.val + 128 - 96) % 128, by omega⟩ : Fin 128) = ⟨32 + j.val, by omega⟩ from Fin.ext (by simp only []; omega)]
  by_cases h2 : j.val < 64
  · rw [if_neg (by omega : ¬ j.val / 32 % 2 = 0), dif_neg h1, dif_neg h1, dif_neg h1, dif_pos (by omega : j.val - 32 < 32),
      dif_pos (by omega : j.val - 32 < 32), dif_pos (by omega : j.val < 2 * 32), add_comm,
      show (⟨(j.val + 128 - 32) % 128, by omega⟩ : Fin 128) = ⟨j.val - 32, by omega⟩ from Fin.ext (by simp only []; omega)]
  by_cases h3 : j.val < 96
  · rw [if_pos (by omega : j.val / 32 % 2 = 0), dif_neg h1, dif_neg h1, dif_neg h1, dif_neg (by omega : ¬ j.val - 32 < 32),
      dif_neg (by omega : ¬ j.val - 32 < 32), dif_neg (by omega : ¬ j.val < 2 * 32), dif_pos (by omega : j.val - 32 - 32 < 32),
      dif_pos (by omega : j.val - 32 - 32 < 32), dif_pos (by omega : j.val < 3 * 32), sub_eq_add_neg, mul_neg,
      show (⟨(j.val + 128 - 96) % 128, by omega⟩ : Fin 128) = ⟨32 + j.val, by omega⟩ from Fin.ext (by simp only []; omega)]
    rfl
  · rw [if_neg (by omega : ¬ j.val / 32 % 2 = 0), dif_neg h1, dif_neg h1, dif_neg h1, dif_neg (by omega : ¬ j.val - 32 < 32),
      dif_neg (by omega : ¬ j.val - 32 < 32), dif_neg (by omega : ¬ j.val < 2 * 32), dif_neg (by omega : ¬ j.val - 32 - 32 < 32),
      dif_neg (by omega : ¬ j.val - 32 - 32 < 32), dif_neg (by omega : ¬ j.val < 3 * 32),
      dif_pos (by omega : j.val - 32 - 32 - 32 < 32), dif_pos (by omega : j.val - 32 - 32 - 32 < 32), add_comm,
      show (⟨(j.val + 128 - 32) % 128, by omega⟩ : Fin 128) = ⟨j.val - 32, by omega⟩ from Fin.ext (by simp only []; omega)]
    rfl

/-- for the narrow heads on their lanes, -/
theorem turn_rot16 (x : Fin 128 → EReal) (cr sr cc sc : Fin 16 → EReal) (j : Fin 64) :
    turn 16 112 x (cosT cr cc j.val) (sinT sr sc j.val) ⟨j.val, by omega⟩
      = rot 16 rfl (fun e : Fin 64 => x ⟨e.val, by omega⟩) cr sr cc sc j := by
  unfold turn rot cosT sinT
  have hj := j.isLt
  by_cases h1 : j.val < 16
  · rw [if_pos (by simp only []; omega : (⟨j.val, by omega⟩ : Fin 128).val / 16 % 2 = 0), dif_pos h1, dif_pos h1, dif_pos h1, sub_eq_add_neg, mul_neg,
      show (⟨((⟨j.val, by omega⟩ : Fin 128).val + 128 - 112) % 128, by omega⟩ : Fin 128) = ⟨16 + j.val, by omega⟩ from Fin.ext (by simp only []; omega)]
  by_cases h2 : j.val < 32
  · rw [if_neg (by simp only []; omega : ¬ (⟨j.val, by omega⟩ : Fin 128).val / 16 % 2 = 0), dif_neg h1, dif_neg h1, dif_neg h1, dif_pos (by omega : j.val - 16 < 16),
      dif_pos (by omega : j.val - 16 < 16), dif_pos (by omega : j.val < 2 * 16), add_comm,
      show (⟨((⟨j.val, by omega⟩ : Fin 128).val + 128 - 16) % 128, by omega⟩ : Fin 128) = ⟨j.val - 16, by omega⟩ from Fin.ext (by simp only []; omega)]
  by_cases h3 : j.val < 48
  · rw [if_pos (by simp only []; omega : (⟨j.val, by omega⟩ : Fin 128).val / 16 % 2 = 0), dif_neg h1, dif_neg h1, dif_neg h1, dif_neg (by omega : ¬ j.val - 16 < 16),
      dif_neg (by omega : ¬ j.val - 16 < 16), dif_neg (by omega : ¬ j.val < 2 * 16), dif_pos (by omega : j.val - 16 - 16 < 16),
      dif_pos (by omega : j.val - 16 - 16 < 16), dif_pos (by omega : j.val < 3 * 16), sub_eq_add_neg, mul_neg,
      show (⟨((⟨j.val, by omega⟩ : Fin 128).val + 128 - 112) % 128, by omega⟩ : Fin 128) = ⟨16 + j.val, by omega⟩ from Fin.ext (by simp only []; omega)]
    rfl
  · rw [if_neg (by simp only []; omega : ¬ (⟨j.val, by omega⟩ : Fin 128).val / 16 % 2 = 0), dif_neg h1, dif_neg h1, dif_neg h1, dif_neg (by omega : ¬ j.val - 16 < 16),
      dif_neg (by omega : ¬ j.val - 16 < 16), dif_neg (by omega : ¬ j.val < 2 * 16), dif_neg (by omega : ¬ j.val - 16 - 16 < 16),
      dif_neg (by omega : ¬ j.val - 16 - 16 < 16), dif_neg (by omega : ¬ j.val < 3 * 16),
      dif_pos (by omega : j.val - 16 - 16 - 16 < 16), dif_pos (by omega : j.val - 16 - 16 - 16 < 16), add_comm,
      show (⟨((⟨j.val, by omega⟩ : Fin 128).val + 128 - 16) % 128, by omega⟩ : Fin 128) = ⟨j.val - 16, by omega⟩ from Fin.ext (by simp only []; omega)]
    rfl

/-- and zero past them. -/
theorem turn_zero16 (x : Fin 128 → EReal) (cr sr cc sc : Fin 16 → EReal) (j : Fin 128) (h : 64 ≤ j.val) :
    turn 16 112 x (cosT cr cc j.val) (sinT sr sc j.val) j = 0 := by
  unfold turn cosT sinT
  simp only [dif_neg (by omega : ¬ j.val < 16), dif_neg (by omega : ¬ j.val - 16 < 16),
    dif_neg (by omega : ¬ j.val - 16 - 16 < 16), dif_neg (by omega : ¬ j.val - 16 - 16 - 16 < 16), mul_zero, add_zero]

end Cert.Proof.Prep

end
-- ==== Proof.Prep.lean ====
/- The projections before the mixers: the kernel's block arithmetic read at an index. -/
module

public import proofs.«01_k».proof.Proof.PrepMath
public import proofs.«01_k».proof.Proof.Gen.PrepIdeal.Value

@[expose] public section

set_option maxRecDepth 16384

noncomputable section

namespace Cert.Proof.Prep

open Cert.PrepIdeal Cert.PrepIdeal.Gen Idealize.ShloMosaic Idealize.ShloMosaic.TcCoe Idealize.SL.Sem

variable (x0 : Vec Ideal S1x512x2048 .f32) (x1 : Vec Ideal S1x1x6x2048 .f32) (x2 : Vec Ideal S1x1x2048 .f32)
  (x3 : Vec Ideal S1x2048x4480 .bf16) (x4 : Vec Ideal S1x1x128 .f32) (x5 : Vec Ideal S1x1x128 .f32)
  (x6 : Vec Ideal S512x128 .f32) (x7 : Vec Ideal S512x128 .f32) (x8 : Vec Ideal S1x1x512 .f32)
  (x9 : Vec Ideal S1x512x1024 .bf16) (x10 : Vec Ideal S1x256x1024 .bf16) (x11 : Vec Ideal S512x128 .f32)
  (x12 : Vec Ideal S512x128 .f32)

/-! ## The values the stores share -/

/-- A row of a block normalised, scaled and shifted, -/
def hidB (r : Fin 512) (d : Fin 2048) : EReal :=
  nrm 0x45000000#32 (fun e => x0 (ix3 0 r e)) (fun e => x2 (ix3 0 0 e)) d * (1 + x1 (ix4 0 0 1 d)) + x1 (ix4 0 0 0 d)

/-- through the packed projection, -/
def prjB (r : Fin 512) (c : Fin 4480) : EReal := ∑ d, hidB x0 x1 x2 r d * x3 (ix3 0 d c)

/-- the latent queries, -/
def qbB (r : Fin 512) (c : Fin 1024) : EReal :=
  ∑ e, nrm 0x44000000#32 (fun e => prjB x0 x1 x2 x3 r ⟨3584 + e.val, by omega⟩) (fun e => x8 (ix3 0 0 e)) e * x9 (ix3 0 e c)

/-- the latent keys and values, whose gain is in the matrix. -/
def kvB (r : Fin 512) (c : Fin 1024) : EReal :=
  ∑ e : Fin 256, prjB x0 x1 x2 x3 r ⟨4096 + e.val, by omega⟩
    * Ideal.rsqrt (Ideal.div (∑ e : Fin 256, prjB x0 x1 x2 x3 r ⟨4096 + e.val, by omega⟩ * prjB x0 x1 x2 x3 r ⟨4096 + e.val, by omega⟩)
      (Ideal.ofBits .f32 0x43800000#32) + Ideal.ofBits .f32 0x358637BD#32) * x10 (ix3 0 e c)

theorem hid_at (r : Fin 512) (d : Fin 2048) :
    k0_pay114 x0 x1 x2 x3 x4 x5 x6 x7 x8 x9 x10 x11 x12 (ix2 r d)
      = hidB x0 x1 x2 r d := by
  pointwise [k0_pay114, k0_pay5]
  rfl

theorem p_qa (r : Fin 512) (c : Fin 768) :
    k0_pay119 x0 x1 x2 x3 x4 x5 x6 x7 x8 x9 x10 x11 x12 (ix2 r c)
      = prjB x0 x1 x2 x3 r ⟨2304 + c.val, by omega⟩ := by
  pointwise [k0_pay119, k0_pay10]
  simp only [hid_at]
  rfl

theorem p_ka (r : Fin 512) (c : Fin 256) :
    k0_pay120 x0 x1 x2 x3 x4 x5 x6 x7 x8 x9 x10 x11 x12 (ix2 r c)
      = prjB x0 x1 x2 x3 r ⟨3072 + c.val, by omega⟩ := by
  pointwise [k0_pay120, k0_pay11]
  simp only [hid_at]
  rfl

theorem p_cq (r : Fin 512) (c : Fin 512) :
    k0_pay125 x0 x1 x2 x3 x4 x5 x6 x7 x8 x9 x10 x11 x12 (ix2 r c)
      = prjB x0 x1 x2 x3 r ⟨3584 + c.val, by omega⟩ := by
  pointwise [k0_pay125, k0_pay48]
  simp only [hid_at]
  rfl

theorem p_kp (r : Fin 512) (c : Fin 128) :
    k0_pay131 x0 x1 x2 x3 x4 x5 x6 x7 x8 x9 x10 x11 x12 (ix2 r c)
      = prjB x0 x1 x2 x3 r ⟨4352 + c.val, by omega⟩ := by
  pointwise [k0_pay131, k0_pay67]
  simp only [hid_at]
  rfl

theorem p_va (r : Fin 512) (c : Fin 256) :
    k0_pay136 x0 x1 x2 x3 x4 x5 x6 x7 x8 x9 x10 x11 x12 (ix2 r c)
      = prjB x0 x1 x2 x3 r ⟨3328 + c.val, by omega⟩ := by
  pointwise [k0_pay136, k0_pay100]
  simp only [hid_at]
  rfl

theorem p_ckv (r : Fin 512) (c : Fin 256) :
    k0_pay66 (k0_pay114 x0 x1 x2 x3 x4 x5 x6 x7 x8 x9 x10 x11 x12) (View.ld x3 r0_21) (ix2 r c)
      = prjB x0 x1 x2 x3 r ⟨4096 + c.val, by omega⟩ := by
  pointwise [k0_pay66]
  simp only [hid_at]
  rfl

theorem p_qa1 (r : Fin 512) (c : Fin 768) :
    k0_pay10 (k0_pay114 x0 x1 x2 x3 x4 x5 x6 x7 x8 x9 x10 x11 x12) (View.ld x3 r0_5) (ix2 r c)
      = prjB x0 x1 x2 x3 r ⟨2304 + c.val, by omega⟩ := by
  pointwise [k0_pay10]
  simp only [hid_at]
  rfl

theorem p_qb (r : Fin 512) (c : Fin 1024) :
    k0_pay130 x0 x1 x2 x3 x4 x5 x6 x7 x8 x9 x10 x11 x12 (ix2 r c)
      = qbB x0 x1 x2 x3 x8 x9 r c := by
  pointwise [k0_pay130, k0_pay64]
  simp only [p_cq]
  rfl

theorem p_kv (r : Fin 512) (c : Fin 1024) :
    k0_pay132 x0 x1 x2 x3 x4 x5 x6 x7 x8 x9 x10 x11 x12 (ix2 r c)
      = kvB x0 x1 x2 x3 x10 r c := by
  pointwise [k0_pay132, k0_pay95]
  simp only [p_ckv]
  rfl

theorem p_qb1 (r : Fin 512) (c : Fin 1024) : k0_pay64 (k0_pay125 x0 x1 x2 x3 x4 x5 x6 x7 x8 x9 x10 x11 x12) (View.ld x8 r0_18) (View.ld x9 r0_19) (ix2 r c) = qbB x0 x1 x2 x3 x8 x9 r c :=
  p_qb x0 x1 x2 x3 x4 x5 x6 x7 x8 x9 x10 x11 x12 r c

/-! ## The heads before the turn -/

theorem hq0 (r : Fin 512) (l : Fin 128) :
    k0_pay12 (k0_pay114 x0 x1 x2 x3 x4 x5 x6 x7 x8 x9 x10 x11 x12) (View.ld x3 r0_5) (View.ld x4 r0_7) (ix2 r l)
      = nrm 0x43000000#32 (fun e => prjB x0 x1 x2 x3 r ⟨2304 + e.val, by omega⟩) (fun e => x4 (ix3 0 0 e)) l := by
  pointwise [k0_pay12]
  simp only [p_qa, p_qa1, ← Nat.add_assoc, Nat.reduceAdd, zero_add]
  rfl

theorem hq1 (r : Fin 512) (l : Fin 128) :
    k0_pay21 (k0_pay121 x0 x1 x2 x3 x4 x5 x6 x7 x8 x9 x10 x11 x12) (k0_pay122 x0 x1 x2 x3 x4 x5 x6 x7 x8 x9 x10 x11 x12) (k0_pay123 x0 x1 x2 x3 x4 x5 x6 x7 x8 x9 x10 x11 x12) (ix2 r l)
      = nrm 0x43000000#32 (fun e => prjB x0 x1 x2 x3 r ⟨2432 + e.val, by omega⟩) (fun e => x4 (ix3 0 0 e)) l := by
  pointwise [k0_pay21, k0_pay121, k0_pay122, k0_pay123, k0_pay18, k0_pay19, k0_pay20]
  simp only [p_qa, p_qa1, ← Nat.add_assoc, Nat.reduceAdd, zero_add]
  rfl

theorem hq2 (r : Fin 512) (l : Fin 128) :
    k0_pay27 (k0_pay119 x0 x1 x2 x3 x4 x5 x6 x7 x8 x9 x10 x11 x12) (View.ld x4 r0_7) (ix2 r l)
      = nrm 0x43000000#32 (fun e => prjB x0 x1 x2 x3 r ⟨2560 + e.val, by omega⟩) (fun e => x4 (ix3 0 0 e)) l := by
  pointwise [k0_pay27]
  simp only [p_qa, p_qa1, ← Nat.add_assoc, Nat.reduceAdd, zero_add]
  rfl

theorem hq3 (r : Fin 512) (l : Fin 128) :
    k0_pay33 (k0_pay124 x0 x1 x2 x3 x4 x5 x6 x7 x8 x9 x10 x11 x12) (View.ld x4 r0_7) (ix2 r l)
      = nrm 0x43000000#32 (fun e => prjB x0 x1 x2 x3 r ⟨2688 + e.val, by omega⟩) (fun e => x4 (ix3 0 0 e)) l := by
  pointwise [k0_pay33, k0_pay124, k0_pay32]
  simp only [p_qa, p_qa1, ← Nat.add_assoc, Nat.reduceAdd, zero_add]
  rfl

theorem hq4 (r : Fin 512) (l : Fin 128) :
    k0_pay37 (k0_pay119 x0 x1 x2 x3 x4 x5 x6 x7 x8 x9 x10 x11 x12) (View.ld x4 r0_7) (ix2 r l)
      = nrm 0x43000000#32 (fun e => prjB x0 x1 x2 x3 r ⟨2816 + e.val, by omega⟩) (fun e => x4 (ix3 0 0 e)) l := by
  pointwise [k0_pay37]
  simp only [p_qa, p_qa1, ← Nat.add_assoc, Nat.reduceAdd, zero_add]
  rfl

theorem hq5 (r : Fin 512) (l : Fin 128) :
    k0_pay42 (k0_pay119 x0 x1 x2 x3 x4 x5 x6 x7 x8 x9 x10 x11 x12) (View.ld x4 r0_7) (ix2 r l)
      = nrm 0x43000000#32 (fun e => prjB x0 x1 x2 x3 r ⟨2944 + e.val, by omega⟩) (fun e => x4 (ix3 0 0 e)) l := by
  pointwise [k0_pay42]
  simp only [p_qa, p_qa1, ← Nat.add_assoc, Nat.reduceAdd, zero_add]
  rfl

theorem hk0 (r : Fin 512) (l : Fin 128) :
    k0_pay53 (k0_pay126 x0 x1 x2 x3 x4 x5 x6 x7 x8 x9 x10 x11 x12) (k0_pay127 x0 x1 x2 x3 x4 x5 x6 x7 x8 x9 x10 x11 x12) (k0_pay128 x0 x1 x2 x3 x4 x5 x6 x7 x8 x9 x10 x11 x12) (k0_pay129 x0 x1 x2 x3 x4 x5 x6 x7 x8 x9 x10 x11 x12) (ix2 r l)
      = nrm 0x43000000#32 (fun e => prjB x0 x1 x2 x3 r ⟨3072 + e.val, by omega⟩) (fun e => x5 (ix3 0 0 e)) l := by
  pointwise [k0_pay53, k0_pay126, k0_pay127, k0_pay128, k0_pay129, k0_pay49, k0_pay50, k0_pay51, k0_pay52]
  simp only [p_ka, ← Nat.add_assoc, Nat.reduceAdd, zero_add]
  rfl

theorem hk1 (r : Fin 512) (l : Fin 128) :
    k0_pay59 (k0_pay120 x0 x1 x2 x3 x4 x5 x6 x7 x8 x9 x10 x11 x12) (View.ld x5 r0_7) (ix2 r l)
      = nrm 0x43000000#32 (fun e => prjB x0 x1 x2 x3 r ⟨3200 + e.val, by omega⟩) (fun e => x5 (ix3 0 0 e)) l := by
  pointwise [k0_pay59]
  simp only [p_ka, ← Nat.add_assoc, Nat.reduceAdd, zero_add]
  rfl

theorem hb0 (r : Fin 512) (l : Fin 128) :
    k0_pay70 (k0_pay130 x0 x1 x2 x3 x4 x5 x6 x7 x8 x9 x10 x11 x12) (ix2 r l)
      = qbB x0 x1 x2 x3 x8 x9 r ⟨128 + l.val, by omega⟩ := by
  pointwise [k0_pay70]
  simp only [p_qb, ← Nat.add_assoc, Nat.reduceAdd, zero_add]

theorem hb1 (r : Fin 512) (l : Fin 128) :
    k0_pay76 (k0_pay130 x0 x1 x2 x3 x4 x5 x6 x7 x8 x9 x10 x11 x12) (ix2 r l)
      = qbB x0 x1 x2 x3 x8 x9 r ⟨384 + l.val, by omega⟩ := by
  pointwise [k0_pay76]
  simp only [p_qb, ← Nat.add_assoc, Nat.reduceAdd, zero_add]

theorem hb2 (r : Fin 512) (l : Fin 128) :
    k0_pay81 (k0_pay130 x0 x1 x2 x3 x4 x5 x6 x7 x8 x9 x10 x11 x12) (ix2 r l)
      = qbB x0 x1 x2 x3 x8 x9 r ⟨640 + l.val, by omega⟩ := by
  pointwise [k0_pay81]
  simp only [p_qb, ← Nat.add_assoc, Nat.reduceAdd, zero_add]

theorem hb3 (r : Fin 512) (l : Fin 128) :
    k0_pay89 (k0_pay130 x0 x1 x2 x3 x4 x5 x6 x7 x8 x9 x10 x11 x12) (ix2 r l)
      = qbB x0 x1 x2 x3 x8 x9 r ⟨896 + l.val, by omega⟩ := by
  pointwise [k0_pay89]
  simp only [p_qb, ← Nat.add_assoc, Nat.reduceAdd, zero_add]

/-! ## The stores -/

theorem s16_0 (r : Fin 512) (l : Fin 128) :
    k0_pay17 (k0_pay116 x0 x1 x2 x3 x4 x5 x6 x7 x8 x9 x10 x11 x12) (k0_pay12 (k0_pay114 x0 x1 x2 x3 x4 x5 x6 x7 x8 x9 x10 x11 x12) (View.ld x3 r0_5) (View.ld x4 r0_7)) (k0_pay13 (k0_pay114 x0 x1 x2 x3 x4 x5 x6 x7 x8 x9 x10 x11 x12) (k0_pay115 x0 x1 x2 x3 x4 x5 x6 x7 x8 x9 x10 x11 x12) (View.ld x3 r0_5) (View.ld x4 r0_7)) (iota .tc S512x128 32 [1] iota_S512x128_d1_w32) 32#32 k0_pay14 k0_pay15 k0_pay16 (ix3 0 l r)
      = turn 32 96 (fun l => nrm 0x43000000#32 (fun e => prjB x0 x1 x2 x3 r ⟨2304 + e.val, by omega⟩) (fun e => x4 (ix3 0 0 e)) l) (x6 (ix2 r l)) (x7 (ix2 r l)) l := by
  pointwise [k0_pay17, k0_pay116, k0_pay13, k0_pay115, k0_pay14, k0_pay15, k0_pay16, k0_pay7, k0_pay6]
  simp only [hq0]
  exact turn32 (fun l => nrm 0x43000000#32 (fun e => prjB x0 x1 x2 x3 r ⟨2304 + e.val, by omega⟩) (fun e => x4 (ix3 0 0 e)) l) _ _ l

theorem s16_1 (r : Fin 512) (l : Fin 128) :
    k0_pay26 (k0_pay116 x0 x1 x2 x3 x4 x5 x6 x7 x8 x9 x10 x11 x12) (k0_pay21 (k0_pay121 x0 x1 x2 x3 x4 x5 x6 x7 x8 x9 x10 x11 x12) (k0_pay122 x0 x1 x2 x3 x4 x5 x6 x7 x8 x9 x10 x11 x12) (k0_pay123 x0 x1 x2 x3 x4 x5 x6 x7 x8 x9 x10 x11 x12)) (k0_pay22 (k0_pay115 x0 x1 x2 x3 x4 x5 x6 x7 x8 x9 x10 x11 x12) (k0_pay121 x0 x1 x2 x3 x4 x5 x6 x7 x8 x9 x10 x11 x12) (k0_pay122 x0 x1 x2 x3 x4 x5 x6 x7 x8 x9 x10 x11 x12) (k0_pay123 x0 x1 x2 x3 x4 x5 x6 x7 x8 x9 x10 x11 x12)) (Scalar.select (Scalar.cmpi .eq 2#32 0#32) 1#32 2#32) k0_pay23 k0_pay24 k0_pay25 (Scalar.cmpi .slt (Scalar.select (Scalar.cmpi .eq 2#32 0#32) 1#32 2#32) 0#32) (ix3 0 l r)
      = turn 32 96 (fun l => nrm 0x43000000#32 (fun e => prjB x0 x1 x2 x3 r ⟨2432 + e.val, by omega⟩) (fun e => x4 (ix3 0 0 e)) l) (x6 (ix2 r l)) (x7 (ix2 r l)) l := by
  pointwise [k0_pay26, k0_pay116, k0_pay22, k0_pay115, k0_pay23, k0_pay24, k0_pay25, k0_pay7, k0_pay6]
  simp only [hq1]
  exact turn32 (fun l => nrm 0x43000000#32 (fun e => prjB x0 x1 x2 x3 r ⟨2432 + e.val, by omega⟩) (fun e => x4 (ix3 0 0 e)) l) _ _ l

theorem s16_2 (r : Fin 512) (l : Fin 128) :
    k0_pay31 (k0_pay116 x0 x1 x2 x3 x4 x5 x6 x7 x8 x9 x10 x11 x12) (k0_pay27 (k0_pay119 x0 x1 x2 x3 x4 x5 x6 x7 x8 x9 x10 x11 x12) (View.ld x4 r0_7)) (k0_pay28 (k0_pay115 x0 x1 x2 x3 x4 x5 x6 x7 x8 x9 x10 x11 x12) (k0_pay119 x0 x1 x2 x3 x4 x5 x6 x7 x8 x9 x10 x11 x12) (View.ld x4 r0_7)) (iota .tc S512x128 32 [1] iota_S512x128_d1_w32) 32#32 k0_pay29 k0_pay30 (ix3 0 l r)
      = turn 32 96 (fun l => nrm 0x43000000#32 (fun e => prjB x0 x1 x2 x3 r ⟨2560 + e.val, by omega⟩) (fun e => x4 (ix3 0 0 e)) l) (x6 (ix2 r l)) (x7 (ix2 r l)) l := by
  pointwise [k0_pay31, k0_pay116, k0_pay28, k0_pay115, k0_pay29, k0_pay30, k0_pay7, k0_pay6]
  simp only [hq2]
  exact turn32 (fun l => nrm 0x43000000#32 (fun e => prjB x0 x1 x2 x3 r ⟨2560 + e.val, by omega⟩) (fun e => x4 (ix3 0 0 e)) l) _ _ l

theorem s16_3 (r : Fin 512) (l : Fin 128) :
    k0_pay36 (k0_pay116 x0 x1 x2 x3 x4 x5 x6 x7 x8 x9 x10 x11 x12) (k0_pay33 (k0_pay124 x0 x1 x2 x3 x4 x5 x6 x7 x8 x9 x10 x11 x12) (View.ld x4 r0_7)) (k0_pay34 (k0_pay115 x0 x1 x2 x3 x4 x5 x6 x7 x8 x9 x10 x11 x12) (k0_pay124 x0 x1 x2 x3 x4 x5 x6 x7 x8 x9 x10 x11 x12) (View.ld x4 r0_7)) (Scalar.select (Scalar.cmpi .eq 2#32 0#32) 1#32 2#32) k0_pay35 (ix3 0 l r)
      = turn 32 96 (fun l => nrm 0x43000000#32 (fun e => prjB x0 x1 x2 x3 r ⟨2688 + e.val, by omega⟩) (fun e => x4 (ix3 0 0 e)) l) (x6 (ix2 r l)) (x7 (ix2 r l)) l := by
  pointwise [k0_pay36, k0_pay116, k0_pay34, k0_pay115, k0_pay35, k0_pay7, k0_pay6]
  simp only [hq3]
  exact turn32 (fun l => nrm 0x43000000#32 (fun e => prjB x0 x1 x2 x3 r ⟨2688 + e.val, by omega⟩) (fun e => x4 (ix3 0 0 e)) l) _ _ l

theorem s16_4 (r : Fin 512) (l : Fin 128) :
    k0_pay41 (k0_pay40 (k0_pay116 x0 x1 x2 x3 x4 x5 x6 x7 x8 x9 x10 x11 x12) (k0_pay37 (k0_pay119 x0 x1 x2 x3 x4 x5 x6 x7 x8 x9 x10 x11 x12) (View.ld x4 r0_7)) (k0_pay38 (k0_pay115 x0 x1 x2 x3 x4 x5 x6 x7 x8 x9 x10 x11 x12) (k0_pay119 x0 x1 x2 x3 x4 x5 x6 x7 x8 x9 x10 x11 x12) (View.ld x4 r0_7)) (iota .tc S512x128 32 [1] iota_S512x128_d1_w32) 32#32 k0_pay39 0#32) (ix3 0 l r)
      = turn 32 96 (fun l => nrm 0x43000000#32 (fun e => prjB x0 x1 x2 x3 r ⟨2816 + e.val, by omega⟩) (fun e => x4 (ix3 0 0 e)) l) (x6 (ix2 r l)) (x7 (ix2 r l)) l := by
  pointwise [k0_pay41, k0_pay40, k0_pay116, k0_pay38, k0_pay115, k0_pay39, k0_pay7, k0_pay6]
  simp only [hq4]
  exact turn32 (fun l => nrm 0x43000000#32 (fun e => prjB x0 x1 x2 x3 r ⟨2816 + e.val, by omega⟩) (fun e => x4 (ix3 0 0 e)) l) _ _ l

theorem s16_5 (r : Fin 512) (l : Fin 128) :
    k0_pay47 (k0_pay116 x0 x1 x2 x3 x4 x5 x6 x7 x8 x9 x10 x11 x12) (k0_pay42 (k0_pay119 x0 x1 x2 x3 x4 x5 x6 x7 x8 x9 x10 x11 x12) (View.ld x4 r0_7)) (k0_pay43 (k0_pay115 x0 x1 x2 x3 x4 x5 x6 x7 x8 x9 x10 x11 x12) (k0_pay119 x0 x1 x2 x3 x4 x5 x6 x7 x8 x9 x10 x11 x12) (View.ld x4 r0_7)) k0_pay44 k0_pay45 k0_pay46 (ix3 0 l r)
      = turn 32 96 (fun l => nrm 0x43000000#32 (fun e => prjB x0 x1 x2 x3 r ⟨2944 + e.val, by omega⟩) (fun e => x4 (ix3 0 0 e)) l) (x6 (ix2 r l)) (x7 (ix2 r l)) l := by
  pointwise [k0_pay47, k0_pay116, k0_pay43, k0_pay115, k0_pay44, k0_pay45, k0_pay46, k0_pay7, k0_pay6]
  simp only [hq5]
  exact turn32 (fun l => nrm 0x43000000#32 (fun e => prjB x0 x1 x2 x3 r ⟨2944 + e.val, by omega⟩) (fun e => x4 (ix3 0 0 e)) l) _ _ l

theorem s17_0 (r : Fin 512) (l : Fin 128) :
    k0_pay58 (k0_pay116 x0 x1 x2 x3 x4 x5 x6 x7 x8 x9 x10 x11 x12) (k0_pay53 (k0_pay126 x0 x1 x2 x3 x4 x5 x6 x7 x8 x9 x10 x11 x12) (k0_pay127 x0 x1 x2 x3 x4 x5 x6 x7 x8 x9 x10 x11 x12) (k0_pay128 x0 x1 x2 x3 x4 x5 x6 x7 x8 x9 x10 x11 x12) (k0_pay129 x0 x1 x2 x3 x4 x5 x6 x7 x8 x9 x10 x11 x12)) (k0_pay54 (k0_pay115 x0 x1 x2 x3 x4 x5 x6 x7 x8 x9 x10 x11 x12) (k0_pay126 x0 x1 x2 x3 x4 x5 x6 x7 x8 x9 x10 x11 x12) (k0_pay127 x0 x1 x2 x3 x4 x5 x6 x7 x8 x9 x10 x11 x12) (k0_pay128 x0 x1 x2 x3 x4 x5 x6 x7 x8 x9 x10 x11 x12) (k0_pay129 x0 x1 x2 x3 x4 x5 x6 x7 x8 x9 x10 x11 x12)) (Scalar.select (Scalar.cmpi .eq 2#32 0#32) 1#32 2#32) k0_pay55 k0_pay56 k0_pay57 (ix3 0 r l)
      = turn 32 96 (fun l => nrm 0x43000000#32 (fun e => prjB x0 x1 x2 x3 r ⟨3072 + e.val, by omega⟩) (fun e => x5 (ix3 0 0 e)) l) (x6 (ix2 r l)) (x7 (ix2 r l)) l := by
  pointwise [k0_pay58, k0_pay116, k0_pay54, k0_pay115, k0_pay55, k0_pay56, k0_pay57, k0_pay7, k0_pay6]
  simp only [hk0]
  exact turn32 (fun l => nrm 0x43000000#32 (fun e => prjB x0 x1 x2 x3 r ⟨3072 + e.val, by omega⟩) (fun e => x5 (ix3 0 0 e)) l) _ _ l

theorem s17_1 (r : Fin 512) (l : Fin 128) :
    k0_pay63 (k0_pay116 x0 x1 x2 x3 x4 x5 x6 x7 x8 x9 x10 x11 x12) (k0_pay59 (k0_pay120 x0 x1 x2 x3 x4 x5 x6 x7 x8 x9 x10 x11 x12) (View.ld x5 r0_7)) (k0_pay60 (k0_pay115 x0 x1 x2 x3 x4 x5 x6 x7 x8 x9 x10 x11 x12) (k0_pay120 x0 x1 x2 x3 x4 x5 x6 x7 x8 x9 x10 x11 x12) (View.ld x5 r0_7)) (iota .tc S512x128 32 [1] iota_S512x128_d1_w32) 32#32 k0_pay61 k0_pay62 (Scalar.extui (Scalar.cmpi .sgt 32#32 0#32)) (ix3 0 r l)
      = turn 32 96 (fun l => nrm 0x43000000#32 (fun e => prjB x0 x1 x2 x3 r ⟨3200 + e.val, by omega⟩) (fun e => x5 (ix3 0 0 e)) l) (x6 (ix2 r l)) (x7 (ix2 r l)) l := by
  pointwise [k0_pay63, k0_pay116, k0_pay60, k0_pay115, k0_pay61, k0_pay62, k0_pay7, k0_pay6]
  simp only [hk1]
  exact turn32 (fun l => nrm 0x43000000#32 (fun e => prjB x0 x1 x2 x3 r ⟨3200 + e.val, by omega⟩) (fun e => x5 (ix3 0 0 e)) l) _ _ l

theorem s13 (r : Fin 512) (l : Fin 1280) :
    k0_pay65 (k0_pay114 x0 x1 x2 x3 x4 x5 x6 x7 x8 x9 x10 x11 x12) (View.ld x3 r0_17) (ix3 0 r l)
      = prjB x0 x1 x2 x3 r ⟨0 + l.val, by omega⟩ := by
  pointwise [k0_pay65]
  simp only [hid_at, ← Nat.add_assoc, Nat.reduceAdd, zero_add]
  rfl

theorem s14 (r : Fin 512) (l : Fin 768) :
    k0_pay96 (k0_pay114 x0 x1 x2 x3 x4 x5 x6 x7 x8 x9 x10 x11 x12) (View.ld x3 r0_31) (ix3 0 r l)
      = prjB x0 x1 x2 x3 r ⟨1280 + l.val, by omega⟩ := by
  pointwise [k0_pay96]
  simp only [hid_at, ← Nat.add_assoc, Nat.reduceAdd, zero_add]
  rfl

theorem s15 (r : Fin 512) (l : Fin 256) :
    k0_pay4 (k0_pay101 (k0_pay114 x0 x1 x2 x3 x4 x5 x6 x7 x8 x9 x10 x11 x12) (View.ld x3 r0_35)) (ix3 0 r l)
      = prjB x0 x1 x2 x3 r ⟨2048 + l.val, by omega⟩ := by
  pointwise [k0_pay4, k0_pay101]
  simp only [hid_at, ← Nat.add_assoc, Nat.reduceAdd, zero_add]
  rfl

theorem s18_0 (r : Fin 512) (l : Fin 128) :
    k0_pay2 (k0_pay136 x0 x1 x2 x3 x4 x5 x6 x7 x8 x9 x10 x11 x12) (ix3 0 l r)
      = prjB x0 x1 x2 x3 r ⟨3328 + l.val, by omega⟩ := by
  pointwise [k0_pay2]
  simp only [p_va, ← Nat.add_assoc, Nat.reduceAdd, zero_add]

theorem s18_1 (r : Fin 512) (l : Fin 128) :
    k0_pay3 (k0_pay136 x0 x1 x2 x3 x4 x5 x6 x7 x8 x9 x10 x11 x12) (ix3 0 l r)
      = prjB x0 x1 x2 x3 r ⟨3456 + l.val, by omega⟩ := by
  pointwise [k0_pay3]
  simp only [p_va, ← Nat.add_assoc, Nat.reduceAdd, zero_add]

theorem s19_0 (r : Fin 512) (l : Fin 128) :
    k0_pay69 (k0_pay68 (k0_pay125 x0 x1 x2 x3 x4 x5 x6 x7 x8 x9 x10 x11 x12) (View.ld x8 r0_18) (View.ld x9 r0_19)) (ix3 0 l r)
      = qbB x0 x1 x2 x3 x8 x9 r ⟨0 + l.val, by omega⟩ := by
  pointwise [k0_pay69, k0_pay68]
  simp only [p_qb1, ← Nat.add_assoc, Nat.reduceAdd, zero_add]

theorem s19_1 (r : Fin 512) (l : Fin 128) :
    k0_pay74 (k0_pay118 x0 x1 x2 x3 x4 x5 x6 x7 x8 x9 x10 x11 x12) (k0_pay70 (k0_pay130 x0 x1 x2 x3 x4 x5 x6 x7 x8 x9 x10 x11 x12)) (k0_pay71 (k0_pay117 x0 x1 x2 x3 x4 x5 x6 x7 x8 x9 x10 x11 x12) (k0_pay130 x0 x1 x2 x3 x4 x5 x6 x7 x8 x9 x10 x11 x12)) k0_pay72 k0_pay73 (ix3 0 l r)
      = turn 16 112 (fun l => qbB x0 x1 x2 x3 x8 x9 r ⟨128 + l.val, by omega⟩) (x11 (ix2 r l)) (x12 (ix2 r l)) l := by
  pointwise [k0_pay74, k0_pay118, k0_pay71, k0_pay117, k0_pay72, k0_pay73, k0_pay9, k0_pay8]
  simp only [hb0]
  exact turn16 (fun l => qbB x0 x1 x2 x3 x8 x9 r ⟨128 + l.val, by omega⟩) _ _ l

theorem s19_2 (r : Fin 512) (l : Fin 128) :
    k0_pay75 (k0_pay130 x0 x1 x2 x3 x4 x5 x6 x7 x8 x9 x10 x11 x12) (ix3 0 l r)
      = qbB x0 x1 x2 x3 x8 x9 r ⟨256 + l.val, by omega⟩ := by
  pointwise [k0_pay75]
  simp only [p_qb, ← Nat.add_assoc, Nat.reduceAdd, zero_add]

theorem s19_3 (r : Fin 512) (l : Fin 128) :
    k0_pay79 (k0_pay118 x0 x1 x2 x3 x4 x5 x6 x7 x8 x9 x10 x11 x12) (k0_pay76 (k0_pay130 x0 x1 x2 x3 x4 x5 x6 x7 x8 x9 x10 x11 x12)) (k0_pay77 (k0_pay117 x0 x1 x2 x3 x4 x5 x6 x7 x8 x9 x10 x11 x12) (k0_pay130 x0 x1 x2 x3 x4 x5 x6 x7 x8 x9 x10 x11 x12)) k0_pay78 2#32 (ix3 0 l r)
      = turn 16 112 (fun l => qbB x0 x1 x2 x3 x8 x9 r ⟨384 + l.val, by omega⟩) (x11 (ix2 r l)) (x12 (ix2 r l)) l := by
  pointwise [k0_pay79, k0_pay118, k0_pay77, k0_pay117, k0_pay78, k0_pay9, k0_pay8]
  simp only [hb1]
  exact turn16 (fun l => qbB x0 x1 x2 x3 x8 x9 r ⟨384 + l.val, by omega⟩) _ _ l

theorem s19_4 (r : Fin 512) (l : Fin 128) :
    k0_pay80 (k0_pay130 x0 x1 x2 x3 x4 x5 x6 x7 x8 x9 x10 x11 x12) (ix3 0 l r)
      = qbB x0 x1 x2 x3 x8 x9 r ⟨512 + l.val, by omega⟩ := by
  pointwise [k0_pay80]
  simp only [p_qb, ← Nat.add_assoc, Nat.reduceAdd, zero_add]

theorem s19_5 (r : Fin 512) (l : Fin 128) :
    k0_pay87 (k0_pay86 (k0_pay118 x0 x1 x2 x3 x4 x5 x6 x7 x8 x9 x10 x11 x12) (k0_pay81 (k0_pay130 x0 x1 x2 x3 x4 x5 x6 x7 x8 x9 x10 x11 x12)) (k0_pay82 (k0_pay117 x0 x1 x2 x3 x4 x5 x6 x7 x8 x9 x10 x11 x12) (k0_pay130 x0 x1 x2 x3 x4 x5 x6 x7 x8 x9 x10 x11 x12)) (iota .tc S512x128 32 [1] iota_S512x128_d1_w32) 16#32 k0_pay83 k0_pay84 k0_pay85) (ix3 0 l r)
      = turn 16 112 (fun l => qbB x0 x1 x2 x3 x8 x9 r ⟨640 + l.val, by omega⟩) (x11 (ix2 r l)) (x12 (ix2 r l)) l := by
  pointwise [k0_pay87, k0_pay86, k0_pay118, k0_pay82, k0_pay117, k0_pay83, k0_pay84, k0_pay85, k0_pay9, k0_pay8]
  simp only [hb2]
  exact turn16 (fun l => qbB x0 x1 x2 x3 x8 x9 r ⟨640 + l.val, by omega⟩) _ _ l

theorem s19_6 (r : Fin 512) (l : Fin 128) :
    k0_pay88 (k0_pay130 x0 x1 x2 x3 x4 x5 x6 x7 x8 x9 x10 x11 x12) (ix3 0 l r)
      = qbB x0 x1 x2 x3 x8 x9 r ⟨768 + l.val, by omega⟩ := by
  pointwise [k0_pay88]
  simp only [p_qb, ← Nat.add_assoc, Nat.reduceAdd, zero_add]

theorem s19_7 (r : Fin 512) (l : Fin 128) :
    k0_pay94 (k0_pay118 x0 x1 x2 x3 x4 x5 x6 x7 x8 x9 x10 x11 x12) (k0_pay89 (k0_pay130 x0 x1 x2 x3 x4 x5 x6 x7 x8 x9 x10 x11 x12)) (k0_pay90 (k0_pay117 x0 x1 x2 x3 x4 x5 x6 x7 x8 x9 x10 x11 x12) (k0_pay130 x0 x1 x2 x3 x4 x5 x6 x7 x8 x9 x10 x11 x12)) (Scalar.select (Scalar.cmpi .eq 2#32 0#32) 1#32 2#32) k0_pay91 k0_pay92 k0_pay93 (Scalar.cmpi .slt (Scalar.select (Scalar.cmpi .eq 2#32 0#32) 1#32 2#32) 0#32) (ix3 0 l r)
      = turn 16 112 (fun l => qbB x0 x1 x2 x3 x8 x9 r ⟨896 + l.val, by omega⟩) (x11 (ix2 r l)) (x12 (ix2 r l)) l := by
  pointwise [k0_pay94, k0_pay118, k0_pay90, k0_pay117, k0_pay91, k0_pay92, k0_pay93, k0_pay9, k0_pay8]
  simp only [hb3]
  exact turn16 (fun l => qbB x0 x1 x2 x3 x8 x9 r ⟨896 + l.val, by omega⟩) _ _ l

theorem s20_0 (r : Fin 512) (l : Fin 128) :
    k0_pay102 (k0_pay132 x0 x1 x2 x3 x4 x5 x6 x7 x8 x9 x10 x11 x12) (ix3 0 r l)
      = kvB x0 x1 x2 x3 x10 r ⟨0 + l.val, by omega⟩ := by
  pointwise [k0_pay102]
  simp only [p_kv, ← Nat.add_assoc, Nat.reduceAdd, zero_add]

theorem s20_1 (r : Fin 512) (l : Fin 128) :
    k0_pay103 (k0_pay118 x0 x1 x2 x3 x4 x5 x6 x7 x8 x9 x10 x11 x12) (k0_pay131 x0 x1 x2 x3 x4 x5 x6 x7 x8 x9 x10 x11 x12) (k0_pay133 x0 x1 x2 x3 x4 x5 x6 x7 x8 x9 x10 x11 x12) (k0_pay134 x0 x1 x2 x3 x4 x5 x6 x7 x8 x9 x10 x11 x12) 112#32 (ix3 0 r l)
      = turn 16 112 (fun l => prjB x0 x1 x2 x3 r ⟨4352 + l.val, by omega⟩) (x11 (ix2 r l)) (x12 (ix2 r l)) l := by
  pointwise [k0_pay103, k0_pay118, k0_pay133, k0_pay134, k0_pay99, k0_pay9, k0_pay97, k0_pay117, k0_pay98, k0_pay8]
  simp only [p_kp]
  exact turn16 (fun l => prjB x0 x1 x2 x3 r ⟨4352 + l.val, by omega⟩) _ _ l

theorem s20_2 (r : Fin 512) (l : Fin 128) :
    k0_pay105 (k0_pay132 x0 x1 x2 x3 x4 x5 x6 x7 x8 x9 x10 x11 x12) (ix3 0 r l)
      = kvB x0 x1 x2 x3 x10 r ⟨128 + l.val, by omega⟩ := by
  pointwise [k0_pay105]
  simp only [p_kv, ← Nat.add_assoc, Nat.reduceAdd, zero_add]

theorem s20_3 (r : Fin 512) (l : Fin 128) :
    k0_pay106 (k0_pay135 x0 x1 x2 x3 x4 x5 x6 x7 x8 x9 x10 x11 x12) (ix3 0 r l)
      = turn 16 112 (fun l => prjB x0 x1 x2 x3 r ⟨4352 + l.val, by omega⟩) (x11 (ix2 r l)) (x12 (ix2 r l)) l := by
  pointwise [k0_pay106, k0_pay135, k0_pay99, k0_pay118, k0_pay133, k0_pay134, k0_pay9, k0_pay97, k0_pay117, k0_pay98, k0_pay8]
  simp only [p_kp]
  exact turn16 (fun l => prjB x0 x1 x2 x3 r ⟨4352 + l.val, by omega⟩) _ _ l

theorem s20_4 (r : Fin 512) (l : Fin 128) :
    k0_pay108 (k0_pay132 x0 x1 x2 x3 x4 x5 x6 x7 x8 x9 x10 x11 x12) (ix3 0 r l)
      = kvB x0 x1 x2 x3 x10 r ⟨256 + l.val, by omega⟩ := by
  pointwise [k0_pay108]
  simp only [p_kv, ← Nat.add_assoc, Nat.reduceAdd, zero_add]

theorem s20_5 (r : Fin 512) (l : Fin 128) :
    k0_pay109 (k0_pay135 x0 x1 x2 x3 x4 x5 x6 x7 x8 x9 x10 x11 x12) (ix3 0 r l)
      = turn 16 112 (fun l => prjB x0 x1 x2 x3 r ⟨4352 + l.val, by omega⟩) (x11 (ix2 r l)) (x12 (ix2 r l)) l := by
  pointwise [k0_pay109, k0_pay135, k0_pay99, k0_pay118, k0_pay133, k0_pay134, k0_pay9, k0_pay97, k0_pay117, k0_pay98, k0_pay8]
  simp only [p_kp]
  exact turn16 (fun l => prjB x0 x1 x2 x3 r ⟨4352 + l.val, by omega⟩) _ _ l

theorem s20_6 (r : Fin 512) (l : Fin 128) :
    k0_pay111 (k0_pay132 x0 x1 x2 x3 x4 x5 x6 x7 x8 x9 x10 x11 x12) (ix3 0 r l)
      = kvB x0 x1 x2 x3 x10 r ⟨384 + l.val, by omega⟩ := by
  pointwise [k0_pay111]
  simp only [p_kv, ← Nat.add_assoc, Nat.reduceAdd, zero_add]

theorem s20_7 (r : Fin 512) (l : Fin 128) :
    k0_pay112 (k0_pay135 x0 x1 x2 x3 x4 x5 x6 x7 x8 x9 x10 x11 x12) (ix3 0 r l)
      = turn 16 112 (fun l => prjB x0 x1 x2 x3 r ⟨4352 + l.val, by omega⟩) (x11 (ix2 r l)) (x12 (ix2 r l)) l := by
  pointwise [k0_pay112, k0_pay135, k0_pay99, k0_pay118, k0_pay133, k0_pay134, k0_pay9, k0_pay97, k0_pay117, k0_pay98, k0_pay8]
  simp only [p_kp]
  exact turn16 (fun l => prjB x0 x1 x2 x3 r ⟨4352 + l.val, by omega⟩) _ _ l

theorem s21_0 (r : Fin 512) (l : Fin 128) :
    k0_pay104 (k0_pay132 x0 x1 x2 x3 x4 x5 x6 x7 x8 x9 x10 x11 x12) (ix3 0 l r)
      = kvB x0 x1 x2 x3 x10 r ⟨512 + l.val, by omega⟩ := by
  pointwise [k0_pay104]
  simp only [p_kv, ← Nat.add_assoc, Nat.reduceAdd, zero_add]

theorem s21_1 (r : Fin 512) (l : Fin 128) :
    k0_pay107 (k0_pay132 x0 x1 x2 x3 x4 x5 x6 x7 x8 x9 x10 x11 x12) (ix3 0 l r)
      = kvB x0 x1 x2 x3 x10 r ⟨640 + l.val, by omega⟩ := by
  pointwise [k0_pay107]
  simp only [p_kv, ← Nat.add_assoc, Nat.reduceAdd, zero_add]

theorem s21_2 (r : Fin 512) (l : Fin 128) :
    k0_pay110 (k0_pay132 x0 x1 x2 x3 x4 x5 x6 x7 x8 x9 x10 x11 x12) (ix3 0 l r)
      = kvB x0 x1 x2 x3 x10 r ⟨768 + l.val, by omega⟩ := by
  pointwise [k0_pay110]
  simp only [p_kv, ← Nat.add_assoc, Nat.reduceAdd, zero_add]

theorem s21_3 (r : Fin 512) (l : Fin 128) :
    k0_pay1 (k0_pay113 (k0_pay132 x0 x1 x2 x3 x4 x5 x6 x7 x8 x9 x10 x11 x12)) (ix3 0 l r)
      = kvB x0 x1 x2 x3 x10 r ⟨896 + l.val, by omega⟩ := by
  pointwise [k0_pay1, k0_pay113]
  simp only [p_kv, ← Nat.add_assoc, Nat.reduceAdd, zero_add]

end Cert.Proof.Prep

end
-- ==== Proof.PrepPack.lean ====
/- The packed weights and tables of the projections before the mixers. -/
module

public import proofs.«01_k».proof.Proof.Prep
public import proofs.«01_k».proof.Proof.Gen.PrepReferenceIdeal.Read
public import Idealize.ShloMosaic.Lib.Pipeline.ValueKit.Point
public import Idealize.ShloMosaic.Lib.Pipeline.ValueKit.Tiles

@[expose] public section

set_option maxRecDepth 16384

noncomputable section

namespace Cert.Proof.Prep

open Cert.PrepIdeal Cert.PrepIdeal.Gen Cert.PrepIdeal.Value Idealize.ShloMosaic Idealize.ShloMosaic.TcCoe Idealize.SL.Sem

variable (m : (ℓ : Loc nD τ sig) → Buf (Elt Ideal) ℓ) (ρ : Dev nD → PrngReg)

/-- Core `c`'s arguments: stream, modulation, first gain, packed projection, head gains, latent gains and matrices. -/
abbrev argX (c : Dev nD) : Vec Ideal S16x2048x2048 .f32 := m ((c : Thread nD τ).loc main_arg0)
abbrev argM (c : Dev nD) : Vec Ideal S2x16x12288 .f32 := m ((c : Thread nD τ).loc main_arg1)
abbrev argG (c : Dev nD) : Vec Ideal S2x2048 .f32 := m ((c : Thread nD τ).loc main_arg2)
abbrev argW (c : Dev nD) : Vec Ideal S2x2048x4184 .f32 := m ((c : Thread nD τ).loc main_arg3)
abbrev argQg (c : Dev nD) : Vec Ideal S2x128 .f32 := m ((c : Thread nD τ).loc main_arg4)
abbrev argKg (c : Dev nD) : Vec Ideal S2x128 .f32 := m ((c : Thread nD τ).loc main_arg5)
abbrev argMq (c : Dev nD) : Vec Ideal S2x512 .f32 := m ((c : Thread nD τ).loc main_arg6)
abbrev argWq (c : Dev nD) : Vec Ideal S2x512x768 .f32 := m ((c : Thread nD τ).loc main_arg7)
abbrev argMk (c : Dev nD) : Vec Ideal S2x256 .f32 := m ((c : Thread nD τ).loc main_arg8)
abbrev argWk (c : Dev nD) : Vec Ideal S2x256x1024 .f32 := m ((c : Thread nD τ).loc main_arg9)

/-- The rotary cosines and sines of rows and columns, for the wide and for the narrow heads. -/
def tabAr : Vec Ideal S2048x32 .f32 := PrepReferenceIdeal.Read.val_main_v29 (F := Ideal)
def tabAy : Vec Ideal S2048x32 .f32 := PrepReferenceIdeal.Read.val_main_v30 (F := Ideal)
def tabAc : Vec Ideal S2048x32 .f32 := PrepReferenceIdeal.Read.val_main_v31 (F := Ideal)
def tabAz : Vec Ideal S2048x32 .f32 := PrepReferenceIdeal.Read.val_main_v32 (F := Ideal)
def tabBr : Vec Ideal S2048x16 .f32 := PrepReferenceIdeal.Read.val_main_v62 (F := Ideal)
def tabBs : Vec Ideal S2048x16 .f32 := PrepReferenceIdeal.Read.val_main_v63 (F := Ideal)
def tabBc : Vec Ideal S2048x16 .f32 := PrepReferenceIdeal.Read.val_main_v64 (F := Ideal)
def tabBz : Vec Ideal S2048x16 .f32 := PrepReferenceIdeal.Read.val_main_v65 (F := Ideal)

/-- The projection's columns in the kernel's order, with zeros between. -/
def packed (w : Vec Ideal S2x2048x4184 .f32) : Vec Ideal S2x2048x4480 .f32 :=
  concatenate S2x2048x4480 2 [⟨S2x2048x384, extractStridedSlice S2x2048x384 ![0, 0, 2880] w slices_S2x2048x4184_S2x2048x384_0_0_2880⟩, ⟨S2x2048x128, extractStridedSlice S2x2048x128 ![0, 0, 3648] w slices_S2x2048x4184_S2x2048x128_0_0_3648⟩, ⟨S2x2048x128, extractStridedSlice S2x2048x128 ![0, 0, 3904] w slices_S2x2048x4184_S2x2048x128_0_0_3904⟩, ⟨S2x2048x384, extractStridedSlice S2x2048x384 ![0, 0, 3264] w slices_S2x2048x4184_S2x2048x384_0_0_3264⟩, ⟨S2x2048x128, extractStridedSlice S2x2048x128 ![0, 0, 3776] w slices_S2x2048x4184_S2x2048x128_0_0_3776⟩, ⟨S2x2048x128, extractStridedSlice S2x2048x128 ![0, 0, 4032] w slices_S2x2048x4184_S2x2048x128_0_0_4032⟩, ⟨S2x2048x768, extractStridedSlice S2x2048x768 ![0, 0, 2112] w slices_S2x2048x4184_S2x2048x768_0_0_2112⟩, ⟨S2x2048x6, extractStridedSlice S2x2048x6 ![0, 0, 4160] w slices_S2x2048x4184_S2x2048x6_0_0_4160⟩, ⟨S2x2048x6, extractStridedSlice S2x2048x6 ![0, 0, 4172] w slices_S2x2048x4184_S2x2048x6_0_0_4172⟩, ⟨S2x2048x116, broadcastInDim S2x2048x116 ![] bcast_S_S2x2048x116 (constant (F := Ideal) S_ .f32 0x00000000#32)⟩, ⟨S2x2048x6, extractStridedSlice S2x2048x6 ![0, 0, 4166] w slices_S2x2048x4184_S2x2048x6_0_0_4166⟩, ⟨S2x2048x6, extractStridedSlice S2x2048x6 ![0, 0, 4178] w slices_S2x2048x4184_S2x2048x6_0_0_4178⟩, ⟨S2x2048x116, broadcastInDim S2x2048x116 ![] bcast_S_S2x2048x116 (constant (F := Ideal) S_ .f32 0x00000000#32)⟩, ⟨S2x2048x2112, extractStridedSlice S2x2048x2112 ![0, 0, 0] w slices_S2x2048x4184_S2x2048x2112_0_0_0⟩, ⟨S2x2048x64, broadcastInDim S2x2048x64 ![] bcast_S_S2x2048x64 (constant (F := Ideal) S_ .f32 0x00000000#32)⟩]
    concatenates_S2x2048x384_S2x2048x128_S2x2048x128_S2x2048x384_S2x2048x128_S2x2048x128_S2x2048x768_S2x2048x6_S2x2048x6_S2x2048x116_S2x2048x6_S2x2048x6_S2x2048x116_S2x2048x2112_S2x2048x64_S2x2048x4480_d2

theorem V_w (c : Dev nD) (l : Fin 2) (d : Fin 2048) (k : Fin 4480) : V m c main_v16 (ix3 l d k) = packed (argW m c) (ix3 l d k) := by
  have h : V m c main_v16 = truncf (F := Ideal) (φ := .f32) .bf16 (packed (argW m c)) (by decide) := by
    show StableHlo.after hostOps0 _ (Proc.devRef .tc main_v16) = _
    after_results
    rfl
  rw [h]
  pointwise

theorem pk0 (w : Vec Ideal S2x2048x4184 .f32) (l : Fin 2) (d : Fin 2048) (k : Fin 384) :
    packed w (ix3 l d ⟨0 + k.val, by omega⟩) = w (ix3 l d ⟨2880 + k.val, by omega⟩) := by
  have hk := k.isLt
  pointwise [packed]
  repeat first | rw [dif_pos (by omega)] | rw [dif_neg (by omega)]
  all_goals exact congrArg (fun z => w (ix3 l d z)) (Fin.ext (by simp only []; omega))

theorem pk1 (w : Vec Ideal S2x2048x4184 .f32) (l : Fin 2) (d : Fin 2048) (k : Fin 128) :
    packed w (ix3 l d ⟨384 + k.val, by omega⟩) = w (ix3 l d ⟨3648 + k.val, by omega⟩) := by
  have hk := k.isLt
  pointwise [packed]
  repeat first | rw [dif_pos (by omega)] | rw [dif_neg (by omega)]
  all_goals exact congrArg (fun z => w (ix3 l d z)) (Fin.ext (by simp only []; omega))

theorem pk2 (w : Vec Ideal S2x2048x4184 .f32) (l : Fin 2) (d : Fin 2048) (k : Fin 128) :
    packed w (ix3 l d ⟨512 + k.val, by omega⟩) = w (ix3 l d ⟨3904 + k.val, by omega⟩) := by
  have hk := k.isLt
  pointwise [packed]
  repeat first | rw [dif_pos (by omega)] | rw [dif_neg (by omega)]
  all_goals exact congrArg (fun z => w (ix3 l d z)) (Fin.ext (by simp only []; omega))

theorem pk3 (w : Vec Ideal S2x2048x4184 .f32) (l : Fin 2) (d : Fin 2048) (k : Fin 384) :
    packed w (ix3 l d ⟨640 + k.val, by omega⟩) = w (ix3 l d ⟨3264 + k.val, by omega⟩) := by
  have hk := k.isLt
  pointwise [packed]
  repeat first | rw [dif_pos (by omega)] | rw [dif_neg (by omega)]
  all_goals exact congrArg (fun z => w (ix3 l d z)) (Fin.ext (by simp only []; omega))

theorem pk4 (w : Vec Ideal S2x2048x4184 .f32) (l : Fin 2) (d : Fin 2048) (k : Fin 128) :
    packed w (ix3 l d ⟨1024 + k.val, by omega⟩) = w (ix3 l d ⟨3776 + k.val, by omega⟩) := by
  have hk := k.isLt
  pointwise [packed]
  repeat first | rw [dif_pos (by omega)] | rw [dif_neg (by omega)]
  all_goals exact congrArg (fun z => w (ix3 l d z)) (Fin.ext (by simp only []; omega))

theorem pk5 (w : Vec Ideal S2x2048x4184 .f32) (l : Fin 2) (d : Fin 2048) (k : Fin 128) :
    packed w (ix3 l d ⟨1152 + k.val, by omega⟩) = w (ix3 l d ⟨4032 + k.val, by omega⟩) := by
  have hk := k.isLt
  pointwise [packed]
  repeat first | rw [dif_pos (by omega)] | rw [dif_neg (by omega)]
  all_goals exact congrArg (fun z => w (ix3 l d z)) (Fin.ext (by simp only []; omega))

theorem pk6 (w : Vec Ideal S2x2048x4184 .f32) (l : Fin 2) (d : Fin 2048) (k : Fin 768) :
    packed w (ix3 l d ⟨1280 + k.val, by omega⟩) = w (ix3 l d ⟨2112 + k.val, by omega⟩) := by
  have hk := k.isLt
  pointwise [packed]
  repeat first | rw [dif_pos (by omega)] | rw [dif_neg (by omega)]
  all_goals exact congrArg (fun z => w (ix3 l d z)) (Fin.ext (by simp only []; omega))

theorem pk7 (w : Vec Ideal S2x2048x4184 .f32) (l : Fin 2) (d : Fin 2048) (k : Fin 6) :
    packed w (ix3 l d ⟨2048 + k.val, by omega⟩) = w (ix3 l d ⟨4160 + k.val, by omega⟩) := by
  have hk := k.isLt
  pointwise [packed]
  repeat first | rw [dif_pos (by omega)] | rw [dif_neg (by omega)]
  all_goals exact congrArg (fun z => w (ix3 l d z)) (Fin.ext (by simp only []; omega))

theorem pk8 (w : Vec Ideal S2x2048x4184 .f32) (l : Fin 2) (d : Fin 2048) (k : Fin 6) :
    packed w (ix3 l d ⟨2054 + k.val, by omega⟩) = w (ix3 l d ⟨4172 + k.val, by omega⟩) := by
  have hk := k.isLt
  pointwise [packed]
  repeat first | rw [dif_pos (by omega)] | rw [dif_neg (by omega)]
  all_goals exact congrArg (fun z => w (ix3 l d z)) (Fin.ext (by simp only []; omega))

theorem pk9 (w : Vec Ideal S2x2048x4184 .f32) (l : Fin 2) (d : Fin 2048) (k : Fin 116) :
    packed w (ix3 l d ⟨2060 + k.val, by omega⟩) = 0 := by
  have hk := k.isLt
  pointwise [packed]
  repeat first | rw [dif_pos (by omega)] | rw [dif_neg (by omega)]
  all_goals exact Ideal.ofBits_zero_f32

theorem pk10 (w : Vec Ideal S2x2048x4184 .f32) (l : Fin 2) (d : Fin 2048) (k : Fin 6) :
    packed w (ix3 l d ⟨2176 + k.val, by omega⟩) = w (ix3 l d ⟨4166 + k.val, by omega⟩) := by
  have hk := k.isLt
  pointwise [packed]
  repeat first | rw [dif_pos (by omega)] | rw [dif_neg (by omega)]
  all_goals exact congrArg (fun z => w (ix3 l d z)) (Fin.ext (by simp only []; omega))

theorem pk11 (w : Vec Ideal S2x2048x4184 .f32) (l : Fin 2) (d : Fin 2048) (k : Fin 6) :
    packed w (ix3 l d ⟨2182 + k.val, by omega⟩) = w (ix3 l d ⟨4178 + k.val, by omega⟩) := by
  have hk := k.isLt
  pointwise [packed]
  repeat first | rw [dif_pos (by omega)] | rw [dif_neg (by omega)]
  all_goals exact congrArg (fun z => w (ix3 l d z)) (Fin.ext (by simp only []; omega))

theorem pk12 (w : Vec Ideal S2x2048x4184 .f32) (l : Fin 2) (d : Fin 2048) (k : Fin 116) :
    packed w (ix3 l d ⟨2188 + k.val, by omega⟩) = 0 := by
  have hk := k.isLt
  pointwise [packed]
  repeat first | rw [dif_pos (by omega)] | rw [dif_neg (by omega)]
  all_goals exact Ideal.ofBits_zero_f32

theorem pk13 (w : Vec Ideal S2x2048x4184 .f32) (l : Fin 2) (d : Fin 2048) (k : Fin 2112) :
    packed w (ix3 l d ⟨2304 + k.val, by omega⟩) = w (ix3 l d ⟨0 + k.val, by omega⟩) := by
  have hk := k.isLt
  pointwise [packed]
  repeat first | rw [dif_pos (by omega)] | rw [dif_neg (by omega)]
  all_goals exact congrArg (fun z => w (ix3 l d z)) (Fin.ext (by simp only []; omega))

/-- Packed column `a` is column `b`, -/
def Place (a b : ℕ) : Prop := (0 ≤ a ∧ a < 384 ∧ a + 2880 = b + 0) ∨ (384 ≤ a ∧ a < 512 ∧ a + 3648 = b + 384) ∨ (512 ≤ a ∧ a < 640 ∧ a + 3904 = b + 512) ∨ (640 ≤ a ∧ a < 1024 ∧ a + 3264 = b + 640) ∨ (1024 ≤ a ∧ a < 1152 ∧ a + 3776 = b + 1024) ∨ (1152 ≤ a ∧ a < 1280 ∧ a + 4032 = b + 1152) ∨ (1280 ≤ a ∧ a < 2048 ∧ a + 2112 = b + 1280) ∨ (2048 ≤ a ∧ a < 2054 ∧ a + 4160 = b + 2048) ∨ (2054 ≤ a ∧ a < 2060 ∧ a + 4172 = b + 2054) ∨ (2176 ≤ a ∧ a < 2182 ∧ a + 4166 = b + 2176) ∨ (2182 ≤ a ∧ a < 2188 ∧ a + 4178 = b + 2182) ∨ (2304 ≤ a ∧ a < 4416 ∧ a + 0 = b + 2304)

/-- or a column of zeros. -/
def Gap (a : ℕ) : Prop := (2060 ≤ a ∧ a < 2176) ∨ (2188 ≤ a ∧ a < 2304)

theorem packed_at (w : Vec Ideal S2x2048x4184 .f32) (l : Fin 2) (d : Fin 2048) (a : Fin 4480) (b : Fin 4184)
    (h : Place a.val b.val) : packed w (ix3 l d a) = w (ix3 l d b) := by
  rcases h with ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩
  · exact (congrArg (fun z => packed w (ix3 l d z)) (Fin.ext (by simp only []; omega))).trans
      ((pk0 w l d ⟨a.val - 0, by omega⟩).trans (congrArg (fun z => w (ix3 l d z)) (Fin.ext (by simp only []; omega))))
  · exact (congrArg (fun z => packed w (ix3 l d z)) (Fin.ext (by simp only []; omega))).trans
      ((pk1 w l d ⟨a.val - 384, by omega⟩).trans (congrArg (fun z => w (ix3 l d z)) (Fin.ext (by simp only []; omega))))
  · exact (congrArg (fun z => packed w (ix3 l d z)) (Fin.ext (by simp only []; omega))).trans
      ((pk2 w l d ⟨a.val - 512, by omega⟩).trans (congrArg (fun z => w (ix3 l d z)) (Fin.ext (by simp only []; omega))))
  · exact (congrArg (fun z => packed w (ix3 l d z)) (Fin.ext (by simp only []; omega))).trans
      ((pk3 w l d ⟨a.val - 640, by omega⟩).trans (congrArg (fun z => w (ix3 l d z)) (Fin.ext (by simp only []; omega))))
  · exact (congrArg (fun z => packed w (ix3 l d z)) (Fin.ext (by simp only []; omega))).trans
      ((pk4 w l d ⟨a.val - 1024, by omega⟩).trans (congrArg (fun z => w (ix3 l d z)) (Fin.ext (by simp only []; omega))))
  · exact (congrArg (fun z => packed w (ix3 l d z)) (Fin.ext (by simp only []; omega))).trans
      ((pk5 w l d ⟨a.val - 1152, by omega⟩).trans (congrArg (fun z => w (ix3 l d z)) (Fin.ext (by simp only []; omega))))
  · exact (congrArg (fun z => packed w (ix3 l d z)) (Fin.ext (by simp only []; omega))).trans
      ((pk6 w l d ⟨a.val - 1280, by omega⟩).trans (congrArg (fun z => w (ix3 l d z)) (Fin.ext (by simp only []; omega))))
  · exact (congrArg (fun z => packed w (ix3 l d z)) (Fin.ext (by simp only []; omega))).trans
      ((pk7 w l d ⟨a.val - 2048, by omega⟩).trans (congrArg (fun z => w (ix3 l d z)) (Fin.ext (by simp only []; omega))))
  · exact (congrArg (fun z => packed w (ix3 l d z)) (Fin.ext (by simp only []; omega))).trans
      ((pk8 w l d ⟨a.val - 2054, by omega⟩).trans (congrArg (fun z => w (ix3 l d z)) (Fin.ext (by simp only []; omega))))
  · exact (congrArg (fun z => packed w (ix3 l d z)) (Fin.ext (by simp only []; omega))).trans
      ((pk10 w l d ⟨a.val - 2176, by omega⟩).trans (congrArg (fun z => w (ix3 l d z)) (Fin.ext (by simp only []; omega))))
  · exact (congrArg (fun z => packed w (ix3 l d z)) (Fin.ext (by simp only []; omega))).trans
      ((pk11 w l d ⟨a.val - 2182, by omega⟩).trans (congrArg (fun z => w (ix3 l d z)) (Fin.ext (by simp only []; omega))))
  · exact (congrArg (fun z => packed w (ix3 l d z)) (Fin.ext (by simp only []; omega))).trans
      ((pk13 w l d ⟨a.val - 2304, by omega⟩).trans (congrArg (fun z => w (ix3 l d z)) (Fin.ext (by simp only []; omega))))

theorem packed_gap (w : Vec Ideal S2x2048x4184 .f32) (l : Fin 2) (d : Fin 2048) (a : Fin 4480) (h : Gap a.val) :
    packed w (ix3 l d a) = 0 := by
  rcases h with ⟨h1, h2⟩ | ⟨h1, h2⟩
  · exact (congrArg (fun z => packed w (ix3 l d z)) (Fin.ext (by simp only []; omega))).trans (pk9 w l d ⟨a.val - 2060, by omega⟩)
  · exact (congrArg (fun z => packed w (ix3 l d z)) (Fin.ext (by simp only []; omega))).trans (pk12 w l d ⟨a.val - 2188, by omega⟩)

end Cert.Proof.Prep

end
-- ==== Proof.PrepHost.lean ====
/- The host side arrays of the projections before the mixers. -/
module

public import proofs.«01_k».proof.Proof.PrepPack
public import Idealize.ShloMosaic.Lib.Pipeline.ValueKit.Point
public import Idealize.ShloMosaic.Lib.Pipeline.ValueKit.Tiles

@[expose] public section

set_option maxRecDepth 16384

noncomputable section

namespace Cert.Proof.Prep

open Cert.PrepIdeal Cert.PrepIdeal.Gen Cert.PrepIdeal.Value Idealize.ShloMosaic Idealize.ShloMosaic.TcCoe Idealize.SL.Sem

variable (m : (ℓ : Loc nD τ sig) → Buf (Elt Ideal) ℓ) (ρ : Dev nD → PrngReg)

theorem V_uq (c : Dev nD) (l : Fin 2) (e : Fin 512) (h : Fin 4) (k : Fin 192) :
    V m c main_v20 (ix3 l e ⟨h.val * 256 + k.val, by omega⟩) = argWq m c (ix3 l e ⟨h.val * 192 + k.val, by omega⟩) := by
  have hv : V m c main_v20 = truncf (F := Ideal) (φ := .f32) .bf16 (shapeCast (s := S2x512x4x256) S2x512x1024
      (pad S2x512x4x256 ![0, 0, 0, 0] ![0, 0, 0, 64] ![0, 0, 0, 0] (shapeCast (s := S2x512x768) S2x512x4x192 (argWq m c) (by decide))
        (constant (F := Ideal) S_ .f32 0x00000000#32)
        pads_S2x512x4x192_S2x512x4x256_000_000_000_0640 h_S_) (by decide)) (by decide) := by
    show StableHlo.after hostOps0 _ (Proc.devRef .tc main_v20) = _
    after_results
    exact congrArg (fun z => truncf (F := Ideal) (φ := .f32) .bf16 (s := S2x512x1024) z bitsLt_bf16_f32) rfl
  rw [hv]
  pointwise
  rw [dif_pos (by omega : (h.val * 256 + k.val) % 256 < 192)]
  exact congrArg (fun z => argWq m c (ix3 l e z)) (Fin.ext (by simp only []; omega))

theorem V_ukv (c : Dev nD) (l : Fin 2) (e : Fin 256) (p : Fin 2) (h : Fin 4) (k : Fin 128) :
    V m c main_v27 (ix3 l e ⟨p.val * 512 + (h.val * 128 + k.val), by omega⟩)
      = argWk m c (ix3 l e ⟨h.val * 256 + (p.val * 128 + k.val), by omega⟩) * argMk m c (ix2 l e) := by
  have hv : V m c main_v27 = truncf (F := Ideal) (φ := .f32) .bf16 (shapeCast (s := S2x256x2x4x128) S2x256x1024
      (transpose (s := S2x256x4x2x128) S2x256x2x4x128 [0, 1, 3, 2, 4] (shapeCast (s := S2x256x1024) S2x256x4x2x128
        (mulf (F := Ideal) (φ := .f32) (argWk m c) (broadcastInDim S2x256x1024 ![0, 1, 2] bcast_S2x256x1_S2x256x1024_0_1_2
          (broadcastInDim S2x256x1 ![0, 1] bcast_S2x256_S2x256x1_0_1 (argMk m c)))) (by decide)) (by decide)) (by decide)) (by decide) := by
    show StableHlo.after hostOps0 _ (Proc.devRef .tc main_v27) = _
    after_results
    exact congrArg (fun z => truncf (F := Ideal) (φ := .f32) .bf16 (s := S2x256x1024) z bitsLt_bf16_f32) rfl
  rw [hv]
  pointwise
  exact congrArg (fun z => argWk m c (ix3 l e z) * argMk m c (ix2 l e)) (Fin.ext (by simp only []; omega))

theorem V_cosa (c : Dev nD) (i : Fin 2048) (l : Fin 128) : V m c main_v59 (ix2 i l)
    = cosT (fun e => tabAr (ix2 i e)) (fun e => tabAc (ix2 i e)) l.val := by
  have hv : V m c main_v59 = concatenate S2048x128 1 [⟨S2048x32, tabAr⟩, ⟨S2048x32, tabAr⟩, ⟨S2048x32, tabAc⟩, ⟨S2048x32, tabAc⟩] concatenates_S2048x32_S2048x32_S2048x32_S2048x32_S2048x128_d1 := by
    show StableHlo.after hostOps0 _ (Proc.devRef .tc main_v59) = _
    after_results
    rfl
  have hl := l.isLt
  rw [hv]
  pointwise
  unfold cosT
  split_ifs <;> first | rfl | omega | rw [dif_pos (by omega)]

theorem V_sina (c : Dev nD) (i : Fin 2048) (l : Fin 128) : V m c main_v66 (ix2 i l)
    = sinT (fun e => tabAy (ix2 i e)) (fun e => tabAz (ix2 i e)) l.val := by
  have hv : V m c main_v66 = concatenate S2048x128 1 [⟨S2048x32, Host.negf (F := Ideal) (φ := .f32) tabAy⟩, ⟨S2048x32, tabAy⟩, ⟨S2048x32, Host.negf (F := Ideal) (φ := .f32) tabAz⟩, ⟨S2048x32, tabAz⟩] concatenates_S2048x32_S2048x32_S2048x32_S2048x32_S2048x128_d1 := by
    show StableHlo.after hostOps0 _ (Proc.devRef .tc main_v66) = _
    after_results
    rfl
  have hl := l.isLt
  rw [hv]
  pointwise
  unfold sinT
  split_ifs <;> first | rfl | omega | rw [dif_pos (by omega)]

theorem V_cosb (c : Dev nD) (i : Fin 2048) (l : Fin 128) : V m c main_v106 (ix2 i l)
    = cosT (fun e => tabBr (ix2 i e)) (fun e => tabBc (ix2 i e)) l.val := by
  have hv : V m c main_v106 = pad S2048x128 ![0, 0] ![0, 64] ![0, 0] (concatenate S2048x64 1 [⟨S2048x16, tabBr⟩, ⟨S2048x16, tabBr⟩, ⟨S2048x16, tabBc⟩, ⟨S2048x16, tabBc⟩] concatenates_S2048x16_S2048x16_S2048x16_S2048x16_S2048x64_d1) (constant (F := Ideal) S_ .f32 0x00000000#32) pads_S2048x64_S2048x128_000_0640 h_S_ := by
    show StableHlo.after hostOps0 _ (Proc.devRef .tc main_v106) = _
    after_results
    rfl
  have hl := l.isLt
  rw [hv]
  pointwise
  unfold cosT
  split_ifs <;> first | rfl | omega | rw [dif_pos (by omega)]

theorem V_sinb (c : Dev nD) (i : Fin 2048) (l : Fin 128) : V m c main_v107 (ix2 i l)
    = sinT (fun e => tabBs (ix2 i e)) (fun e => tabBz (ix2 i e)) l.val := by
  have hv : V m c main_v107 = pad S2048x128 ![0, 0] ![0, 64] ![0, 0] (concatenate S2048x64 1 [⟨S2048x16, Host.negf (F := Ideal) (φ := .f32) tabBs⟩, ⟨S2048x16, tabBs⟩, ⟨S2048x16, Host.negf (F := Ideal) (φ := .f32) tabBz⟩, ⟨S2048x16, tabBz⟩] concatenates_S2048x16_S2048x16_S2048x16_S2048x16_S2048x64_d1) (constant (F := Ideal) S_ .f32 0x00000000#32) pads_S2048x64_S2048x128_000_0640 h_S_ := by
    show StableHlo.after hostOps0 _ (Proc.devRef .tc main_v107) = _
    after_results
    rfl
  have hl := l.isLt
  rw [hv]
  pointwise
  unfold sinT
  split_ifs <;> first | rfl | omega | rw [dif_pos (by omega)]

theorem V_m (c : Dev nD) (l : Fin 2) (b : Fin 16) (r : Fin 6) (d : Fin 2048) :
    V m c main_v108 (ix4 l b r d) = argM m c (ix3 l b ⟨r.val * 2048 + d.val, by omega⟩) := by
  have h : V m c main_v108 = shapeCast (s := S2x16x12288) S2x16x6x2048 (argM m c) (by decide) := by
    show StableHlo.after hostOps0 _ (Proc.devRef .tc main_v108) = _
    after_results
    rfl
  rw [h]
  pointwise

theorem V_g (c : Dev nD) (l : Fin 2) (d : Fin 2048) : V m c main_v109 (ix3 l 0 d) = argG m c (ix2 l d) := by
  have h : V m c main_v109 = shapeCast (s := S2x2048) S2x1x2048 (argG m c) (by decide) := by
    show StableHlo.after hostOps0 _ (Proc.devRef .tc main_v109) = _
    after_results
    rfl
  rw [h]
  pointwise

theorem V_qg (c : Dev nD) (l : Fin 2) (d : Fin 128) : V m c main_v110 (ix3 l 0 d) = argQg m c (ix2 l d) := by
  have h : V m c main_v110 = shapeCast (s := S2x128) S2x1x128 (argQg m c) (by decide) := by
    show StableHlo.after hostOps0 _ (Proc.devRef .tc main_v110) = _
    after_results
    rfl
  rw [h]
  pointwise

theorem V_kg (c : Dev nD) (l : Fin 2) (d : Fin 128) : V m c main_v111 (ix3 l 0 d) = argKg m c (ix2 l d) := by
  have h : V m c main_v111 = shapeCast (s := S2x128) S2x1x128 (argKg m c) (by decide) := by
    show StableHlo.after hostOps0 _ (Proc.devRef .tc main_v111) = _
    after_results
    rfl
  rw [h]
  pointwise

theorem V_mq (c : Dev nD) (l : Fin 2) (d : Fin 512) : V m c main_v112 (ix3 l 0 d) = argMq m c (ix2 l d) := by
  have h : V m c main_v112 = shapeCast (s := S2x512) S2x1x512 (argMq m c) (by decide) := by
    show StableHlo.after hostOps0 _ (Proc.devRef .tc main_v112) = _
    after_results
    rfl
  rw [h]
  pointwise

end Cert.Proof.Prep

end
-- ==== Proof.PrepBlock.lean ====
/- The blocks of the projections before the mixers. -/
module

public import proofs.«01_k».proof.Proof.PrepHost
public import Idealize.ShloMosaic.Lib.Pipeline.ValueKit.Point
public import Idealize.ShloMosaic.Lib.Pipeline.ValueKit.Tiles

@[expose] public section

set_option maxRecDepth 16384

noncomputable section

namespace Cert.Proof.Prep

open Cert.PrepIdeal Cert.PrepIdeal.Gen Cert.PrepIdeal.Value Idealize.ShloMosaic Idealize.ShloMosaic.TcCoe Idealize.SL.Sem

variable (m : (ℓ : Loc nD τ sig) → Buf (Elt Ideal) ℓ) (ρ : Dev nD → PrngReg)

/-- Each window's block index at a grid point. -/
theorem idx0 : ∀ t : Fin cfg0.N, win0_0.index t = ![t.val / 4, t.val % 4, 0] := (by decide +kernel : ∀ t : Fin grid0.N, _)
theorem idx1 : ∀ t : Fin cfg0.N, win0_1.index t = ![1, t.val / 4, 0, 0] := (by decide +kernel : ∀ t : Fin grid0.N, _)
theorem idx2 : ∀ t : Fin cfg0.N, win0_2.index t = ![1, 0, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![1, 0, 0] := (by decide +kernel : ∀ t : Fin grid0.N, _)
theorem idx5 : ∀ t : Fin cfg0.N, win0_5.index t = ![1, 0, 0] := (by decide +kernel : ∀ t : Fin grid0.N, _)
theorem idx6 : ∀ t : Fin cfg0.N, win0_6.index t = ![t.val % 4, 0] := (by decide +kernel : ∀ t : Fin grid0.N, _)
theorem idx7 : ∀ t : Fin cfg0.N, win0_7.index t = ![t.val % 4, 0] := (by decide +kernel : ∀ t : Fin grid0.N, _)
theorem idx8 : ∀ t : Fin cfg0.N, win0_8.index t = ![1, 0, 0] := (by decide +kernel : ∀ t : Fin grid0.N, _)
theorem idx9 : ∀ t : Fin cfg0.N, win0_9.index t = ![1, 0, 0] := (by decide +kernel : ∀ t : Fin grid0.N, _)
theorem idx10 : ∀ t : Fin cfg0.N, win0_10.index t = ![1, 0, 0] := (by decide +kernel : ∀ t : Fin grid0.N, _)
theorem idx11 : ∀ t : Fin cfg0.N, win0_11.index t = ![t.val % 4, 0] := (by decide +kernel : ∀ t : Fin grid0.N, _)
theorem idx12 : ∀ t : Fin cfg0.N, win0_12.index t = ![t.val % 4, 0] := (by decide +kernel : ∀ t : Fin grid0.N, _)
theorem idx13 : ∀ t : Fin cfg0.N, win0_13.index t = ![t.val / 4, t.val % 4, 0] := (by decide +kernel : ∀ t : Fin grid0.N, _)
theorem idx14 : ∀ t : Fin cfg0.N, win0_14.index t = ![t.val / 4, t.val % 4, 0] := (by decide +kernel : ∀ t : Fin grid0.N, _)
theorem idx15 : ∀ t : Fin cfg0.N, win0_15.index t = ![t.val / 4, t.val % 4, 0] := (by decide +kernel : ∀ t : Fin grid0.N, _)
theorem idx16 : ∀ t : Fin cfg0.N, win0_16.index t = ![t.val / 4, 0, t.val % 4] := (by decide +kernel : ∀ t : Fin grid0.N, _)
theorem idx17 : ∀ t : Fin cfg0.N, win0_17.index t = ![t.val / 4, t.val % 4, 0] := (by decide +kernel : ∀ t : Fin grid0.N, _)
theorem idx18 : ∀ t : Fin cfg0.N, win0_18.index t = ![t.val / 4, 0, t.val % 4] := (by decide +kernel : ∀ t : Fin grid0.N, _)
theorem idx19 : ∀ t : Fin cfg0.N, win0_19.index t = ![t.val / 4, 0, t.val % 4] := (by decide +kernel : ∀ t : Fin grid0.N, _)
theorem idx20 : ∀ t : Fin cfg0.N, win0_20.index t = ![t.val / 4, t.val % 4, 0] := (by decide +kernel : ∀ t : Fin grid0.N, _)
theorem idx21 : ∀ t : Fin cfg0.N, win0_21.index t = ![t.val / 4, 0, t.val % 4] := (by decide +kernel : ∀ t : Fin grid0.N, _)

theorem covers13 : (cfg0.win 13).Covers := by decide +kernel
theorem covers14 : (cfg0.win 14).Covers := by decide +kernel
theorem covers15 : (cfg0.win 15).Covers := by decide +kernel
theorem covers16 : (cfg0.win 16).Covers := by decide +kernel
theorem covers17 : (cfg0.win 17).Covers := by decide +kernel
theorem covers18 : (cfg0.win 18).Covers := by decide +kernel
theorem covers19 : (cfg0.win 19).Covers := by decide +kernel
theorem covers20 : (cfg0.win 20).Covers := by decide +kernel
theorem covers21 : (cfg0.win 21).Covers := by decide +kernel

/-- The batch and the token of a grid point's row. -/
def bat (t : Fin cfg0.N) : Fin 16 := ⟨t.val / 4, by have : t.val < 64 := t.isLt; omega⟩
def tok (t : Fin cfg0.N) (q : Fin 512) : Fin 2048 := ⟨t.val % 4 * 512 + q.val, by omega⟩

/-! A window's block of an array. -/

theorem read0 (A : Vec Ideal S16x2048x2048 .f32) (t : Fin cfg0.N) (q : Fin 512) (d : Fin 2048) :
    ((cfg0.win 0).blk t).view.read (Elt Ideal) A (ix3 0 q d) = A (ix3 (bat t) (tok t q) d) := by
  show A ((win0_0.blk t).view.emb (ix3 0 q d)) = _
  rw [show (win0_0.blk t).view.emb (ix3 0 q d) = ix3 (bat t) (tok t q) d from by blk_ext [idx0 t, bat, tok]]

theorem read1 (A : Vec Ideal S2x16x6x2048 .f32) (t : Fin cfg0.N) (r : Fin 6) (d : Fin 2048) :
    ((cfg0.win 1).blk t).view.read (Elt Ideal) A (ix4 0 0 r d) = A (ix4 1 (bat t) r d) := by
  show A ((win0_1.blk t).view.emb (ix4 0 0 r d)) = _
  rw [show (win0_1.blk t).view.emb (ix4 0 0 r d) = ix4 1 (bat t) r d from by blk_ext [idx1 t, bat]]

theorem read2 (A : Vec Ideal S2x1x2048 .f32) (t : Fin cfg0.N) (d : Fin 2048) :
    ((cfg0.win 2).blk t).view.read (Elt Ideal) A (ix3 0 0 d) = A (ix3 1 0 d) := by
  show A ((win0_2.blk t).view.emb (ix3 0 0 d)) = _
  rw [show (win0_2.blk t).view.emb (ix3 0 0 d) = ix3 1 0 d from by blk_ext [idx2 t]]

theorem read4 (A : Vec Ideal S2x1x128 .f32) (t : Fin cfg0.N) (d : Fin 128) :
    ((cfg0.win 4).blk t).view.read (Elt Ideal) A (ix3 0 0 d) = A (ix3 1 0 d) := by
  show A ((win0_4.blk t).view.emb (ix3 0 0 d)) = _
  rw [show (win0_4.blk t).view.emb (ix3 0 0 d) = ix3 1 0 d from by blk_ext [idx4 t]]

theorem read5 (A : Vec Ideal S2x1x128 .f32) (t : Fin cfg0.N) (d : Fin 128) :
    ((cfg0.win 5).blk t).view.read (Elt Ideal) A (ix3 0 0 d) = A (ix3 1 0 d) := by
  show A ((win0_5.blk t).view.emb (ix3 0 0 d)) = _
  rw [show (win0_5.blk t).view.emb (ix3 0 0 d) = ix3 1 0 d from by blk_ext [idx5 t]]

theorem read8 (A : Vec Ideal S2x1x512 .f32) (t : Fin cfg0.N) (d : Fin 512) :
    ((cfg0.win 8).blk t).view.read (Elt Ideal) A (ix3 0 0 d) = A (ix3 1 0 d) := by
  show A ((win0_8.blk t).view.emb (ix3 0 0 d)) = _
  rw [show (win0_8.blk t).view.emb (ix3 0 0 d) = ix3 1 0 d from by blk_ext [idx8 t]]

theorem read3 (A : Vec Ideal S2x2048x4480 .bf16) (t : Fin cfg0.N) (e : Fin 2048) (d : Fin 4480) :
    ((cfg0.win 3).blk t).view.read (Elt Ideal) A (ix3 0 e d) = A (ix3 1 e d) := by
  show A ((win0_3.blk t).view.emb (ix3 0 e d)) = _
  rw [show (win0_3.blk t).view.emb (ix3 0 e d) = ix3 1 e d from by blk_ext [idx3 t]]

theorem read9 (A : Vec Ideal S2x512x1024 .bf16) (t : Fin cfg0.N) (e : Fin 512) (d : Fin 1024) :
    ((cfg0.win 9).blk t).view.read (Elt Ideal) A (ix3 0 e d) = A (ix3 1 e d) := by
  show A ((win0_9.blk t).view.emb (ix3 0 e d)) = _
  rw [show (win0_9.blk t).view.emb (ix3 0 e d) = ix3 1 e d from by blk_ext [idx9 t]]

theorem read10 (A : Vec Ideal S2x256x1024 .bf16) (t : Fin cfg0.N) (e : Fin 256) (d : Fin 1024) :
    ((cfg0.win 10).blk t).view.read (Elt Ideal) A (ix3 0 e d) = A (ix3 1 e d) := by
  show A ((win0_10.blk t).view.emb (ix3 0 e d)) = _
  rw [show (win0_10.blk t).view.emb (ix3 0 e d) = ix3 1 e d from by blk_ext [idx10 t]]

theorem read6 (A : Vec Ideal S2048x128 .f32) (t : Fin cfg0.N) (q : Fin 512) (d : Fin 128) :
    ((cfg0.win 6).blk t).view.read (Elt Ideal) A (ix2 q d) = A (ix2 (tok t q) d) := by
  show A ((win0_6.blk t).view.emb (ix2 q d)) = _
  rw [show (win0_6.blk t).view.emb (ix2 q d) = ix2 (tok t q) d from by blk_ext [idx6 t, tok]]

theorem read7 (A : Vec Ideal S2048x128 .f32) (t : Fin cfg0.N) (q : Fin 512) (d : Fin 128) :
    ((cfg0.win 7).blk t).view.read (Elt Ideal) A (ix2 q d) = A (ix2 (tok t q) d) := by
  show A ((win0_7.blk t).view.emb (ix2 q d)) = _
  rw [show (win0_7.blk t).view.emb (ix2 q d) = ix2 (tok t q) d from by blk_ext [idx7 t, tok]]

theorem read11 (A : Vec Ideal S2048x128 .f32) (t : Fin cfg0.N) (q : Fin 512) (d : Fin 128) :
    ((cfg0.win 11).blk t).view.read (Elt Ideal) A (ix2 q d) = A (ix2 (tok t q) d) := by
  show A ((win0_11.blk t).view.emb (ix2 q d)) = _
  rw [show (win0_11.blk t).view.emb (ix2 q d) = ix2 (tok t q) d from by blk_ext [idx11 t, tok]]

theorem read12 (A : Vec Ideal S2048x128 .f32) (t : Fin cfg0.N) (q : Fin 512) (d : Fin 128) :
    ((cfg0.win 12).blk t).view.read (Elt Ideal) A (ix2 q d) = A (ix2 (tok t q) d) := by
  show A ((win0_12.blk t).view.emb (ix2 q d)) = _
  rw [show (win0_12.blk t).view.emb (ix2 q d) = ix2 (tok t q) d from by blk_ext [idx12 t, tok]]

theorem b0 (c : Dev nD) (t : Fin cfg0.N) (q : Fin 512) (d : Fin 2048) :
    iblk m c 0 t (ix3 0 q d) = argX m c (ix3 (bat t) (tok t q) d) := by
  unfold iblk
  exact (read0 (V m c main_arg0) t _ _).trans rfl

theorem b1 (c : Dev nD) (t : Fin cfg0.N) (r : Fin 6) (d : Fin 2048) :
    iblk m c 1 t (ix4 0 0 r d) = argM m c (ix3 1 (bat t) ⟨r.val * 2048 + d.val, by omega⟩) := by
  unfold iblk
  exact (read1 (V m c main_v108) t _ _).trans (V_m m c _ _ _ _)

theorem b2 (c : Dev nD) (t : Fin cfg0.N) (d : Fin 2048) :
    iblk m c 2 t (ix3 0 0 d) = argG m c (ix2 1 d) := by
  unfold iblk
  exact (read2 (V m c main_v109) t _).trans (V_g m c _ _)

theorem b4 (c : Dev nD) (t : Fin cfg0.N) (d : Fin 128) :
    iblk m c 4 t (ix3 0 0 d) = argQg m c (ix2 1 d) := by
  unfold iblk
  exact (read4 (V m c main_v110) t _).trans (V_qg m c _ _)

theorem b5 (c : Dev nD) (t : Fin cfg0.N) (d : Fin 128) :
    iblk m c 5 t (ix3 0 0 d) = argKg m c (ix2 1 d) := by
  unfold iblk
  exact (read5 (V m c main_v111) t _).trans (V_kg m c _ _)

theorem b8 (c : Dev nD) (t : Fin cfg0.N) (d : Fin 512) :
    iblk m c 8 t (ix3 0 0 d) = argMq m c (ix2 1 d) := by
  unfold iblk
  exact (read8 (V m c main_v112) t _).trans (V_mq m c _ _)

theorem b3 (c : Dev nD) (t : Fin cfg0.N) (e : Fin 2048) (d : Fin 4480) :
    iblk m c 3 t (ix3 0 e d) = packed (argW m c) (ix3 1 e d) := by
  unfold iblk
  exact (read3 (V m c main_v16) t _ _).trans (V_w m c _ _ _)

theorem b9 (c : Dev nD) (t : Fin cfg0.N) (e : Fin 512) (h : Fin 4) (k : Fin 192) :
    iblk m c 9 t (ix3 0 e ⟨h.val * 256 + k.val, by omega⟩) = argWq m c (ix3 1 e ⟨h.val * 192 + k.val, by omega⟩) := by
  unfold iblk
  exact (read9 (V m c main_v20) t _ _).trans (V_uq m c _ _ _ _)

theorem b10 (c : Dev nD) (t : Fin cfg0.N) (e : Fin 256) (p : Fin 2) (h : Fin 4) (k : Fin 128) :
    iblk m c 10 t (ix3 0 e ⟨p.val * 512 + (h.val * 128 + k.val), by omega⟩) = argWk m c (ix3 1 e ⟨h.val * 256 + (p.val * 128 + k.val), by omega⟩) * argMk m c (ix2 1 e) := by
  unfold iblk
  exact (read10 (V m c main_v27) t _ _).trans (V_ukv m c _ _ _ _ _)

theorem b6 (c : Dev nD) (t : Fin cfg0.N) (q : Fin 512) (l : Fin 128) :
    iblk m c 6 t (ix2 q l) = cosT (fun e => tabAr (ix2 (tok t q) e)) (fun e => tabAc (ix2 (tok t q) e)) l.val := by
  unfold iblk
  exact (read6 (V m c main_v59) t _ _).trans (V_cosa m c _ _)

theorem b7 (c : Dev nD) (t : Fin cfg0.N) (q : Fin 512) (l : Fin 128) :
    iblk m c 7 t (ix2 q l) = sinT (fun e => tabAy (ix2 (tok t q) e)) (fun e => tabAz (ix2 (tok t q) e)) l.val := by
  unfold iblk
  exact (read7 (V m c main_v66) t _ _).trans (V_sina m c _ _)

theorem b11 (c : Dev nD) (t : Fin cfg0.N) (q : Fin 512) (l : Fin 128) :
    iblk m c 11 t (ix2 q l) = cosT (fun e => tabBr (ix2 (tok t q) e)) (fun e => tabBc (ix2 (tok t q) e)) l.val := by
  unfold iblk
  exact (read11 (V m c main_v106) t _ _).trans (V_cosb m c _ _)

theorem b12 (c : Dev nD) (t : Fin cfg0.N) (q : Fin 512) (l : Fin 128) :
    iblk m c 12 t (ix2 q l) = sinT (fun e => tabBs (ix2 (tok t q) e)) (fun e => tabBz (ix2 (tok t q) e)) l.val := by
  unfold iblk
  exact (read12 (V m c main_v107) t _ _).trans (V_sinb m c _ _)

/-! A block's row, at its batch and token. -/

theorem hidB_eq (c : Dev nD) (t : Fin cfg0.N) (r : Fin 512) (d : Fin 2048) :
    hidB (iblk m c 0 t) (iblk m c 1 t) (iblk m c 2 t) r d = hid (argX m c) (argM m c) (argG m c) (bat t) (tok t r) d := by
  simp only [hidB, b0, b1, b2]
  unfold hid
  have e1 : (⟨(1 : Fin 6).val * 2048 + d.val, by omega⟩ : Fin 12288) = ⟨2048 + d.val, by omega⟩ := Fin.ext (by simp)
  have e0 : (⟨(0 : Fin 6).val * 2048 + d.val, by omega⟩ : Fin 12288) = ⟨d.val, by omega⟩ := Fin.ext (by simp)
  rw [e0, e1]

theorem prj_at (c : Dev nD) (t : Fin cfg0.N) (r : Fin 512) (a : Fin 4480) (b : Fin 4184) (h : Place a.val b.val) :
    prjB (iblk m c 0 t) (iblk m c 1 t) (iblk m c 2 t) (iblk m c 3 t) r a = proj (argX m c) (argM m c) (argG m c) (argW m c) (bat t) (tok t r) b := by
  unfold prjB proj
  refine Finset.sum_congr rfl fun d _ => ?_
  rw [hidB_eq, b3, packed_at _ _ _ _ _ h]

theorem prj_gap (c : Dev nD) (t : Fin cfg0.N) (r : Fin 512) (a : Fin 4480) (h : Gap a.val) : prjB (iblk m c 0 t) (iblk m c 1 t) (iblk m c 2 t) (iblk m c 3 t) r a = 0 := by
  unfold prjB
  refine Finset.sum_eq_zero fun d _ => ?_
  rw [b3, packed_gap _ _ _ _ h, mul_zero]

theorem qbB_eq (c : Dev nD) (t : Fin cfg0.N) (r : Fin 512) (h : Fin 4) (k : Fin 192) :
    qbB (iblk m c 0 t) (iblk m c 1 t) (iblk m c 2 t) (iblk m c 3 t) (iblk m c 8 t) (iblk m c 9 t) r ⟨h.val * 256 + k.val, by omega⟩
      = qb (argX m c) (argM m c) (argG m c) (argW m c) (argMq m c) (argWq m c) (bat t) (tok t r) ⟨h.val * 192 + k.val, by omega⟩ := by
  unfold qbB qb
  refine Finset.sum_congr rfl fun e _ => ?_
  rw [b9]
  refine congrArg (· * _) ?_
  refine congr (congr (congrArg (nrm 0x44000000#32) (funext fun e => ?_)) (funext fun e => b8 m c t e)) rfl
  exact prj_at m c t r _ _ (by unfold Place; simp only []; omega)

theorem kvB_eq (c : Dev nD) (t : Fin cfg0.N) (r : Fin 512) (p : Fin 2) (h : Fin 4) (k : Fin 128) :
    kvB (iblk m c 0 t) (iblk m c 1 t) (iblk m c 2 t) (iblk m c 3 t) (iblk m c 10 t) r ⟨p.val * 512 + (h.val * 128 + k.val), by omega⟩
      = kv (argX m c) (argM m c) (argG m c) (argW m c) (argMk m c) (argWk m c) (bat t) (tok t r) ⟨h.val * 256 + (p.val * 128 + k.val), by omega⟩ := by
  have hp : ∀ e : Fin 256, prjB (iblk m c 0 t) (iblk m c 1 t) (iblk m c 2 t) (iblk m c 3 t) r ⟨4096 + e.val, by omega⟩ = proj (argX m c) (argM m c) (argG m c) (argW m c) (bat t) (tok t r) ⟨1792 + e.val, by omega⟩ :=
    fun e => prj_at m c t r _ _ (by unfold Place; simp only []; omega)
  unfold kvB kv nrm
  simp only [hp]
  refine Finset.sum_congr rfl fun e _ => ?_
  rw [b10, mul_assoc, mul_assoc, mul_assoc, mul_comm (argWk m c _)]

end Cert.Proof.Prep

end
-- ==== Proof.PrepStore.lean ====
/- Each store of the projections before the mixers. -/
module

public import proofs.«01_k».proof.Proof.PrepBlock
public import Idealize.ShloMosaic.Lib.Pipeline.ValueKit.Point
public import Idealize.ShloMosaic.Lib.Pipeline.ValueKit.Tiles

@[expose] public section

set_option maxRecDepth 16384

noncomputable section

namespace Cert.Proof.Prep

open Cert.PrepIdeal Cert.PrepIdeal.Gen Cert.PrepIdeal.Value Idealize.ShloMosaic Idealize.ShloMosaic.TcCoe Idealize.SL.Sem

variable (m : (ℓ : Loc nD τ sig) → Buf (Elt Ideal) ℓ) (ρ : Dev nD → PrngReg)

theorem pl13a (l : ℕ) (hl : l < 1280) (h1 : l % 640 < 384) : Place (0 + l) (2880 + (l / 640 * 384 + l % 640)) := by
  rcases (by omega : l / 640 = 0 ∨ l / 640 = 1) with hq | hq <;> rw [hq] <;> unfold Place <;>
    first | (left; omega) | (right; left; omega) | (right; right; left; omega) | (right; right; right; left; omega) | (right; right; right; right; left; omega) | (right; right; right; right; right; left; omega) | (right; right; right; right; right; right; left; omega) | (right; right; right; right; right; right; right; left; omega) | (right; right; right; right; right; right; right; right; left; omega) | (right; right; right; right; right; right; right; right; right; left; omega) | (right; right; right; right; right; right; right; right; right; right; left; omega) | (right; right; right; right; right; right; right; right; right; right; right; omega)

theorem pl13b (l : ℕ) (hl : l < 1280) (h1 : 384 ≤ l % 640 ∧ l % 640 - 384 < 128) : Place (0 + l) (2880 + (768 + (l / 640 * 128 + (l % 640 - 384)))) := by
  rcases (by omega : l / 640 = 0 ∨ l / 640 = 1) with hq | hq <;> rw [hq] <;> unfold Place <;>
    first | (left; omega) | (right; left; omega) | (right; right; left; omega) | (right; right; right; left; omega) | (right; right; right; right; left; omega) | (right; right; right; right; right; left; omega) | (right; right; right; right; right; right; left; omega) | (right; right; right; right; right; right; right; left; omega) | (right; right; right; right; right; right; right; right; left; omega) | (right; right; right; right; right; right; right; right; right; left; omega) | (right; right; right; right; right; right; right; right; right; right; left; omega) | (right; right; right; right; right; right; right; right; right; right; right; omega)

theorem pl13c (l : ℕ) (hl : l < 1280) (h1 : 512 ≤ l % 640) : Place (0 + l) (2880 + (1024 + (l / 640 * 128 + (l % 640 - 384 - 128)))) := by
  rcases (by omega : l / 640 = 0 ∨ l / 640 = 1) with hq | hq <;> rw [hq] <;> unfold Place <;>
    first | (left; omega) | (right; left; omega) | (right; right; left; omega) | (right; right; right; left; omega) | (right; right; right; right; left; omega) | (right; right; right; right; right; left; omega) | (right; right; right; right; right; right; left; omega) | (right; right; right; right; right; right; right; left; omega) | (right; right; right; right; right; right; right; right; left; omega) | (right; right; right; right; right; right; right; right; right; left; omega) | (right; right; right; right; right; right; right; right; right; right; left; omega) | (right; right; right; right; right; right; right; right; right; right; right; omega)

theorem pl15a (l : ℕ) (hl : l < 256) (h1 : l % 128 < 6) : Place (2048 + l) (4160 + (l / 128 * 6 + l % 128)) := by
  rcases (by omega : l / 128 = 0 ∨ l / 128 = 1) with hq | hq <;> rw [hq] <;> unfold Place <;>
    first | (left; omega) | (right; left; omega) | (right; right; left; omega) | (right; right; right; left; omega) | (right; right; right; right; left; omega) | (right; right; right; right; right; left; omega) | (right; right; right; right; right; right; left; omega) | (right; right; right; right; right; right; right; left; omega) | (right; right; right; right; right; right; right; right; left; omega) | (right; right; right; right; right; right; right; right; right; left; omega) | (right; right; right; right; right; right; right; right; right; right; left; omega) | (right; right; right; right; right; right; right; right; right; right; right; omega)

theorem pl15b (l : ℕ) (hl : l < 256) (h1 : 6 ≤ l % 128 ∧ l % 128 - 6 < 6) : Place (2048 + l) (4160 + (12 + (l / 128 * 6 + (l % 128 - 6)))) := by
  rcases (by omega : l / 128 = 0 ∨ l / 128 = 1) with hq | hq <;> rw [hq] <;> unfold Place <;>
    first | (left; omega) | (right; left; omega) | (right; right; left; omega) | (right; right; right; left; omega) | (right; right; right; right; left; omega) | (right; right; right; right; right; left; omega) | (right; right; right; right; right; right; left; omega) | (right; right; right; right; right; right; right; left; omega) | (right; right; right; right; right; right; right; right; left; omega) | (right; right; right; right; right; right; right; right; right; left; omega) | (right; right; right; right; right; right; right; right; right; right; left; omega) | (right; right; right; right; right; right; right; right; right; right; right; omega)

theorem st13 (c : Dev nD) (t : Fin cfg0.N) (r : Fin 512) (l : Fin 1280) :
    prjB (iblk m c 0 t) (iblk m c 1 t) (iblk m c 2 t) (iblk m c 3 t) r ⟨0 + l.val, by omega⟩ = res0 (argX m c) (argM m c) (argG m c) (argW m c) (ix3 (bat t) (tok t r) l) := by
  have hl := l.isLt
  show _ = ssx (argX m c) (argM m c) (argG m c) (argW m c) (bat t) (tok t r) ⟨l.val / 640, by omega⟩ ⟨l.val % 640, by omega⟩
  unfold ssx
  by_cases h1 : l.val % 640 < 384
  · rw [dif_pos h1]
    exact prj_at m c t r _ _ (pl13a l.val hl h1)
  by_cases h2 : l.val % 640 - 384 < 128
  · rw [dif_neg h1, dif_pos h2]
    exact prj_at m c t r _ _ (pl13b l.val hl ⟨by omega, h2⟩)
  · rw [dif_neg h1, dif_neg h2]
    exact prj_at m c t r _ _ (pl13c l.val hl (by omega))

theorem st14 (c : Dev nD) (t : Fin cfg0.N) (r : Fin 512) (l : Fin 768) :
    prjB (iblk m c 0 t) (iblk m c 1 t) (iblk m c 2 t) (iblk m c 3 t) r ⟨1280 + l.val, by omega⟩ = res1 (argX m c) (argM m c) (argG m c) (argW m c) (ix3 (bat t) (tok t r) l) :=
  prj_at m c t r _ ⟨2112 + l.val, by omega⟩ (by unfold Place; simp only []; omega)

theorem st15 (c : Dev nD) (t : Fin cfg0.N) (r : Fin 512) (l : Fin 256) :
    prjB (iblk m c 0 t) (iblk m c 1 t) (iblk m c 2 t) (iblk m c 3 t) r ⟨2048 + l.val, by omega⟩ = res2 (argX m c) (argM m c) (argG m c) (argW m c) (ix3 (bat t) (tok t r) l) := by
  have hl := l.isLt
  show _ = sst (argX m c) (argM m c) (argG m c) (argW m c) (bat t) (tok t r) ⟨l.val / 128, by omega⟩ ⟨l.val % 128, by omega⟩
  unfold sst
  by_cases h1 : l.val % 128 < 6
  · rw [dif_pos h1]
    exact prj_at m c t r _ _ (pl15a l.val hl h1)
  by_cases h2 : l.val % 128 - 6 < 6
  · rw [dif_neg h1, dif_pos h2]
    exact prj_at m c t r _ _ (pl15b l.val hl ⟨by omega, h2⟩)
  · rw [dif_neg h1, dif_neg h2]
    exact prj_gap m c t r _ (by unfold Gap; simp only []; omega)

theorem st16 (c : Dev nD) (t : Fin cfg0.N) (n : ℕ) (hn : n < 6) (o p : ℕ) (ho : o = 2304 + 128 * n) (hp : p = 128 * n) (r : Fin 512) (l : Fin 128) :
    turn 32 96 (fun l => nrm 0x43000000#32 (fun e : Fin 128 => prjB (iblk m c 0 t) (iblk m c 1 t) (iblk m c 2 t) (iblk m c 3 t) r ⟨o + e.val, by omega⟩) (fun e => iblk m c 4 t (ix3 0 0 e)) l)
      (iblk m c 6 t (ix2 r l)) (iblk m c 7 t (ix2 r l)) l = res3 (argX m c) (argM m c) (argG m c) (argW m c) (argQg m c) tabAr tabAy tabAc tabAz (ix3 (bat t) ⟨p + l.val, by omega⟩ (tok t r)) := by
  rw [b6, b7, turn_rot32]
  show _ = qa (argX m c) (argM m c) (argG m c) (argW m c) (argQg m c) tabAr tabAy tabAc tabAz (bat t) (tok t r) ⟨(p + l.val) / 128, by omega⟩ ⟨(p + l.val) % 128, by omega⟩
  rw [show (⟨(p + l.val) / 128, by omega⟩ : Fin 6) = ⟨n, hn⟩ from Fin.ext (by simp only []; omega),
    show (⟨(p + l.val) % 128, by omega⟩ : Fin 128) = l from Fin.ext (by simp only []; omega)]
  unfold qa
  refine congrArg (fun z => rot 32 rfl z _ _ _ _ l) (funext fun l => ?_)
  refine congrFun (congr (congrArg (nrm 0x43000000#32) (funext fun e => ?_)) (funext fun e => b4 m c t e)) l
  exact prj_at m c t r _ _ (by unfold Place; simp only []; omega)

theorem st17 (c : Dev nD) (t : Fin cfg0.N) (n : ℕ) (hn : n < 2) (o p : ℕ) (ho : o = 3072 + 128 * n) (hp : p = 128 * n) (r : Fin 512) (l : Fin 128) :
    turn 32 96 (fun l => nrm 0x43000000#32 (fun e : Fin 128 => prjB (iblk m c 0 t) (iblk m c 1 t) (iblk m c 2 t) (iblk m c 3 t) r ⟨o + e.val, by omega⟩) (fun e => iblk m c 5 t (ix3 0 0 e)) l)
      (iblk m c 6 t (ix2 r l)) (iblk m c 7 t (ix2 r l)) l = res4 (argX m c) (argM m c) (argG m c) (argW m c) (argKg m c) tabAr tabAy tabAc tabAz (ix3 (bat t) (tok t r) ⟨p + l.val, by omega⟩) := by
  rw [b6, b7, turn_rot32]
  show _ = ka (argX m c) (argM m c) (argG m c) (argW m c) (argKg m c) tabAr tabAy tabAc tabAz (bat t) (tok t r) ⟨(p + l.val) / 128, by omega⟩ ⟨(p + l.val) % 128, by omega⟩
  rw [show (⟨(p + l.val) / 128, by omega⟩ : Fin 2) = ⟨n, hn⟩ from Fin.ext (by simp only []; omega),
    show (⟨(p + l.val) % 128, by omega⟩ : Fin 128) = l from Fin.ext (by simp only []; omega)]
  unfold ka
  refine congrArg (fun z => rot 32 rfl z _ _ _ _ l) (funext fun l => ?_)
  refine congrFun (congr (congrArg (nrm 0x43000000#32) (funext fun e => ?_)) (funext fun e => b5 m c t e)) l
  exact prj_at m c t r _ _ (by unfold Place; simp only []; omega)

theorem st18 (c : Dev nD) (t : Fin cfg0.N) (n : ℕ) (hn : n < 2) (o p : ℕ) (ho : o = 3328 + 128 * n) (hp : p = 128 * n) (r : Fin 512) (l : Fin 128) :
    prjB (iblk m c 0 t) (iblk m c 1 t) (iblk m c 2 t) (iblk m c 3 t) r ⟨o + l.val, by omega⟩ = res5 (argX m c) (argM m c) (argG m c) (argW m c) (ix3 (bat t) ⟨p + l.val, by omega⟩ (tok t r)) :=
  prj_at m c t r _ ⟨1024 + (p + l.val), by omega⟩ (by unfold Place; simp only []; omega)

theorem st19e (c : Dev nD) (t : Fin cfg0.N) (n : ℕ) (hn : n < 4) (o : ℕ) (ho : o = 256 * n) (r : Fin 512) (l : Fin 128) :
    qbB (iblk m c 0 t) (iblk m c 1 t) (iblk m c 2 t) (iblk m c 3 t) (iblk m c 8 t) (iblk m c 9 t) r ⟨o + l.val, by omega⟩ = res6 (argX m c) (argM m c) (argG m c) (argW m c) (argMq m c) (argWq m c) tabBr tabBs tabBc tabBz (ix3 (bat t) ⟨o + l.val, by omega⟩ (tok t r)) := by
  show _ = qbh (argX m c) (argM m c) (argG m c) (argW m c) (argMq m c) (argWq m c) tabBr tabBs tabBc tabBz (bat t) (tok t r) ⟨(o + l.val) / 256, by omega⟩ ⟨(o + l.val) % 256, by omega⟩
  unfold qbh
  rw [dif_pos (by simp only []; omega : (⟨(o + l.val) % 256, by omega⟩ : Fin 256).val < 128)]
  refine ((congrArg _ (Fin.ext (by simp only []; omega))).trans (qbB_eq m c t r ⟨n, hn⟩ ⟨l.val, by omega⟩)).trans ?_
  exact congrArg _ (Fin.ext (by simp only []; omega))

theorem st19o (c : Dev nD) (t : Fin cfg0.N) (n : ℕ) (hn : n < 4) (o : ℕ) (ho : o = 256 * n + 128) (r : Fin 512) (l : Fin 128) :
    turn 16 112 (fun l => qbB (iblk m c 0 t) (iblk m c 1 t) (iblk m c 2 t) (iblk m c 3 t) (iblk m c 8 t) (iblk m c 9 t) r ⟨o + l.val, by omega⟩)
      (iblk m c 11 t (ix2 r l)) (iblk m c 12 t (ix2 r l)) l = res6 (argX m c) (argM m c) (argG m c) (argW m c) (argMq m c) (argWq m c) tabBr tabBs tabBc tabBz (ix3 (bat t) ⟨o + l.val, by omega⟩ (tok t r)) := by
  show _ = qbh (argX m c) (argM m c) (argG m c) (argW m c) (argMq m c) (argWq m c) tabBr tabBs tabBc tabBz (bat t) (tok t r) ⟨(o + l.val) / 256, by omega⟩ ⟨(o + l.val) % 256, by omega⟩
  unfold qbh
  rw [b11, b12, dif_neg (by simp only []; omega : ¬ (⟨(o + l.val) % 256, by omega⟩ : Fin 256).val < 128)]
  by_cases h : l.val < 64
  · rw [dif_pos (by simp only []; omega : (⟨(o + l.val) % 256, by omega⟩ : Fin 256).val - 128 < 64),
      show (⟨(o + l.val) / 256, by omega⟩ : Fin 4) = ⟨n, hn⟩ from Fin.ext (by simp only []; omega),
      show (⟨(⟨(o + l.val) % 256, by omega⟩ : Fin 256).val - 128, by simp only []; omega⟩ : Fin 64) = ⟨l.val, h⟩ from Fin.ext (by simp only []; omega)]
    refine (turn_rot16 _ _ _ _ _ ⟨l.val, h⟩).trans ?_
    unfold qpe
    refine congrArg (fun z => rot 16 rfl z _ _ _ _ ⟨l.val, h⟩) (funext fun e => ?_)
    exact (congrArg _ (Fin.ext (by simp only []; omega))).trans (qbB_eq m c t r ⟨n, hn⟩ ⟨128 + e.val, by omega⟩)
  · rw [dif_neg (by simp only []; omega : ¬ (⟨(o + l.val) % 256, by omega⟩ : Fin 256).val - 128 < 64)]
    exact turn_zero16 _ _ _ _ _ l (by omega)

theorem st20e (c : Dev nD) (t : Fin cfg0.N) (n : ℕ) (hn : n < 4) (o p : ℕ) (ho : o = 128 * n) (hp : p = 256 * n) (r : Fin 512) (l : Fin 128) :
    kvB (iblk m c 0 t) (iblk m c 1 t) (iblk m c 2 t) (iblk m c 3 t) (iblk m c 10 t) r ⟨o + l.val, by omega⟩ = res7 (argX m c) (argM m c) (argG m c) (argW m c) (argMk m c) (argWk m c) tabBr tabBs tabBc tabBz (ix3 (bat t) (tok t r) ⟨p + l.val, by omega⟩) := by
  show _ = kbh (argX m c) (argM m c) (argG m c) (argW m c) (argMk m c) (argWk m c) tabBr tabBs tabBc tabBz (bat t) (tok t r) ⟨(p + l.val) / 256, by omega⟩ ⟨(p + l.val) % 256, by omega⟩
  unfold kbh
  rw [dif_pos (by simp only []; omega : (⟨(p + l.val) % 256, by omega⟩ : Fin 256).val < 128)]
  refine ((congrArg _ (Fin.ext (by simp only [Fin.val_zero]; omega))).trans (kvB_eq m c t r 0 ⟨n, hn⟩ l)).trans ?_
  exact congrArg _ (Fin.ext (by simp only [Fin.val_zero]; omega))

theorem st20o (c : Dev nD) (t : Fin cfg0.N) (n : ℕ) (hn : n < 4) (p : ℕ) (hp : p = 256 * n + 128) (r : Fin 512) (l : Fin 128) :
    turn 16 112 (fun l => prjB (iblk m c 0 t) (iblk m c 1 t) (iblk m c 2 t) (iblk m c 3 t) r ⟨4352 + l.val, by omega⟩)
      (iblk m c 11 t (ix2 r l)) (iblk m c 12 t (ix2 r l)) l = res7 (argX m c) (argM m c) (argG m c) (argW m c) (argMk m c) (argWk m c) tabBr tabBs tabBc tabBz (ix3 (bat t) (tok t r) ⟨p + l.val, by omega⟩) := by
  show _ = kbh (argX m c) (argM m c) (argG m c) (argW m c) (argMk m c) (argWk m c) tabBr tabBs tabBc tabBz (bat t) (tok t r) ⟨(p + l.val) / 256, by omega⟩ ⟨(p + l.val) % 256, by omega⟩
  unfold kbh
  rw [b11, b12, dif_neg (by simp only []; omega : ¬ (⟨(p + l.val) % 256, by omega⟩ : Fin 256).val < 128)]
  by_cases h : l.val < 64
  · rw [dif_pos (by simp only []; omega : (⟨(p + l.val) % 256, by omega⟩ : Fin 256).val - 128 < 64),
      show (⟨(⟨(p + l.val) % 256, by omega⟩ : Fin 256).val - 128, by simp only []; omega⟩ : Fin 64) = ⟨l.val, h⟩ from Fin.ext (by simp only []; omega)]
    refine (turn_rot16 _ _ _ _ _ ⟨l.val, h⟩).trans ?_
    unfold kpe
    refine congrArg (fun z => rot 16 rfl z _ _ _ _ ⟨l.val, h⟩) (funext fun e => ?_)
    exact prj_at m c t r _ _ (by unfold Place; simp only []; omega)
  · rw [dif_neg (by simp only []; omega : ¬ (⟨(p + l.val) % 256, by omega⟩ : Fin 256).val - 128 < 64)]
    exact turn_zero16 _ _ _ _ _ l (by omega)

theorem st21 (c : Dev nD) (t : Fin cfg0.N) (n : ℕ) (hn : n < 4) (o p : ℕ) (ho : o = 512 + 128 * n) (hp : p = 128 * n) (r : Fin 512) (l : Fin 128) :
    kvB (iblk m c 0 t) (iblk m c 1 t) (iblk m c 2 t) (iblk m c 3 t) (iblk m c 10 t) r ⟨o + l.val, by omega⟩ = res8 (argX m c) (argM m c) (argG m c) (argW m c) (argMk m c) (argWk m c) (ix3 (bat t) ⟨p + l.val, by omega⟩ (tok t r)) := by
  show _ = kv (argX m c) (argM m c) (argG m c) (argW m c) (argMk m c) (argWk m c) (bat t) (tok t r) ⟨(p + l.val) / 128 * 256 + (128 + (p + l.val) % 128), by omega⟩
  refine ((congrArg _ (Fin.ext (by simp only [Fin.val_one]; omega))).trans (kvB_eq m c t r 1 ⟨n, hn⟩ l)).trans ?_
  exact congrArg _ (Fin.ext (by simp only [Fin.val_one]; omega))

/-- From a block's index to the array's, the token in the middle -/
theorem at_row {B : ℕ} (R : Arr 3 ![16, 2048, B]) (v : EReal) (t : Fin cfg0.N) (r : Fin 512) (a : Fin B)
    (h : v = R (ix3 (bat t) (tok t r) a)) (j : (⟨3, ![16, 2048, B]⟩ : Shape).Idx) (h0 : (j 0).val = t.val / 4)
    (h1 : (j 1).val = t.val % 4 * 512 + r.val) (h2 : (j 2).val = a.val) : v = R j := by
  obtain ⟨x, y, z, rfl⟩ : ∃ x y z, j = ix3 x y z := ⟨_, _, _, eq_ix3 j⟩
  obtain rfl : x = bat t := Fin.ext h0
  obtain rfl : y = tok t r := Fin.ext h1
  obtain rfl : z = a := Fin.ext h2
  exact h

/-- or at the end. -/
theorem at_col {B : ℕ} (R : Arr 3 ![16, B, 2048]) (v : EReal) (t : Fin cfg0.N) (r : Fin 512) (a : Fin B)
    (h : v = R (ix3 (bat t) a (tok t r))) (j : (⟨3, ![16, B, 2048]⟩ : Shape).Idx) (h0 : (j 0).val = t.val / 4)
    (h1 : (j 1).val = a.val) (h2 : (j 2).val = t.val % 4 * 512 + r.val) : v = R j := by
  obtain ⟨x, y, z, rfl⟩ : ∃ x y z, j = ix3 x y z := ⟨_, _, _, eq_ix3 j⟩
  obtain rfl : x = bat t := Fin.ext h0
  obtain rfl : y = a := Fin.ext h1
  obtain rfl : z = tok t r := Fin.ext h2
  exact h

theorem first_zero {a b : ℕ} (x : (⟨3, ![1, a, b]⟩ : Shape).Idx) : x = ix3 (0 : Fin 1) (x 1) (x 2) := by
  obtain ⟨a, q, d, rfl⟩ : ∃ a q d, x = ix3 a q d := ⟨_, _, _, eq_ix3 x⟩
  obtain rfl : a = 0 := Subsingleton.elim _ _
  rfl

end Cert.Proof.Prep

end
-- ==== Proof.PrepValue.lean ====
/- The result arrays of the projections before the mixers. -/
module

public import proofs.«01_k».proof.Proof.PrepStore
public import Idealize.ShloMosaic.Lib.Pipeline.ValueKit.Point
public import Idealize.ShloMosaic.Lib.Pipeline.ValueKit.Tiles

@[expose] public section

set_option maxRecDepth 16384

noncomputable section

namespace Cert.Proof.Prep

open Cert.PrepIdeal Cert.PrepIdeal.Gen Cert.PrepIdeal.Value Idealize.ShloMosaic Idealize.ShloMosaic.TcCoe Idealize.SL.Sem

variable (m : (ℓ : Loc nD τ sig) → Buf (Elt Ideal) ℓ) (ρ : Dev nD → PrngReg)

/-! The result arrays after the run. -/

theorem final13 (c : Dev nD) :
    (dats m 0 c).arrAt 13 cfg0.N = res0 (argX m c) (argM m c) (argG m c) (argW m c) := by
  refine (dats m 0 c).arrAt_eq_of_covers 13 _ covers13 fun t hf y => ?_
  blk_simp
  rw [after0_13, out0_13]
  canon_tiles x h
  case piece0 =>
    refine ((congrArg _ (first_zero x)).trans (s13 _ _ _ _ _ _ _ _ _ _ _ _ _ (x 1) (x 2))).trans ?_
    refine at_row (res0 (argX m c) (argM m c) (argG m c) (argW m c)) _ t (x 1) _ (st13 m c t (x 1) (x 2)) _ ?_ ?_ ?_ <;> (blk_simp [idx13 t] <;> omega)

theorem final14 (c : Dev nD) :
    (dats m 0 c).arrAt 14 cfg0.N = res1 (argX m c) (argM m c) (argG m c) (argW m c) := by
  refine (dats m 0 c).arrAt_eq_of_covers 14 _ covers14 fun t hf y => ?_
  blk_simp
  rw [after0_14, out0_14]
  canon_tiles x h
  case piece0 =>
    refine ((congrArg _ (first_zero x)).trans (s14 _ _ _ _ _ _ _ _ _ _ _ _ _ (x 1) (x 2))).trans ?_
    refine at_row (res1 (argX m c) (argM m c) (argG m c) (argW m c)) _ t (x 1) _ (st14 m c t (x 1) (x 2)) _ ?_ ?_ ?_ <;> (blk_simp [idx14 t] <;> omega)

theorem final15 (c : Dev nD) :
    (dats m 0 c).arrAt 15 cfg0.N = res2 (argX m c) (argM m c) (argG m c) (argW m c) := by
  refine (dats m 0 c).arrAt_eq_of_covers 15 _ covers15 fun t hf y => ?_
  blk_simp
  rw [after0_15, out0_15]
  canon_tiles x h
  case piece0 =>
    refine ((congrArg _ (first_zero x)).trans (s15 _ _ _ _ _ _ _ _ _ _ _ _ _ (x 1) (x 2))).trans ?_
    refine at_row (res2 (argX m c) (argM m c) (argG m c) (argW m c)) _ t (x 1) _ (st15 m c t (x 1) (x 2)) _ ?_ ?_ ?_ <;> (blk_simp [idx15 t] <;> omega)

theorem final16 (c : Dev nD) :
    (dats m 0 c).arrAt 16 cfg0.N = res3 (argX m c) (argM m c) (argG m c) (argW m c) (argQg m c) tabAr tabAy tabAc tabAz := by
  refine (dats m 0 c).arrAt_eq_of_covers 16 _ covers16 fun t hf y => ?_
  blk_simp
  rw [after0_16, out0_16]
  canon_tiles x h
  case piece0 =>
    refine ((congrArg _ (first_zero x)).trans (s16_5 _ _ _ _ _ _ _ _ _ _ _ _ _ (x 2) (x 1))).trans ?_
    refine at_col (res3 (argX m c) (argM m c) (argG m c) (argW m c) (argQg m c) tabAr tabAy tabAc tabAz) _ t (x 2) _ (st16 m c t 5 (by decide) 2944 640 rfl rfl (x 2) (x 1)) _ ?_ ?_ ?_ <;> (blk_simp [idx16 t] <;> omega)
  case piece1 =>
    refine ((congrArg _ (first_zero x)).trans (s16_4 _ _ _ _ _ _ _ _ _ _ _ _ _ (x 2) (x 1))).trans ?_
    refine at_col (res3 (argX m c) (argM m c) (argG m c) (argW m c) (argQg m c) tabAr tabAy tabAc tabAz) _ t (x 2) _ (st16 m c t 4 (by decide) 2816 512 rfl rfl (x 2) (x 1)) _ ?_ ?_ ?_ <;> (blk_simp [idx16 t] <;> omega)
  case piece2 =>
    refine ((congrArg _ (first_zero x)).trans (s16_3 _ _ _ _ _ _ _ _ _ _ _ _ _ (x 2) (x 1))).trans ?_
    refine at_col (res3 (argX m c) (argM m c) (argG m c) (argW m c) (argQg m c) tabAr tabAy tabAc tabAz) _ t (x 2) _ (st16 m c t 3 (by decide) 2688 384 rfl rfl (x 2) (x 1)) _ ?_ ?_ ?_ <;> (blk_simp [idx16 t] <;> omega)
  case piece3 =>
    refine ((congrArg _ (first_zero x)).trans (s16_2 _ _ _ _ _ _ _ _ _ _ _ _ _ (x 2) (x 1))).trans ?_
    refine at_col (res3 (argX m c) (argM m c) (argG m c) (argW m c) (argQg m c) tabAr tabAy tabAc tabAz) _ t (x 2) _ (st16 m c t 2 (by decide) 2560 256 rfl rfl (x 2) (x 1)) _ ?_ ?_ ?_ <;> (blk_simp [idx16 t] <;> omega)
  case piece4 =>
    refine ((congrArg _ (first_zero x)).trans (s16_1 _ _ _ _ _ _ _ _ _ _ _ _ _ (x 2) (x 1))).trans ?_
    refine at_col (res3 (argX m c) (argM m c) (argG m c) (argW m c) (argQg m c) tabAr tabAy tabAc tabAz) _ t (x 2) _ (st16 m c t 1 (by decide) 2432 128 rfl rfl (x 2) (x 1)) _ ?_ ?_ ?_ <;> (blk_simp [idx16 t] <;> omega)
  case piece5 =>
    refine ((congrArg _ (first_zero x)).trans (s16_0 _ _ _ _ _ _ _ _ _ _ _ _ _ (x 2) (x 1))).trans ?_
    refine at_col (res3 (argX m c) (argM m c) (argG m c) (argW m c) (argQg m c) tabAr tabAy tabAc tabAz) _ t (x 2) _ (st16 m c t 0 (by decide) 2304 0 rfl rfl (x 2) (x 1)) _ ?_ ?_ ?_ <;> (blk_simp [idx16 t] <;> omega)

theorem final17 (c : Dev nD) :
    (dats m 0 c).arrAt 17 cfg0.N = res4 (argX m c) (argM m c) (argG m c) (argW m c) (argKg m c) tabAr tabAy tabAc tabAz := by
  refine (dats m 0 c).arrAt_eq_of_covers 17 _ covers17 fun t hf y => ?_
  blk_simp
  rw [after0_17, out0_17]
  canon_tiles x h
  case piece0 =>
    refine ((congrArg _ (first_zero x)).trans (s17_1 _ _ _ _ _ _ _ _ _ _ _ _ _ (x 1) (x 2))).trans ?_
    refine at_row (res4 (argX m c) (argM m c) (argG m c) (argW m c) (argKg m c) tabAr tabAy tabAc tabAz) _ t (x 1) _ (st17 m c t 1 (by decide) 3200 128 rfl rfl (x 1) (x 2)) _ ?_ ?_ ?_ <;> (blk_simp [idx17 t] <;> omega)
  case piece1 =>
    refine ((congrArg _ (first_zero x)).trans (s17_0 _ _ _ _ _ _ _ _ _ _ _ _ _ (x 1) (x 2))).trans ?_
    refine at_row (res4 (argX m c) (argM m c) (argG m c) (argW m c) (argKg m c) tabAr tabAy tabAc tabAz) _ t (x 1) _ (st17 m c t 0 (by decide) 3072 0 rfl rfl (x 1) (x 2)) _ ?_ ?_ ?_ <;> (blk_simp [idx17 t] <;> omega)

theorem final18 (c : Dev nD) :
    (dats m 0 c).arrAt 18 cfg0.N = res5 (argX m c) (argM m c) (argG m c) (argW m c) := by
  refine (dats m 0 c).arrAt_eq_of_covers 18 _ covers18 fun t hf y => ?_
  blk_simp
  rw [after0_18, out0_18]
  canon_tiles x h
  case piece0 =>
    refine ((congrArg _ (first_zero x)).trans (s18_1 _ _ _ _ _ _ _ _ _ _ _ _ _ (x 2) (x 1))).trans ?_
    refine at_col (res5 (argX m c) (argM m c) (argG m c) (argW m c)) _ t (x 2) _ (st18 m c t 1 (by decide) 3456 128 rfl rfl (x 2) (x 1)) _ ?_ ?_ ?_ <;> (blk_simp [idx18 t] <;> omega)
  case piece1 =>
    refine ((congrArg _ (first_zero x)).trans (s18_0 _ _ _ _ _ _ _ _ _ _ _ _ _ (x 2) (x 1))).trans ?_
    refine at_col (res5 (argX m c) (argM m c) (argG m c) (argW m c)) _ t (x 2) _ (st18 m c t 0 (by decide) 3328 0 rfl rfl (x 2) (x 1)) _ ?_ ?_ ?_ <;> (blk_simp [idx18 t] <;> omega)

theorem final19 (c : Dev nD) :
    (dats m 0 c).arrAt 19 cfg0.N = res6 (argX m c) (argM m c) (argG m c) (argW m c) (argMq m c) (argWq m c) tabBr tabBs tabBc tabBz := by
  refine (dats m 0 c).arrAt_eq_of_covers 19 _ covers19 fun t hf y => ?_
  blk_simp
  rw [after0_19, out0_19]
  canon_tiles x h
  case piece0 =>
    refine ((congrArg _ (first_zero x)).trans (s19_7 _ _ _ _ _ _ _ _ _ _ _ _ _ (x 2) (x 1))).trans ?_
    refine at_col (res6 (argX m c) (argM m c) (argG m c) (argW m c) (argMq m c) (argWq m c) tabBr tabBs tabBc tabBz) _ t (x 2) _ (st19o m c t 3 (by decide) 896 rfl (x 2) (x 1)) _ ?_ ?_ ?_ <;> (blk_simp [idx19 t] <;> omega)
  case piece1 =>
    refine ((congrArg _ (first_zero x)).trans (s19_6 _ _ _ _ _ _ _ _ _ _ _ _ _ (x 2) (x 1))).trans ?_
    refine at_col (res6 (argX m c) (argM m c) (argG m c) (argW m c) (argMq m c) (argWq m c) tabBr tabBs tabBc tabBz) _ t (x 2) _ (st19e m c t 3 (by decide) 768 rfl (x 2) (x 1)) _ ?_ ?_ ?_ <;> (blk_simp [idx19 t] <;> omega)
  case piece2 =>
    refine ((congrArg _ (first_zero x)).trans (s19_5 _ _ _ _ _ _ _ _ _ _ _ _ _ (x 2) (x 1))).trans ?_
    refine at_col (res6 (argX m c) (argM m c) (argG m c) (argW m c) (argMq m c) (argWq m c) tabBr tabBs tabBc tabBz) _ t (x 2) _ (st19o m c t 2 (by decide) 640 rfl (x 2) (x 1)) _ ?_ ?_ ?_ <;> (blk_simp [idx19 t] <;> omega)
  case piece3 =>
    refine ((congrArg _ (first_zero x)).trans (s19_4 _ _ _ _ _ _ _ _ _ _ _ _ _ (x 2) (x 1))).trans ?_
    refine at_col (res6 (argX m c) (argM m c) (argG m c) (argW m c) (argMq m c) (argWq m c) tabBr tabBs tabBc tabBz) _ t (x 2) _ (st19e m c t 2 (by decide) 512 rfl (x 2) (x 1)) _ ?_ ?_ ?_ <;> (blk_simp [idx19 t] <;> omega)
  case piece4 =>
    refine ((congrArg _ (first_zero x)).trans (s19_3 _ _ _ _ _ _ _ _ _ _ _ _ _ (x 2) (x 1))).trans ?_
    refine at_col (res6 (argX m c) (argM m c) (argG m c) (argW m c) (argMq m c) (argWq m c) tabBr tabBs tabBc tabBz) _ t (x 2) _ (st19o m c t 1 (by decide) 384 rfl (x 2) (x 1)) _ ?_ ?_ ?_ <;> (blk_simp [idx19 t] <;> omega)
  case piece5 =>
    refine ((congrArg _ (first_zero x)).trans (s19_2 _ _ _ _ _ _ _ _ _ _ _ _ _ (x 2) (x 1))).trans ?_
    refine at_col (res6 (argX m c) (argM m c) (argG m c) (argW m c) (argMq m c) (argWq m c) tabBr tabBs tabBc tabBz) _ t (x 2) _ (st19e m c t 1 (by decide) 256 rfl (x 2) (x 1)) _ ?_ ?_ ?_ <;> (blk_simp [idx19 t] <;> omega)
  case piece6 =>
    refine ((congrArg _ (first_zero x)).trans (s19_1 _ _ _ _ _ _ _ _ _ _ _ _ _ (x 2) (x 1))).trans ?_
    refine at_col (res6 (argX m c) (argM m c) (argG m c) (argW m c) (argMq m c) (argWq m c) tabBr tabBs tabBc tabBz) _ t (x 2) _ (st19o m c t 0 (by decide) 128 rfl (x 2) (x 1)) _ ?_ ?_ ?_ <;> (blk_simp [idx19 t] <;> omega)
  case piece7 =>
    refine ((congrArg _ (first_zero x)).trans (s19_0 _ _ _ _ _ _ _ _ _ _ _ _ _ (x 2) (x 1))).trans ?_
    refine at_col (res6 (argX m c) (argM m c) (argG m c) (argW m c) (argMq m c) (argWq m c) tabBr tabBs tabBc tabBz) _ t (x 2) _ (st19e m c t 0 (by decide) 0 rfl (x 2) (x 1)) _ ?_ ?_ ?_ <;> (blk_simp [idx19 t] <;> omega)

theorem final20 (c : Dev nD) :
    (dats m 0 c).arrAt 20 cfg0.N = res7 (argX m c) (argM m c) (argG m c) (argW m c) (argMk m c) (argWk m c) tabBr tabBs tabBc tabBz := by
  refine (dats m 0 c).arrAt_eq_of_covers 20 _ covers20 fun t hf y => ?_
  blk_simp
  rw [after0_20, out0_20]
  canon_tiles x h
  case piece0 =>
    refine ((congrArg _ (first_zero x)).trans (s20_7 _ _ _ _ _ _ _ _ _ _ _ _ _ (x 1) (x 2))).trans ?_
    refine at_row (res7 (argX m c) (argM m c) (argG m c) (argW m c) (argMk m c) (argWk m c) tabBr tabBs tabBc tabBz) _ t (x 1) _ (st20o m c t 3 (by decide) 896 rfl (x 1) (x 2)) _ ?_ ?_ ?_ <;> (blk_simp [idx20 t] <;> omega)
  case piece1 =>
    refine ((congrArg _ (first_zero x)).trans (s20_6 _ _ _ _ _ _ _ _ _ _ _ _ _ (x 1) (x 2))).trans ?_
    refine at_row (res7 (argX m c) (argM m c) (argG m c) (argW m c) (argMk m c) (argWk m c) tabBr tabBs tabBc tabBz) _ t (x 1) _ (st20e m c t 3 (by decide) 384 768 rfl rfl (x 1) (x 2)) _ ?_ ?_ ?_ <;> (blk_simp [idx20 t] <;> omega)
  case piece2 =>
    refine ((congrArg _ (first_zero x)).trans (s20_5 _ _ _ _ _ _ _ _ _ _ _ _ _ (x 1) (x 2))).trans ?_
    refine at_row (res7 (argX m c) (argM m c) (argG m c) (argW m c) (argMk m c) (argWk m c) tabBr tabBs tabBc tabBz) _ t (x 1) _ (st20o m c t 2 (by decide) 640 rfl (x 1) (x 2)) _ ?_ ?_ ?_ <;> (blk_simp [idx20 t] <;> omega)
  case piece3 =>
    refine ((congrArg _ (first_zero x)).trans (s20_4 _ _ _ _ _ _ _ _ _ _ _ _ _ (x 1) (x 2))).trans ?_
    refine at_row (res7 (argX m c) (argM m c) (argG m c) (argW m c) (argMk m c) (argWk m c) tabBr tabBs tabBc tabBz) _ t (x 1) _ (st20e m c t 2 (by decide) 256 512 rfl rfl (x 1) (x 2)) _ ?_ ?_ ?_ <;> (blk_simp [idx20 t] <;> omega)
  case piece4 =>
    refine ((congrArg _ (first_zero x)).trans (s20_3 _ _ _ _ _ _ _ _ _ _ _ _ _ (x 1) (x 2))).trans ?_
    refine at_row (res7 (argX m c) (argM m c) (argG m c) (argW m c) (argMk m c) (argWk m c) tabBr tabBs tabBc tabBz) _ t (x 1) _ (st20o m c t 1 (by decide) 384 rfl (x 1) (x 2)) _ ?_ ?_ ?_ <;> (blk_simp [idx20 t] <;> omega)
  case piece5 =>
    refine ((congrArg _ (first_zero x)).trans (s20_2 _ _ _ _ _ _ _ _ _ _ _ _ _ (x 1) (x 2))).trans ?_
    refine at_row (res7 (argX m c) (argM m c) (argG m c) (argW m c) (argMk m c) (argWk m c) tabBr tabBs tabBc tabBz) _ t (x 1) _ (st20e m c t 1 (by decide) 128 256 rfl rfl (x 1) (x 2)) _ ?_ ?_ ?_ <;> (blk_simp [idx20 t] <;> omega)
  case piece6 =>
    refine ((congrArg _ (first_zero x)).trans (s20_1 _ _ _ _ _ _ _ _ _ _ _ _ _ (x 1) (x 2))).trans ?_
    refine at_row (res7 (argX m c) (argM m c) (argG m c) (argW m c) (argMk m c) (argWk m c) tabBr tabBs tabBc tabBz) _ t (x 1) _ (st20o m c t 0 (by decide) 128 rfl (x 1) (x 2)) _ ?_ ?_ ?_ <;> (blk_simp [idx20 t] <;> omega)
  case piece7 =>
    refine ((congrArg _ (first_zero x)).trans (s20_0 _ _ _ _ _ _ _ _ _ _ _ _ _ (x 1) (x 2))).trans ?_
    refine at_row (res7 (argX m c) (argM m c) (argG m c) (argW m c) (argMk m c) (argWk m c) tabBr tabBs tabBc tabBz) _ t (x 1) _ (st20e m c t 0 (by decide) 0 0 rfl rfl (x 1) (x 2)) _ ?_ ?_ ?_ <;> (blk_simp [idx20 t] <;> omega)

theorem final21 (c : Dev nD) :
    (dats m 0 c).arrAt 21 cfg0.N = res8 (argX m c) (argM m c) (argG m c) (argW m c) (argMk m c) (argWk m c) := by
  refine (dats m 0 c).arrAt_eq_of_covers 21 _ covers21 fun t hf y => ?_
  blk_simp
  rw [after0_21, out0_21]
  canon_tiles x h
  case piece0 =>
    refine ((congrArg _ (first_zero x)).trans (s21_3 _ _ _ _ _ _ _ _ _ _ _ _ _ (x 2) (x 1))).trans ?_
    refine at_col (res8 (argX m c) (argM m c) (argG m c) (argW m c) (argMk m c) (argWk m c)) _ t (x 2) _ (st21 m c t 3 (by decide) 896 384 rfl rfl (x 2) (x 1)) _ ?_ ?_ ?_ <;> (blk_simp [idx21 t] <;> omega)
  case piece1 =>
    refine ((congrArg _ (first_zero x)).trans (s21_2 _ _ _ _ _ _ _ _ _ _ _ _ _ (x 2) (x 1))).trans ?_
    refine at_col (res8 (argX m c) (argM m c) (argG m c) (argW m c) (argMk m c) (argWk m c)) _ t (x 2) _ (st21 m c t 2 (by decide) 768 256 rfl rfl (x 2) (x 1)) _ ?_ ?_ ?_ <;> (blk_simp [idx21 t] <;> omega)
  case piece2 =>
    refine ((congrArg _ (first_zero x)).trans (s21_1 _ _ _ _ _ _ _ _ _ _ _ _ _ (x 2) (x 1))).trans ?_
    refine at_col (res8 (argX m c) (argM m c) (argG m c) (argW m c) (argMk m c) (argWk m c)) _ t (x 2) _ (st21 m c t 1 (by decide) 640 128 rfl rfl (x 2) (x 1)) _ ?_ ?_ ?_ <;> (blk_simp [idx21 t] <;> omega)
  case piece3 =>
    refine ((congrArg _ (first_zero x)).trans (s21_0 _ _ _ _ _ _ _ _ _ _ _ _ _ (x 2) (x 1))).trans ?_
    refine at_col (res8 (argX m c) (argM m c) (argG m c) (argW m c) (argMk m c) (argWk m c)) _ t (x 2) _ (st21 m c t 0 (by decide) 512 0 rfl rfl (x 2) (x 1)) _ ?_ ?_ ?_ <;> (blk_simp [idx21 t] <;> omega)

end Cert.Proof.Prep

end
-- ==== Proof.PrepRef.lean ====
/- The reference of the projections before the mixers is the same functions of its arguments. -/
module

public import proofs.«01_k».proof.Proof.PrepMath
public import proofs.«01_k».proof.Proof.Gen.PrepReferenceIdeal.Read

@[expose] public section

set_option maxRecDepth 16384

noncomputable section

namespace Cert.Proof.PrepRef

open Cert.PrepReferenceIdeal Cert.PrepReferenceIdeal.Gen Cert.PrepReferenceIdeal.Read Idealize.ShloMosaic Cert.Proof.Prep

variable (x0 : Vec Ideal S16x2048x2048 .f32) (x1 : Vec Ideal S2x16x12288 .f32) (x2 : Vec Ideal S2x2048 .f32)
  (x3 : Vec Ideal S2x2048x4184 .f32) (x4 x5 : Vec Ideal S2x128 .f32) (x6 : Vec Ideal S2x512 .f32)
  (x7 : Vec Ideal S2x512x768 .f32) (x8 : Vec Ideal S2x256 .f32) (x9 : Vec Ideal S2x256x1024 .f32)

theorem hid_at (b : Fin 16) (i : Fin 2048) (d : Fin 2048) : val_main_v100 x0 x1 x2 (ix3 b i d) = hid x0 x1 x2 b i d := by
  pointwise [val_main_v100, val_main_v99, val_main_v98, val_main_v97, val_main_v96, val_main_v95, val_main_cst_10, val_main_v94, val_main_v93, val_main_v92, val_main_v91, val_main_v90, val_main_v89, val_main_v88, val_main_v87, val_main_cst_9, val_main_v86, val_main_v85, val_main_cst_8, val_main_v84, val_main_v83, val_main_v82, val_main_v81, val_main_v80, val_main_v75, val_main_v74, val_main_v69, val_main_v68, val_main_v67, val_main_v66]
  rw [show val_main_cst_7 (F := Ideal) (Shape.Idx.first h_S_) = (0 : EReal) from Ideal.ofBits_zero_f32, zero_add]
  unfold hid nrm
  rfl

theorem proj_at (b : Fin 16) (i : Fin 2048) (c : Fin 4184) : val_main_v103 x0 x1 x2 x3 (ix3 b i c) = proj x0 x1 x2 x3 b i c := by
  pointwise [val_main_v103, val_main_v102, val_main_v101]
  simp only [hid_at]
  rfl

theorem qn_at (b : Fin 16) (i : Fin 2048) (h : Fin 6) (l : Fin 128) : val_main_v128 x0 x1 x2 x3 x4 (ix4 b i h l)
    = nrm 0x43000000#32 (fun e => proj x0 x1 x2 x3 b i ⟨h.val * 128 + e.val, by omega⟩) (fun e => x4 (ix2 1 e)) l := by
  pointwise [val_main_v128, val_main_v127, val_main_v126, val_main_v125, val_main_v124, val_main_v123, val_main_v122, val_main_v121, val_main_cst_13, val_main_v120, val_main_v119, val_main_cst_12, val_main_v118, val_main_v117, val_main_v116, val_main_v115, val_main_v114, val_main_v113, val_main_v104]
  rw [show val_main_cst_11 (F := Ideal) (Shape.Idx.first h_S_) = (0 : EReal) from Ideal.ofBits_zero_f32, zero_add]
  simp only [proj_at]
  unfold nrm
  rfl

theorem kn_at (b : Fin 16) (i : Fin 2048) (h : Fin 2) (l : Fin 128) : val_main_v185 x0 x1 x2 x3 x5 (ix4 b i h l)
    = nrm 0x43000000#32 (fun e => proj x0 x1 x2 x3 b i ⟨768 + (h.val * 128 + e.val), by omega⟩) (fun e => x5 (ix2 1 e)) l := by
  pointwise [val_main_v185, val_main_v184, val_main_v183, val_main_v182, val_main_v181, val_main_v180, val_main_v179, val_main_v178, val_main_cst_16, val_main_v177, val_main_v176, val_main_cst_15, val_main_v175, val_main_v174, val_main_v173, val_main_v172, val_main_v171, val_main_v170, val_main_v105]
  rw [show val_main_cst_14 (F := Ideal) (Shape.Idx.first h_S_) = (0 : EReal) from Ideal.ofBits_zero_f32, zero_add]
  simp only [proj_at]
  unfold nrm
  rfl

theorem cq_at (b : Fin 16) (i : Fin 2048) (l : Fin 512) : val_main_v241 x0 x1 x2 x3 x6 (ix3 b i l)
    = nrm 0x44000000#32 (fun e => proj x0 x1 x2 x3 b i ⟨1280 + e.val, by omega⟩) (fun e => x6 (ix2 1 e)) l := by
  pointwise [val_main_v241, val_main_v240, val_main_v239, val_main_v238, val_main_v237, val_main_v236, val_main_v235, val_main_v234, val_main_cst_19, val_main_v233, val_main_v232, val_main_cst_18, val_main_v231, val_main_v230, val_main_v229, val_main_v228, val_main_v227, val_main_v107]
  rw [show val_main_cst_17 (F := Ideal) (Shape.Idx.first h_S_) = (0 : EReal) from Ideal.ofBits_zero_f32, zero_add]
  simp only [proj_at]
  unfold nrm
  rfl

theorem ckv_at (b : Fin 16) (i : Fin 2048) (l : Fin 256) : val_main_v260 x0 x1 x2 x3 x8 (ix3 b i l)
    = nrm 0x43800000#32 (fun e => proj x0 x1 x2 x3 b i ⟨1792 + e.val, by omega⟩) (fun e => x8 (ix2 1 e)) l := by
  pointwise [val_main_v260, val_main_v259, val_main_v258, val_main_v257, val_main_v256, val_main_v255, val_main_v254, val_main_v253, val_main_cst_22, val_main_v252, val_main_v251, val_main_cst_21, val_main_v250, val_main_v249, val_main_v248, val_main_v247, val_main_v246, val_main_v108]
  rw [show val_main_cst_20 (F := Ideal) (Shape.Idx.first h_S_) = (0 : EReal) from Ideal.ofBits_zero_f32, zero_add]
  simp only [proj_at]
  unfold nrm
  rfl

theorem qb_at (b : Fin 16) (i : Fin 2048) (h : Fin 4) (l : Fin 192) : val_main_v245 x0 x1 x2 x3 x6 x7 (ix4 b i h l) = qb x0 x1 x2 x3 x6 x7 b i ⟨h.val * 192 + l.val, by omega⟩ := by
  pointwise [val_main_v245, val_main_v244, val_main_v243, val_main_v242]
  simp only [cq_at]
  rfl

theorem kv_at (b : Fin 16) (i : Fin 2048) (h : Fin 4) (l : Fin 256) : val_main_v264 x0 x1 x2 x3 x8 x9 (ix4 b i h l) = kv x0 x1 x2 x3 x8 x9 b i ⟨h.val * 256 + l.val, by omega⟩ := by
  pointwise [val_main_v264, val_main_v263, val_main_v262, val_main_v261]
  simp only [ckv_at]
  rfl

/-- The rotary embedding, half by half. -/
theorem rot_halves {n : ℕ} (q : ℕ) (hq : n = 4 * q) (x : Fin n → EReal) (cr sr cc sc : Fin q → EReal) (j : Fin n) :
    (if h : j.val < 2 * q then
      (if h1 : j.val < q then x j * cr ⟨j.val, h1⟩ - x ⟨q + j.val, by omega⟩ * sr ⟨j.val, h1⟩
        else x ⟨j.val - q, by omega⟩ * sr ⟨j.val - q, by omega⟩ + x ⟨q + (j.val - q), by omega⟩ * cr ⟨j.val - q, by omega⟩)
      else if h1 : j.val - 2 * q < q then
        x ⟨2 * q + (j.val - 2 * q), by omega⟩ * cc ⟨j.val - 2 * q, h1⟩ - x ⟨2 * q + (q + (j.val - 2 * q)), by omega⟩ * sc ⟨j.val - 2 * q, h1⟩
        else x ⟨2 * q + (j.val - 2 * q - q), by omega⟩ * sc ⟨j.val - 2 * q - q, by omega⟩
          + x ⟨2 * q + (q + (j.val - 2 * q - q)), by omega⟩ * cc ⟨j.val - 2 * q - q, by omega⟩) = rot q hq x cr sr cc sc j := by
  have hj := j.isLt
  unfold rot
  by_cases h1 : j.val < q
  · rw [dif_pos (by omega : j.val < 2 * q), dif_pos h1, dif_pos h1]
  by_cases h2 : j.val < 2 * q
  · rw [dif_pos h2, dif_neg h1, dif_neg h1, dif_pos h2]
    simp only [show q + (j.val - q) = j.val from by omega]
  by_cases h3 : j.val < 3 * q
  · rw [dif_neg h2, dif_pos (by omega : j.val - 2 * q < q), dif_neg h1, dif_neg h2, dif_pos h3]
    simp only [show 2 * q + (j.val - 2 * q) = j.val from by omega, show 2 * q + (q + (j.val - 2 * q)) = q + j.val from by omega]
  · rw [dif_neg h2, dif_neg (by omega : ¬ j.val - 2 * q < q), dif_neg h1, dif_neg h2, dif_neg h3]
    simp only [show j.val - 2 * q - q = j.val - 3 * q from by omega, show 2 * q + (j.val - 3 * q) = j.val - q from by omega,
      show 2 * q + (q + (j.val - 3 * q)) = j.val from by omega]

theorem qrope_at_row (b : Fin 16) (i : Fin 2048) (h : Fin 6) (l : Fin 64) : val_main_v149 x0 x1 x2 x3 x4 (ix4 b i h l)
    = if h1 : l.val < 32 then val_main_v128 x0 x1 x2 x3 x4 (ix4 b i h ⟨l.val, by omega⟩) * (val_main_v29 (F := Ideal)) (ix2 i ⟨l.val, h1⟩) - val_main_v128 x0 x1 x2 x3 x4 (ix4 b i h ⟨32 + l.val, by omega⟩) * (val_main_v30 (F := Ideal)) (ix2 i ⟨l.val, h1⟩)
      else val_main_v128 x0 x1 x2 x3 x4 (ix4 b i h ⟨l.val - 32, by omega⟩) * (val_main_v30 (F := Ideal)) (ix2 i ⟨l.val - 32, by omega⟩) + val_main_v128 x0 x1 x2 x3 x4 (ix4 b i h ⟨32 + (l.val - 32), by omega⟩) * (val_main_v29 (F := Ideal)) (ix2 i ⟨l.val - 32, by omega⟩) := by
  have hl := l.isLt
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v129]

theorem qrope_at_col (b : Fin 16) (i : Fin 2048) (h : Fin 6) (l : Fin 64) : val_main_v168 x0 x1 x2 x3 x4 (ix4 b i h l)
    = if h1 : l.val < 32 then val_main_v128 x0 x1 x2 x3 x4 (ix4 b i h ⟨64 + l.val, by omega⟩) * (val_main_v31 (F := Ideal)) (ix2 i ⟨l.val, h1⟩) - val_main_v128 x0 x1 x2 x3 x4 (ix4 b i h ⟨64 + (32 + l.val), by omega⟩) * (val_main_v32 (F := Ideal)) (ix2 i ⟨l.val, h1⟩)
      else val_main_v128 x0 x1 x2 x3 x4 (ix4 b i h ⟨64 + (l.val - 32), by omega⟩) * (val_main_v32 (F := Ideal)) (ix2 i ⟨l.val - 32, by omega⟩) + val_main_v128 x0 x1 x2 x3 x4 (ix4 b i h ⟨64 + (32 + (l.val - 32)), by omega⟩) * (val_main_v31 (F := Ideal)) (ix2 i ⟨l.val - 32, by omega⟩) := by
  have hl := l.isLt
  pointwise [val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v130]

theorem qrope_at (b : Fin 16) (i : Fin 2048) (h : Fin 6) (l : Fin 128) : val_main_v169 x0 x1 x2 x3 x4 (ix4 b i h l)
    = rot 32 rfl (fun e : Fin 128 => val_main_v128 x0 x1 x2 x3 x4 (ix4 b i h e)) (fun e => (val_main_v29 (F := Ideal)) (ix2 i e)) (fun e => (val_main_v30 (F := Ideal)) (ix2 i e)) (fun e => (val_main_v31 (F := Ideal)) (ix2 i e)) (fun e => (val_main_v32 (F := Ideal)) (ix2 i e)) l := by
  have hl := l.isLt
  pointwise [val_main_v169]
  simp only [qrope_at_row, qrope_at_col]
  generalize val_main_v128 x0 x1 x2 x3 x4 = y
  exact rot_halves 32 rfl (fun e : Fin 128 => y (ix4 b i h e)) (fun e => (val_main_v29 (F := Ideal)) (ix2 i e)) (fun e => (val_main_v30 (F := Ideal)) (ix2 i e)) (fun e => (val_main_v31 (F := Ideal)) (ix2 i e)) (fun e => (val_main_v32 (F := Ideal)) (ix2 i e)) l

theorem qpe_rope_at_row (b : Fin 16) (i : Fin 2048) (h : Fin 4) (l : Fin 32) : val_main_v286 x0 x1 x2 x3 x6 x7 (ix4 b i h l)
    = if h1 : l.val < 16 then val_main_v245 x0 x1 x2 x3 x6 x7 (ix4 b i h ⟨128 + (l.val), by omega⟩) * (val_main_v62 (F := Ideal)) (ix2 i ⟨l.val, h1⟩) - val_main_v245 x0 x1 x2 x3 x6 x7 (ix4 b i h ⟨128 + (16 + l.val), by omega⟩) * (val_main_v63 (F := Ideal)) (ix2 i ⟨l.val, h1⟩)
      else val_main_v245 x0 x1 x2 x3 x6 x7 (ix4 b i h ⟨128 + (l.val - 16), by omega⟩) * (val_main_v63 (F := Ideal)) (ix2 i ⟨l.val - 16, by omega⟩) + val_main_v245 x0 x1 x2 x3 x6 x7 (ix4 b i h ⟨128 + (16 + (l.val - 16)), by omega⟩) * (val_main_v62 (F := Ideal)) (ix2 i ⟨l.val - 16, by omega⟩) := by
  have hl := l.isLt
  pointwise [val_main_v286, val_main_v285, val_main_v284, val_main_v283, val_main_v282, val_main_v281, val_main_v280, val_main_v279, val_main_v278, val_main_v277, val_main_v276, val_main_v275, val_main_v274, val_main_v273, val_main_v272, val_main_v271, val_main_v270, val_main_v269, val_main_v268, val_main_v266, val_main_v265]

theorem qpe_rope_at_col (b : Fin 16) (i : Fin 2048) (h : Fin 4) (l : Fin 32) : val_main_v305 x0 x1 x2 x3 x6 x7 (ix4 b i h l)
    = if h1 : l.val < 16 then val_main_v245 x0 x1 x2 x3 x6 x7 (ix4 b i h ⟨128 + (32 + l.val), by omega⟩) * (val_main_v64 (F := Ideal)) (ix2 i ⟨l.val, h1⟩) - val_main_v245 x0 x1 x2 x3 x6 x7 (ix4 b i h ⟨128 + (32 + (16 + l.val)), by omega⟩) * (val_main_v65 (F := Ideal)) (ix2 i ⟨l.val, h1⟩)
      else val_main_v245 x0 x1 x2 x3 x6 x7 (ix4 b i h ⟨128 + (32 + (l.val - 16)), by omega⟩) * (val_main_v65 (F := Ideal)) (ix2 i ⟨l.val - 16, by omega⟩) + val_main_v245 x0 x1 x2 x3 x6 x7 (ix4 b i h ⟨128 + (32 + (16 + (l.val - 16))), by omega⟩) * (val_main_v64 (F := Ideal)) (ix2 i ⟨l.val - 16, by omega⟩) := by
  have hl := l.isLt
  pointwise [val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_v287, val_main_v267, val_main_v265]

theorem qpe_rope_at (b : Fin 16) (i : Fin 2048) (h : Fin 4) (l : Fin 64) : val_main_v306 x0 x1 x2 x3 x6 x7 (ix4 b i h l)
    = rot 16 rfl (fun e : Fin 64 => val_main_v245 x0 x1 x2 x3 x6 x7 (ix4 b i h ⟨128 + e.val, by omega⟩)) (fun e => (val_main_v62 (F := Ideal)) (ix2 i e)) (fun e => (val_main_v63 (F := Ideal)) (ix2 i e)) (fun e => (val_main_v64 (F := Ideal)) (ix2 i e)) (fun e => (val_main_v65 (F := Ideal)) (ix2 i e)) l := by
  have hl := l.isLt
  pointwise [val_main_v306]
  simp only [qpe_rope_at_row, qpe_rope_at_col]
  generalize val_main_v245 x0 x1 x2 x3 x6 x7 = y
  exact rot_halves 16 rfl (fun e : Fin 64 => y (ix4 b i h ⟨128 + e.val, by omega⟩)) (fun e => (val_main_v62 (F := Ideal)) (ix2 i e)) (fun e => (val_main_v63 (F := Ideal)) (ix2 i e)) (fun e => (val_main_v64 (F := Ideal)) (ix2 i e)) (fun e => (val_main_v65 (F := Ideal)) (ix2 i e)) l

theorem krope_at_row (b : Fin 16) (i : Fin 2048) (h : Fin 2) (l : Fin 64) : val_main_v206 x0 x1 x2 x3 x5 (ix4 b i h l)
    = if h1 : l.val < 32 then val_main_v185 x0 x1 x2 x3 x5 (ix4 b i h ⟨l.val, by omega⟩) * (val_main_v29 (F := Ideal)) (ix2 i ⟨l.val, h1⟩) - val_main_v185 x0 x1 x2 x3 x5 (ix4 b i h ⟨32 + l.val, by omega⟩) * (val_main_v30 (F := Ideal)) (ix2 i ⟨l.val, h1⟩)
      else val_main_v185 x0 x1 x2 x3 x5 (ix4 b i h ⟨l.val - 32, by omega⟩) * (val_main_v30 (F := Ideal)) (ix2 i ⟨l.val - 32, by omega⟩) + val_main_v185 x0 x1 x2 x3 x5 (ix4 b i h ⟨32 + (l.val - 32), by omega⟩) * (val_main_v29 (F := Ideal)) (ix2 i ⟨l.val - 32, by omega⟩) := by
  have hl := l.isLt
  pointwise [val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v186]

theorem krope_at_col (b : Fin 16) (i : Fin 2048) (h : Fin 2) (l : Fin 64) : val_main_v225 x0 x1 x2 x3 x5 (ix4 b i h l)
    = if h1 : l.val < 32 then val_main_v185 x0 x1 x2 x3 x5 (ix4 b i h ⟨64 + l.val, by omega⟩) * (val_main_v31 (F := Ideal)) (ix2 i ⟨l.val, h1⟩) - val_main_v185 x0 x1 x2 x3 x5 (ix4 b i h ⟨64 + (32 + l.val), by omega⟩) * (val_main_v32 (F := Ideal)) (ix2 i ⟨l.val, h1⟩)
      else val_main_v185 x0 x1 x2 x3 x5 (ix4 b i h ⟨64 + (l.val - 32), by omega⟩) * (val_main_v32 (F := Ideal)) (ix2 i ⟨l.val - 32, by omega⟩) + val_main_v185 x0 x1 x2 x3 x5 (ix4 b i h ⟨64 + (32 + (l.val - 32)), by omega⟩) * (val_main_v31 (F := Ideal)) (ix2 i ⟨l.val - 32, by omega⟩) := by
  have hl := l.isLt
  pointwise [val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v187]

theorem krope_at (b : Fin 16) (i : Fin 2048) (h : Fin 2) (l : Fin 128) : val_main_v226 x0 x1 x2 x3 x5 (ix4 b i h l)
    = rot 32 rfl (fun e : Fin 128 => val_main_v185 x0 x1 x2 x3 x5 (ix4 b i h e)) (fun e => (val_main_v29 (F := Ideal)) (ix2 i e)) (fun e => (val_main_v30 (F := Ideal)) (ix2 i e)) (fun e => (val_main_v31 (F := Ideal)) (ix2 i e)) (fun e => (val_main_v32 (F := Ideal)) (ix2 i e)) l := by
  have hl := l.isLt
  pointwise [val_main_v226]
  simp only [krope_at_row, krope_at_col]
  generalize val_main_v185 x0 x1 x2 x3 x5 = y
  exact rot_halves 32 rfl (fun e : Fin 128 => y (ix4 b i h e)) (fun e => (val_main_v29 (F := Ideal)) (ix2 i e)) (fun e => (val_main_v30 (F := Ideal)) (ix2 i e)) (fun e => (val_main_v31 (F := Ideal)) (ix2 i e)) (fun e => (val_main_v32 (F := Ideal)) (ix2 i e)) l

theorem kpe_rope_at_row (b : Fin 16) (i : Fin 2048) (h : Fin 1) (l : Fin 32) : val_main_v328 x0 x1 x2 x3 (ix4 b i h l)
    = if h1 : l.val < 16 then val_main_v109 x0 x1 x2 x3 (ix3 b i ⟨l.val, by omega⟩) * (val_main_v62 (F := Ideal)) (ix2 i ⟨l.val, h1⟩) - val_main_v109 x0 x1 x2 x3 (ix3 b i ⟨16 + l.val, by omega⟩) * (val_main_v63 (F := Ideal)) (ix2 i ⟨l.val, h1⟩)
      else val_main_v109 x0 x1 x2 x3 (ix3 b i ⟨l.val - 16, by omega⟩) * (val_main_v63 (F := Ideal)) (ix2 i ⟨l.val - 16, by omega⟩) + val_main_v109 x0 x1 x2 x3 (ix3 b i ⟨16 + (l.val - 16), by omega⟩) * (val_main_v62 (F := Ideal)) (ix2 i ⟨l.val - 16, by omega⟩) := by
  have hl := l.isLt
  pointwise [val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v308, val_main_v307]

theorem kpe_rope_at_col (b : Fin 16) (i : Fin 2048) (h : Fin 1) (l : Fin 32) : val_main_v347 x0 x1 x2 x3 (ix4 b i h l)
    = if h1 : l.val < 16 then val_main_v109 x0 x1 x2 x3 (ix3 b i ⟨32 + l.val, by omega⟩) * (val_main_v64 (F := Ideal)) (ix2 i ⟨l.val, h1⟩) - val_main_v109 x0 x1 x2 x3 (ix3 b i ⟨32 + (16 + l.val), by omega⟩) * (val_main_v65 (F := Ideal)) (ix2 i ⟨l.val, h1⟩)
      else val_main_v109 x0 x1 x2 x3 (ix3 b i ⟨32 + (l.val - 16), by omega⟩) * (val_main_v65 (F := Ideal)) (ix2 i ⟨l.val - 16, by omega⟩) + val_main_v109 x0 x1 x2 x3 (ix3 b i ⟨32 + (16 + (l.val - 16)), by omega⟩) * (val_main_v64 (F := Ideal)) (ix2 i ⟨l.val - 16, by omega⟩) := by
  have hl := l.isLt
  pointwise [val_main_v347, val_main_v346, val_main_v345, val_main_v344, val_main_v343, val_main_v342, val_main_v341, val_main_v340, val_main_v339, val_main_v338, val_main_v337, val_main_v336, val_main_v335, val_main_v334, val_main_v333, val_main_v332, val_main_v331, val_main_v330, val_main_v329, val_main_v309, val_main_v307]

theorem kpe_rope_at (b : Fin 16) (i : Fin 2048) (h : Fin 1) (l : Fin 64) : val_main_v348 x0 x1 x2 x3 (ix4 b i h l)
    = rot 16 rfl (fun e : Fin 64 => val_main_v109 x0 x1 x2 x3 (ix3 b i e)) (fun e => (val_main_v62 (F := Ideal)) (ix2 i e)) (fun e => (val_main_v63 (F := Ideal)) (ix2 i e)) (fun e => (val_main_v64 (F := Ideal)) (ix2 i e)) (fun e => (val_main_v65 (F := Ideal)) (ix2 i e)) l := by
  have hl := l.isLt
  pointwise [val_main_v348]
  simp only [kpe_rope_at_row, kpe_rope_at_col]
  generalize val_main_v109 x0 x1 x2 x3 = y
  exact rot_halves 16 rfl (fun e : Fin 64 => y (ix3 b i e)) (fun e => (val_main_v62 (F := Ideal)) (ix2 i e)) (fun e => (val_main_v63 (F := Ideal)) (ix2 i e)) (fun e => (val_main_v64 (F := Ideal)) (ix2 i e)) (fun e => (val_main_v65 (F := Ideal)) (ix2 i e)) l

theorem xbc_at (b : Fin 16) (i : Fin 2048) (h : Fin 2) (l : Fin 640) : val_main_v362 x0 x1 x2 x3 (ix4 b i h l) = ssx x0 x1 x2 x3 b i h l := by
  have hl := l.isLt
  pointwise [val_main_v362, val_main_v361, val_main_v360, val_main_v359, val_main_v358, val_main_v357, val_main_v356, val_main_v111]
  simp only [proj_at]
  rfl

theorem dt_at (b : Fin 16) (i : Fin 2048) (h : Fin 2) (l : Fin 128) : val_main_v369 x0 x1 x2 x3 (ix4 b i h l) = sst x0 x1 x2 x3 b i h l := by
  have hl := l.isLt
  pointwise [val_main_v369, val_main_v368, val_main_cst_24, val_main_v367, val_main_v366, val_main_v365, val_main_v364, val_main_v363, val_main_v112]
  simp only [proj_at]
  simp only [Nat.add_assoc]
  rfl

theorem qbh_at (b : Fin 16) (i : Fin 2048) (h : Fin 4) (l : Fin 256) : val_main_v351 x0 x1 x2 x3 x6 x7 (ix4 b i h l) = qbh x0 x1 x2 x3 x6 x7 (val_main_v62 (F := Ideal)) (val_main_v63 (F := Ideal)) (val_main_v64 (F := Ideal)) (val_main_v65 (F := Ideal)) b i h l := by
  have hl := l.isLt
  pointwise [val_main_v351, val_main_v350, val_main_v349, val_main_cst_23]
  simp only [qpe_rope_at, qb_at]
  rfl

theorem kp_at (b : Fin 16) (i : Fin 2048) (e : Fin 64) : val_main_v109 x0 x1 x2 x3 (ix3 b i e) = proj x0 x1 x2 x3 b i ⟨2048 + e.val, by omega⟩ := by
  pointwise [val_main_v109]
  simp only [proj_at]

theorem kbh_at (b : Fin 16) (i : Fin 2048) (h : Fin 4) (l : Fin 256) : val_main_v354 x0 x1 x2 x3 x8 x9 (ix4 b i h l) = kbh x0 x1 x2 x3 x8 x9 (val_main_v62 (F := Ideal)) (val_main_v63 (F := Ideal)) (val_main_v64 (F := Ideal)) (val_main_v65 (F := Ideal)) b i h l := by
  have hl := l.isLt
  pointwise [val_main_v354, val_main_v353, val_main_v352, val_main_v349, val_main_cst_23]
  simp only [kpe_rope_at, kp_at, kv_at]
  rfl

theorem qa_at (b : Fin 16) (i : Fin 2048) (h : Fin 6) (l : Fin 128) : val_main_v169 x0 x1 x2 x3 x4 (ix4 b i h l) = qa x0 x1 x2 x3 x4 (val_main_v29 (F := Ideal)) (val_main_v30 (F := Ideal)) (val_main_v31 (F := Ideal)) (val_main_v32 (F := Ideal)) b i h l := by
  rw [qrope_at]
  simp only [qn_at]
  rfl

theorem ka_at (b : Fin 16) (i : Fin 2048) (h : Fin 2) (l : Fin 128) : val_main_v226 x0 x1 x2 x3 x5 (ix4 b i h l) = ka x0 x1 x2 x3 x5 (val_main_v29 (F := Ideal)) (val_main_v30 (F := Ideal)) (val_main_v31 (F := Ideal)) (val_main_v32 (F := Ideal)) b i h l := by
  rw [krope_at]
  simp only [kn_at]
  rfl

end Cert.Proof.PrepRef

end
-- ==== Proof.PrepOut.lean ====
/- The results of the reference of the projections before the mixers. -/
module

public import proofs.«01_k».proof.Proof.PrepRef
public import proofs.«01_k».proof.Proof.Gen.PrepReferenceIdeal.Read

@[expose] public section

set_option maxRecDepth 16384

noncomputable section

namespace Cert.Proof.PrepRef

open Cert.PrepReferenceIdeal Cert.PrepReferenceIdeal.Gen Cert.PrepReferenceIdeal.Read Idealize.ShloMosaic Cert.Proof.Prep

variable (x0 : Vec Ideal S16x2048x2048 .f32) (x1 : Vec Ideal S2x16x12288 .f32) (x2 : Vec Ideal S2x2048 .f32)
  (x3 : Vec Ideal S2x2048x4184 .f32) (x4 x5 : Vec Ideal S2x128 .f32) (x6 : Vec Ideal S2x512 .f32)
  (x7 : Vec Ideal S2x512x768 .f32) (x8 : Vec Ideal S2x256 .f32) (x9 : Vec Ideal S2x256x1024 .f32)

theorem at_v370 (b : Fin 16) (i : Fin 2048) (c : Fin 1280) :
    idx_main_v370 (ix3 b i c) = ix4 b i ⟨c.val / 640, by omega⟩ ⟨c.val % 640, by omega⟩ := by
  have hb := b.isLt
  have hi := i.isLt
  have hc := c.isLt
  funext a
  match a with
  | ⟨0, _⟩ => exact Fin.ext (by show ((b.val * 2048 + i.val) * 1280 + c.val) / 2621440 = b.val; omega)
  | ⟨1, _⟩ => exact Fin.ext (by show ((b.val * 2048 + i.val) * 1280 + c.val) / 1280 % 2048 = i.val; omega)
  | ⟨2, _⟩ => exact Fin.ext (by show ((b.val * 2048 + i.val) * 1280 + c.val) / 640 % 2 = c.val / 640; omega)
  | ⟨3, _⟩ => exact Fin.ext (by show ((b.val * 2048 + i.val) * 1280 + c.val) % 640 = c.val % 640; omega)

theorem ref0_eq : val_main_v371 x0 x1 x2 x3 = res0 x0 x1 x2 x3 := by
  funext j
  obtain ⟨b, p, q, rfl⟩ : ∃ (b : Fin 16) (p : Fin 2048) (q : Fin 1280), j = ix3 b p q := ⟨_, _, _, eq_ix3 j⟩
  refine Eq.trans (b := val_main_v362 x0 x1 x2 x3 (ix4 b p ⟨q.val / 640, by omega⟩ ⟨q.val % 640, by omega⟩)) ?_
    (xbc_at x0 x1 x2 x3 _ _ _ _)
  rw [val_main_v371_apply, val_main_v370_apply, at_v370]
  rfl

theorem ref1_eq : val_main_v372 x0 x1 x2 x3 = res1 x0 x1 x2 x3 := by
  funext j
  obtain ⟨b, p, q, rfl⟩ : ∃ (b : Fin 16) (p : Fin 2048) (q : Fin 768), j = ix3 b p q := ⟨_, _, _, eq_ix3 j⟩
  pointwise [val_main_v372, val_main_v110]
  simp only [proj_at]
  rfl

theorem ref2_eq : val_main_v373 x0 x1 x2 x3 = res2 x0 x1 x2 x3 := by
  funext j
  obtain ⟨b, p, q, rfl⟩ : ∃ (b : Fin 16) (p : Fin 2048) (q : Fin 256), j = ix3 b p q := ⟨_, _, _, eq_ix3 j⟩
  pointwise [val_main_v373]
  simp only [dt_at]
  rfl

theorem at_v374 (b : Fin 16) (i : Fin 2048) (c : Fin 768) :
    idx_main_v374 (ix3 b i c) = ix4 b i ⟨c.val / 128, by omega⟩ ⟨c.val % 128, by omega⟩ := by
  have hb := b.isLt
  have hi := i.isLt
  have hc := c.isLt
  funext a
  match a with
  | ⟨0, _⟩ => exact Fin.ext (by show ((b.val * 2048 + i.val) * 768 + c.val) / 1572864 = b.val; omega)
  | ⟨1, _⟩ => exact Fin.ext (by show ((b.val * 2048 + i.val) * 768 + c.val) / 768 % 2048 = i.val; omega)
  | ⟨2, _⟩ => exact Fin.ext (by show ((b.val * 2048 + i.val) * 768 + c.val) / 128 % 6 = c.val / 128; omega)
  | ⟨3, _⟩ => exact Fin.ext (by show ((b.val * 2048 + i.val) * 768 + c.val) % 128 = c.val % 128; omega)

theorem ref3_eq : val_main_v375 x0 x1 x2 x3 x4 = res3 x0 x1 x2 x3 x4 (val_main_v29 (F := Ideal)) (val_main_v30 (F := Ideal)) (val_main_v31 (F := Ideal)) (val_main_v32 (F := Ideal)) := by
  funext j
  obtain ⟨b, p, q, rfl⟩ : ∃ (b : Fin 16) (p : Fin 768) (q : Fin 2048), j = ix3 b p q := ⟨_, _, _, eq_ix3 j⟩
  have ht : idx_main_v375 (ix3 b p q) = ix3 b q p := by
    funext a
    match a with
    | ⟨0, _⟩ => rfl
    | ⟨1, _⟩ => rfl
    | ⟨2, _⟩ => rfl
  refine Eq.trans (b := val_main_v169 x0 x1 x2 x3 x4 (ix4 b q ⟨p.val / 128, by omega⟩ ⟨p.val % 128, by omega⟩)) ?_
    (qa_at x0 x1 x2 x3 x4 _ _ _ _)
  rw [val_main_v375_apply, ht, val_main_v374_apply, at_v374]

theorem at_v376 (b : Fin 16) (i : Fin 2048) (c : Fin 256) :
    idx_main_v376 (ix3 b i c) = ix4 b i ⟨c.val / 128, by omega⟩ ⟨c.val % 128, by omega⟩ := by
  have hb := b.isLt
  have hi := i.isLt
  have hc := c.isLt
  funext a
  match a with
  | ⟨0, _⟩ => exact Fin.ext (by show ((b.val * 2048 + i.val) * 256 + c.val) / 524288 = b.val; omega)
  | ⟨1, _⟩ => exact Fin.ext (by show ((b.val * 2048 + i.val) * 256 + c.val) / 256 % 2048 = i.val; omega)
  | ⟨2, _⟩ => exact Fin.ext (by show ((b.val * 2048 + i.val) * 256 + c.val) / 128 % 2 = c.val / 128; omega)
  | ⟨3, _⟩ => exact Fin.ext (by show ((b.val * 2048 + i.val) * 256 + c.val) % 128 = c.val % 128; omega)

theorem ref4_eq : val_main_v377 x0 x1 x2 x3 x5 = res4 x0 x1 x2 x3 x5 (val_main_v29 (F := Ideal)) (val_main_v30 (F := Ideal)) (val_main_v31 (F := Ideal)) (val_main_v32 (F := Ideal)) := by
  funext j
  obtain ⟨b, p, q, rfl⟩ : ∃ (b : Fin 16) (p : Fin 2048) (q : Fin 256), j = ix3 b p q := ⟨_, _, _, eq_ix3 j⟩
  refine Eq.trans (b := val_main_v226 x0 x1 x2 x3 x5 (ix4 b p ⟨q.val / 128, by omega⟩ ⟨q.val % 128, by omega⟩)) ?_
    (ka_at x0 x1 x2 x3 x5 _ _ _ _)
  rw [val_main_v377_apply, val_main_v376_apply, at_v376]
  rfl

theorem ref5_eq : val_main_v379 x0 x1 x2 x3 = res5 x0 x1 x2 x3 := by
  funext j
  obtain ⟨b, p, q, rfl⟩ : ∃ (b : Fin 16) (p : Fin 256) (q : Fin 2048), j = ix3 b p q := ⟨_, _, _, eq_ix3 j⟩
  pointwise [val_main_v379, val_main_v378, val_main_v106]
  simp only [proj_at]
  rfl

theorem at_v380 (b : Fin 16) (i : Fin 2048) (c : Fin 1024) :
    idx_main_v380 (ix3 b i c) = ix4 b i ⟨c.val / 256, by omega⟩ ⟨c.val % 256, by omega⟩ := by
  have hb := b.isLt
  have hi := i.isLt
  have hc := c.isLt
  funext a
  match a with
  | ⟨0, _⟩ => exact Fin.ext (by show ((b.val * 2048 + i.val) * 1024 + c.val) / 2097152 = b.val; omega)
  | ⟨1, _⟩ => exact Fin.ext (by show ((b.val * 2048 + i.val) * 1024 + c.val) / 1024 % 2048 = i.val; omega)
  | ⟨2, _⟩ => exact Fin.ext (by show ((b.val * 2048 + i.val) * 1024 + c.val) / 256 % 4 = c.val / 256; omega)
  | ⟨3, _⟩ => exact Fin.ext (by show ((b.val * 2048 + i.val) * 1024 + c.val) % 256 = c.val % 256; omega)

theorem ref6_eq : val_main_v381 x0 x1 x2 x3 x6 x7 = res6 x0 x1 x2 x3 x6 x7 (val_main_v62 (F := Ideal)) (val_main_v63 (F := Ideal)) (val_main_v64 (F := Ideal)) (val_main_v65 (F := Ideal)) := by
  funext j
  obtain ⟨b, p, q, rfl⟩ : ∃ (b : Fin 16) (p : Fin 1024) (q : Fin 2048), j = ix3 b p q := ⟨_, _, _, eq_ix3 j⟩
  have ht : idx_main_v381 (ix3 b p q) = ix3 b q p := by
    funext a
    match a with
    | ⟨0, _⟩ => rfl
    | ⟨1, _⟩ => rfl
    | ⟨2, _⟩ => rfl
  refine Eq.trans (b := val_main_v351 x0 x1 x2 x3 x6 x7 (ix4 b q ⟨p.val / 256, by omega⟩ ⟨p.val % 256, by omega⟩)) ?_
    (qbh_at x0 x1 x2 x3 x6 x7 _ _ _ _)
  rw [val_main_v381_apply, ht, val_main_v380_apply, at_v380]

theorem at_v382 (b : Fin 16) (i : Fin 2048) (c : Fin 1024) :
    idx_main_v382 (ix3 b i c) = ix4 b i ⟨c.val / 256, by omega⟩ ⟨c.val % 256, by omega⟩ := by
  have hb := b.isLt
  have hi := i.isLt
  have hc := c.isLt
  funext a
  match a with
  | ⟨0, _⟩ => exact Fin.ext (by show ((b.val * 2048 + i.val) * 1024 + c.val) / 2097152 = b.val; omega)
  | ⟨1, _⟩ => exact Fin.ext (by show ((b.val * 2048 + i.val) * 1024 + c.val) / 1024 % 2048 = i.val; omega)
  | ⟨2, _⟩ => exact Fin.ext (by show ((b.val * 2048 + i.val) * 1024 + c.val) / 256 % 4 = c.val / 256; omega)
  | ⟨3, _⟩ => exact Fin.ext (by show ((b.val * 2048 + i.val) * 1024 + c.val) % 256 = c.val % 256; omega)

theorem ref7_eq : val_main_v383 x0 x1 x2 x3 x8 x9 = res7 x0 x1 x2 x3 x8 x9 (val_main_v62 (F := Ideal)) (val_main_v63 (F := Ideal)) (val_main_v64 (F := Ideal)) (val_main_v65 (F := Ideal)) := by
  funext j
  obtain ⟨b, p, q, rfl⟩ : ∃ (b : Fin 16) (p : Fin 2048) (q : Fin 1024), j = ix3 b p q := ⟨_, _, _, eq_ix3 j⟩
  refine Eq.trans (b := val_main_v354 x0 x1 x2 x3 x8 x9 (ix4 b p ⟨q.val / 256, by omega⟩ ⟨q.val % 256, by omega⟩)) ?_
    (kbh_at x0 x1 x2 x3 x8 x9 _ _ _ _)
  rw [val_main_v383_apply, val_main_v382_apply, at_v382]
  rfl

theorem ref8_eq : val_main_v386 x0 x1 x2 x3 x8 x9 = res8 x0 x1 x2 x3 x8 x9 := by
  funext j
  obtain ⟨b, p, q, rfl⟩ : ∃ (b : Fin 16) (p : Fin 512) (q : Fin 2048), j = ix3 b p q := ⟨_, _, _, eq_ix3 j⟩
  pointwise [val_main_v386, val_main_v385, val_main_v384, val_main_v355]
  simp only [kv_at]
  rfl

end Cert.Proof.PrepRef

end
-- ==== Proof.PrepAlg.lean ====
/- The projections before the mixers against its reference, from the same arguments. -/
module

public import proofs.«01_k».proof.Defs
public import proofs.«01_k».proof.Proof.PrepValue
public import proofs.«01_k».proof.Proof.PrepOut

@[expose] public section

set_option maxRecDepth 16384

noncomputable section

namespace Cert.Proof.Prep

open Idealize.ShloMosaic Idealize.SL.Sem

theorem algebraic : algebraic_PrepIdeal_PrepReferenceIdeal (hPrepIdeal := PrepIdeal.Gen.facts)
    (hPrepReferenceIdeal := PrepReferenceIdeal.Gen.facts) := by
  intro m g m' g' hpre hargs
  refine ⟨fun c => res0 (argX m c) (argM m c) (argG m c) (argW m c),
    fun c => res1 (argX m c) (argM m c) (argG m c) (argW m c),
    fun c => res2 (argX m c) (argM m c) (argG m c) (argW m c),
    fun c => res3 (argX m c) (argM m c) (argG m c) (argW m c) (argQg m c) tabAr tabAy tabAc tabAz,
    fun c => res4 (argX m c) (argM m c) (argG m c) (argW m c) (argKg m c) tabAr tabAy tabAc tabAz,
    fun c => res5 (argX m c) (argM m c) (argG m c) (argW m c),
    fun c => res6 (argX m c) (argM m c) (argG m c) (argW m c) (argMq m c) (argWq m c) tabBr tabBs tabBc tabBz,
    fun c => res7 (argX m c) (argM m c) (argG m c) (argW m c) (argMk m c) (argWk m c) tabBr tabBs tabBc tabBz,
    fun c => res8 (argX m c) (argM m c) (argG m c) (argW m c) (argMk m c) (argWk m c), ?_, ?_⟩
  · exact (θ_run _ _ _).mono (fun r h c => ⟨(h c).1.trans (final13 m c), (h c).2.1.trans (final14 m c), (h c).2.2.1.trans (final15 m c), (h c).2.2.2.1.trans (final16 m c), (h c).2.2.2.2.1.trans (final17 m c), (h c).2.2.2.2.2.1.trans (final18 m c), (h c).2.2.2.2.2.2.1.trans (final19 m c), (h c).2.2.2.2.2.2.2.1.trans (final20 m c), (h c).2.2.2.2.2.2.2.2.1.trans (final21 m c), (h c).2.2.2.2.2.2.2.2.2⟩)
      (PrepIdeal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (PrepReferenceIdeal.Value.run m' g')
    · obtain ⟨e0, e1, e2, e3, e4, e5, e6, e7, e8, e9⟩ := hargs c
      refine (PrepReferenceIdeal.Read.val_main_v371_eq (StableHlo.launchContents m' c)).trans ?_
      refine (PrepRef.ref0_eq _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      rw [a0, a1, a2, a3]
    · obtain ⟨e0, e1, e2, e3, e4, e5, e6, e7, e8, e9⟩ := hargs c
      refine (PrepReferenceIdeal.Read.val_main_v372_eq (StableHlo.launchContents m' c)).trans ?_
      refine (PrepRef.ref1_eq _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      rw [a0, a1, a2, a3]
    · obtain ⟨e0, e1, e2, e3, e4, e5, e6, e7, e8, e9⟩ := hargs c
      refine (PrepReferenceIdeal.Read.val_main_v373_eq (StableHlo.launchContents m' c)).trans ?_
      refine (PrepRef.ref2_eq _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      rw [a0, a1, a2, a3]
    · obtain ⟨e0, e1, e2, e3, e4, e5, e6, e7, e8, e9⟩ := hargs c
      refine (PrepReferenceIdeal.Read.val_main_v375_eq (StableHlo.launchContents m' c)).trans ?_
      refine (PrepRef.ref3_eq _ _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      have a4 : StableHlo.launchContents m' c (Proc.devRef .tc PrepReferenceIdeal.main_arg4) = argQg m c := e4
      rw [a0, a1, a2, a3, a4]
      rfl
    · obtain ⟨e0, e1, e2, e3, e4, e5, e6, e7, e8, e9⟩ := hargs c
      refine (PrepReferenceIdeal.Read.val_main_v377_eq (StableHlo.launchContents m' c)).trans ?_
      refine (PrepRef.ref4_eq _ _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      have a5 : StableHlo.launchContents m' c (Proc.devRef .tc PrepReferenceIdeal.main_arg5) = argKg m c := e5
      rw [a0, a1, a2, a3, a5]
      rfl
    · obtain ⟨e0, e1, e2, e3, e4, e5, e6, e7, e8, e9⟩ := hargs c
      refine (PrepReferenceIdeal.Read.val_main_v379_eq (StableHlo.launchContents m' c)).trans ?_
      refine (PrepRef.ref5_eq _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      rw [a0, a1, a2, a3]
    · obtain ⟨e0, e1, e2, e3, e4, e5, e6, e7, e8, e9⟩ := hargs c
      refine (PrepReferenceIdeal.Read.val_main_v381_eq (StableHlo.launchContents m' c)).trans ?_
      refine (PrepRef.ref6_eq _ _ _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      have a6 : StableHlo.launchContents m' c (Proc.devRef .tc PrepReferenceIdeal.main_arg6) = argMq m c := e6
      have a7 : StableHlo.launchContents m' c (Proc.devRef .tc PrepReferenceIdeal.main_arg7) = argWq m c := e7
      rw [a0, a1, a2, a3, a6, a7]
      rfl
    · obtain ⟨e0, e1, e2, e3, e4, e5, e6, e7, e8, e9⟩ := hargs c
      refine (PrepReferenceIdeal.Read.val_main_v383_eq (StableHlo.launchContents m' c)).trans ?_
      refine (PrepRef.ref7_eq _ _ _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      have a8 : StableHlo.launchContents m' c (Proc.devRef .tc PrepReferenceIdeal.main_arg8) = argMk m c := e8
      have a9 : StableHlo.launchContents m' c (Proc.devRef .tc PrepReferenceIdeal.main_arg9) = argWk m c := e9
      rw [a0, a1, a2, a3, a8, a9]
      rfl
    · obtain ⟨e0, e1, e2, e3, e4, e5, e6, e7, e8, e9⟩ := hargs c
      refine (PrepReferenceIdeal.Read.val_main_v386_eq (StableHlo.launchContents m' c)).trans ?_
      refine (PrepRef.ref8_eq _ _ _ _ _ _ ).trans ?_
      have a0 : StableHlo.launchContents m' c (Proc.devRef .tc PrepReferenceIdeal.main_arg0) = argX m c := e0
      have a1 : StableHlo.launchContents m' c (Proc.devRef .tc PrepReferenceIdeal.main_arg1) = argM m c := e1
      have a2 : StableHlo.launchContents m' c (Proc.devRef .tc PrepReferenceIdeal.main_arg2) = argG m c := e2
      have a3 : StableHlo.launchContents m' c (Proc.devRef .tc PrepReferenceIdeal.main_arg3) = argW m c := e3
      have a8 : StableHlo.launchContents m' c (Proc.devRef .tc PrepReferenceIdeal.main_arg8) = argMk m c := e8
      have a9 : StableHlo.launchContents m' c (Proc.devRef .tc PrepReferenceIdeal.main_arg9) = argWk m c := e9
      rw [a0, a1, a2, a3, a8, a9]

end Cert.Proof.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_gqa_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.ModulationReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Pre_mla_finite
public import proofs.«01_k».proof.Proof.AttnAlg
public import proofs.«01_k».proof.Proof.FfnAlg
public import proofs.«01_k».proof.Proof.MlaAlg
public import proofs.«01_k».proof.Proof.OutAlg
public import proofs.«01_k».proof.Proof.ModAlg
public import proofs.«01_k».proof.Proof.PrepAlg
public import Idealize.ShloMosaic.Lib.Quiescent

@[expose] public section

noncomputable section

namespace Cert.Proof

open Idealize.ShloMosaic Idealize.SL.Sem

/-- The attention reference runs, leaves its arguments and ends with every counter at zero: it declares none. -/
theorem attn_reference_frame : quiescent_ReferenceIdeal (hReferenceIdeal := ReferenceIdeal.Gen.facts) := fun m ρ _ =>
  (θ_run ReferenceIdeal.defs _ _).mono (fun r h => ⟨fun c => (h c).2, sem_eq_zero_of_no_sems (by decide) r.2⟩)
    (ReferenceIdeal.Value.run (F := Ideal) m ρ)

/-- The same of the feed-forward reference. -/
theorem ffn_reference_frame : quiescent_FfnReferenceIdeal (hFfnReferenceIdeal := FfnReferenceIdeal.Gen.facts) := fun m ρ _ =>
  (θ_run FfnReferenceIdeal.defs _ _).mono (fun r h => ⟨fun c => (h c).2, sem_eq_zero_of_no_sems (by decide) r.2⟩)
    (FfnReferenceIdeal.Value.run (F := Ideal) m ρ)

/-- The same of the latent attention's, the output projection's and the modulation's references. -/
theorem mla_reference_frame : quiescent_MlaReferenceIdeal (hMlaReferenceIdeal := MlaReferenceIdeal.Gen.facts) := fun m ρ _ =>
  (θ_run MlaReferenceIdeal.defs _ _).mono (fun r h => ⟨fun c => (h c).2, sem_eq_zero_of_no_sems (by decide) r.2⟩)
    (MlaReferenceIdeal.Value.run (F := Ideal) m ρ)

theorem out_reference_frame : quiescent_OutReferenceIdeal (hOutReferenceIdeal := OutReferenceIdeal.Gen.facts) := fun m ρ _ =>
  (θ_run OutReferenceIdeal.defs _ _).mono (fun r h => ⟨fun c => (h c).2.2, sem_eq_zero_of_no_sems (by decide) r.2⟩)
    (OutReferenceIdeal.Value.run (F := Ideal) m ρ)

theorem modulation_reference_frame :
    quiescent_ModulationReferenceIdeal (hModulationReferenceIdeal := ModulationReferenceIdeal.Gen.facts) := fun m ρ _ =>
  (θ_run ModulationReferenceIdeal.defs _ _).mono (fun r h => ⟨fun c => (h c).2, sem_eq_zero_of_no_sems (by decide) r.2⟩)
    (ModulationReferenceIdeal.Value.run (F := Ideal) m ρ)

/-- The same of the reference of the projections before the mixers. -/
theorem prep_reference_frame : quiescent_PrepReferenceIdeal (hPrepReferenceIdeal := PrepReferenceIdeal.Gen.facts) := fun m ρ _ =>
  (θ_run PrepReferenceIdeal.defs _ _).mono
    (fun r h => ⟨fun c => (h c).2.2.2.2.2.2.2.2.2, sem_eq_zero_of_no_sems (by decide) r.2⟩)
    (PrepReferenceIdeal.Value.run (F := Ideal) m ρ)

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Mla.Gen.facts, Cert.MlaIdeal.Gen.facts, Cert.MlaReferenceIdeal.Gen.facts,
    Cert.Out.Gen.facts, Cert.OutIdeal.Gen.facts, Cert.OutReferenceIdeal.Gen.facts,
    Cert.Modulation.Gen.facts, Cert.ModulationIdeal.Gen.facts, Cert.ModulationReferenceIdeal.Gen.facts,
    Cert.Prep.Gen.facts, Cert.PrepIdeal.Gen.facts, Cert.PrepReferenceIdeal.Gen.facts,
    Cert.Pre_gqa_finite.Gen.facts, Cert.Pre_ffn_finite.Gen.facts, Cert.Pre_mla_finite.Gen.facts,
    fun m ρ _ => Cert.Kernel.Gen.frame m ρ,
    fun m ρ _ => Cert.KernelIdeal.Gen.frame m ρ,
    fun m ρ _ => Cert.KernelIdeal.Gen.frame m ρ,
    fun m ρ _ => attn_reference_frame m ρ trivial,
    fun m ρ _ => attn_reference_frame m ρ trivial,
    fun m ρ _ => Cert.Ffn.Gen.frame m ρ,
    fun m ρ _ => Cert.FfnIdeal.Gen.frame m ρ,
    fun m ρ _ => Cert.FfnIdeal.Gen.frame m ρ,
    fun m ρ _ => ffn_reference_frame m ρ trivial,
    fun m ρ _ => ffn_reference_frame m ρ trivial,
    fun m ρ _ => Cert.Mla.Gen.frame m ρ,
    fun m ρ _ => Cert.MlaIdeal.Gen.frame m ρ,
    fun m ρ _ => Cert.MlaIdeal.Gen.frame m ρ,
    fun m ρ _ => mla_reference_frame m ρ trivial,
    fun m ρ _ => mla_reference_frame m ρ trivial,
    fun m ρ _ => Cert.Out.Gen.frame m ρ,
    fun m ρ _ => Cert.OutIdeal.Gen.frame m ρ,
    out_reference_frame,
    fun m ρ _ => Cert.Modulation.Gen.frame m ρ,
    fun m ρ _ => Cert.ModulationIdeal.Gen.frame m ρ,
    modulation_reference_frame,
    fun m ρ _ => Cert.Prep.Gen.frame m ρ,
    fun m ρ _ => Cert.PrepIdeal.Gen.frame m ρ,
    prep_reference_frame,
    IdealRules.named_const.statement Cert.KernelIdeal.κ "qscale" .f32 0x3E0293EE#32 _ rfl,
    Attn.algebraic,
    trivial,
    Ffn.algebraic,
    IdealRules.named_const.statement Cert.MlaIdeal.κ "mscale" .f32 0x3DD53B95#32 _ rfl,
    Mla.algebraic,
    trivial,
    Out.algebraic,
    trivial,
    Mod.algebraic,
    trivial,
    Prep.algebraic⟩

end Cert.Proof

end
